-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S32 : Shape := ⟨1, ![32]⟩
abbrev S_ : Shape := ⟨0, ![]⟩
abbrev S1 : Shape := ⟨1, ![1]⟩
abbrev S3 : Shape := ⟨1, ![3]⟩
abbrev S8192x4096 : Shape := ⟨2, ![8192, 4096]⟩
abbrev S256x2048 : Shape := ⟨2, ![256, 2048]⟩
abbrev S2x256x2048 : Shape := ⟨3, ![2, 256, 2048]⟩
abbrev S4 : Shape := ⟨1, ![4]⟩
abbrev S2 : Shape := ⟨1, ![2]⟩
abbrev S256x256 : Shape := ⟨2, ![256, 256]⟩
abbrev S1x256x1024 : Shape := ⟨3, ![1, 256, 1024]⟩
abbrev S256x1024 : Shape := ⟨2, ![256, 1024]⟩

abbrev nBuf : Space → Nat
  | .hbm => 74
  | .vmem => 8
  | .smem => 1
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S3, .i32⟩
  | .hbm, ⟨73, _⟩ => ⟨S8192x4096, .f32⟩
  | .local _ .vmem, ⟨0, _⟩ => ⟨S8192x256, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2x256x2048, .f32⟩
  | .local _ .vmem, ⟨7, _⟩ => ⟨S2x256x2048, .f32⟩
  | .local _ .smem, ⟨0, _⟩ => ⟨S3, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 3 21 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c256_i32 : BitVec 32 := 256#32
  let v8 : BitVec 32 := Scalar.muli v0 c256_i32
  let v9 : Index := Scalar.indexCast v8
  let c0_4 : Index := 0#32
  ![v9.toNat, 0]

def k0_dev3 (v2 : BitVec 32) : Nat :=
  let c0_i32_19 : BitVec 32 := 0#32
  let c1_i32_18 : BitVec 32 := 1#32
  let v28 : BitVec 32 := Scalar.muli v2 c1_i32_18
  let v29 : BitVec 32 := Scalar.addi c0_i32_19 v28
  v29.toNat
def k0_dev4 (v1 : BitVec 32) : Nat :=
  let c0_i32_28 : BitVec 32 := 0#32
  let c1_i32_27 : BitVec 32 := 1#32
  let v37 : BitVec 32 := Scalar.muli v1 c1_i32_27
  let v38 : BitVec 32 := Scalar.addi c0_i32_28 v37
  v38.toNat
def k0_dev5 (v2 : BitVec 32) : Nat :=
  let c0_i32_37 : BitVec 32 := 0#32
  let c1_i32_36 : BitVec 32 := 1#32
  let v46 : BitVec 32 := Scalar.muli v2 c1_i32_36
  let v47 : BitVec 32 := Scalar.addi c0_i32_37 v46
  v47.toNat
def k0_dev6 (v1 : BitVec 32) : Nat :=
  let c0_i32_45 : BitVec 32 := 0#32
  let c1_i32_44 : BitVec 32 := 1#32
  let v55 : BitVec 32 := Scalar.muli v1 c1_i32_44
  let v56 : BitVec 32 := Scalar.addi c0_i32_45 v55
  v56.toNat
def k0_off2 (v0 : BitVec 32) : Fin 2 → Nat :=
  let c1_i32_50 : BitVec 32 := 1#32
  let v64 : BitVec 32 := Scalar.subi v0 c1_i32_50
  let c32_i32 : BitVec 32 := 32#32
  let c0_i32_51 : BitVec 32 := 0#32
  let v65 : BitVec 1 := Scalar.cmpi .eq c32_i32 c0_i32_51
  let c1_i32_52 : BitVec 32 := 1#32
  let v66 : BitVec 32 := Scalar.select v65 c1_i32_52 c32_i32
  let v67 : BitVec 32 := Scalar.remsi v64 v66
  let c0_i32_54 : BitVec 32 := 0#32
  let v69 : BitVec 1 := Scalar.cmpi .slt v67 c0_i32_54
  let c0_i32_55 : BitVec 32 := 0#32
  let v70 : BitVec 1 := Scalar.cmpi .slt v66 c0_i32_55
  let v71 : BitVec 1 := Scalar.xori v69 v70
  let c0_i32_53 : BitVec 32 := 0#32
  let v68 : BitVec 1 := Scalar.cmpi .ne v67 c0_i32_53
  let v72 : BitVec 1 := Scalar.andi v71 v68
  let v73 : BitVec 32 := Scalar.addi v67 v66
  let v74 : BitVec 32 := Scalar.select v72 v73 v67
  let c256_i32_56 : BitVec 32 := 256#32
  let v75 : BitVec 32 := Scalar.muli v74 c256_i32_56
  let v76 : Index := Scalar.indexCast v75
  let c0_57 : Index := 0#32
  ![v76.toNat, 0]
def k0_off3 (v0 : BitVec 32) : Fin 2 → Nat :=
  let c1_i32_63 : BitVec 32 := 1#32
  let v85 : BitVec 32 := Scalar.addi v0 c1_i32_63
  let c32_i32_64 : BitVec 32 := 32#32
  let c0_i32_65 : BitVec 32 := 0#32
  let v86 : BitVec 1 := Scalar.cmpi .eq c32_i32_64 c0_i32_65
  let c1_i32_66 : BitVec 32 := 1#32
  let v87 : BitVec 32 := Scalar.select v86 c1_i32_66 c32_i32_64
  let v88 : BitVec 32 := Scalar.remsi v85 v87
  let c0_i32_68 : BitVec 32 := 0#32
  let v90 : BitVec 1 := Scalar.cmpi .slt v88 c0_i32_68
  let c0_i32_69 : BitVec 32 := 0#32
  let v91 : BitVec 1 := Scalar.cmpi .slt v87 c0_i32_69
  let v92 : BitVec 1 := Scalar.xori v90 v91
  let c0_i32_67 : BitVec 32 := 0#32
  let v89 : BitVec 1 := Scalar.cmpi .ne v88 c0_i32_67
  let v93 : BitVec 1 := Scalar.andi v92 v89
  let v94 : BitVec 32 := Scalar.addi v88 v87
  let v95 : BitVec 32 := Scalar.select v93 v94 v88
  let c256_i32_70 : BitVec 32 := 256#32
  let v96 : BitVec 32 := Scalar.muli v95 c256_i32_70
  let v97 : Index := Scalar.indexCast v96
  let c0_71 : Index := 0#32
  ![v97.toNat, 0]
def k0_dev7 (v2 : BitVec 32) : Nat :=
  let c0_i32_105 : BitVec 32 := 0#32
  let c1_i32_104 : BitVec 32 := 1#32
  let v125 : BitVec 32 := Scalar.muli v2 c1_i32_104
  let v126 : BitVec 32 := Scalar.addi c0_i32_105 v125
  v126.toNat
def k0_dev8 (v1 : BitVec 32) : Nat :=
  let c0_i32_138 : BitVec 32 := 0#32
  let c1_i32_137 : BitVec 32 := 1#32
  let v153 : BitVec 32 := Scalar.muli v1 c1_i32_137
  let v154 : BitVec 32 := Scalar.addi c0_i32_138 v153
  v154.toNat
def k0_dev9 (v2 : BitVec 32) : Nat :=
  let c0_i32_169 : BitVec 32 := 0#32
  let c1_i32_168 : BitVec 32 := 1#32
  let v181 : BitVec 32 := Scalar.muli v2 c1_i32_168
  let v182 : BitVec 32 := Scalar.addi c0_i32_169 v181
  v182.toNat
def k0_dev10 (v1 : BitVec 32) : Nat :=
  let c0_i32_202 : BitVec 32 := 0#32
  let c1_i32_201 : BitVec 32 := 1#32
  let v209 : BitVec 32 := Scalar.muli v1 c1_i32_201
  let v210 : BitVec 32 := Scalar.addi c0_i32_202 v209
  v210.toNat
def k0_off4 (v0 : BitVec 32) (c0_i32_207 : BitVec 32) : Fin 2 → Nat :=
  let v218 : BitVec 32 := Scalar.subi v0 c0_i32_207
  let c2_i32_208 : BitVec 32 := 2#32
  let v219 : BitVec 32 := Scalar.subi v218 c2_i32_208
  let c32_i32_209 : BitVec 32 := 32#32
  let c0_i32_210 : BitVec 32 := 0#32
  let v220 : BitVec 1 := Scalar.cmpi .eq c32_i32_209 c0_i32_210
  let c1_i32_211 : BitVec 32 := 1#32
  let v221 : BitVec 32 := Scalar.select v220 c1_i32_211 c32_i32_209
  let v222 : BitVec 32 := Scalar.remsi v219 v221
  let c0_i32_213 : BitVec 32 := 0#32
  let v224 : BitVec 1 := Scalar.cmpi .slt v222 c0_i32_213
  let c0_i32_214 : BitVec 32 := 0#32
  let v225 : BitVec 1 := Scalar.cmpi .slt v221 c0_i32_214
  let v226 : BitVec 1 := Scalar.xori v224 v225
  let c0_i32_212 : BitVec 32 := 0#32
  let v223 : BitVec 1 := Scalar.cmpi .ne v222 c0_i32_212
  let v227 : BitVec 1 := Scalar.andi v226 v223
  let v228 : BitVec 32 := Scalar.addi v222 v221
  let v229 : BitVec 32 := Scalar.select v227 v228 v222
  let c256_i32_215 : BitVec 32 := 256#32
  let v230 : BitVec 32 := Scalar.muli v229 c256_i32_215
  let v231 : Index := Scalar.indexCast v230
  let c0_216 : Index := 0#32
  ![v231.toNat, 0]
def k0_off5 (v0 : BitVec 32) (c0_i32_222 : BitVec 32) : Fin 2 → Nat :=
  let v240 : BitVec 32 := Scalar.addi v0 c0_i32_222
  let c2_i32_223 : BitVec 32 := 2#32
  let v241 : BitVec 32 := Scalar.addi v240 c2_i32_223
  let c32_i32_224 : BitVec 32 := 32#32
  let c0_i32_225 : BitVec 32 := 0#32
  let v242 : BitVec 1 := Scalar.cmpi .eq c32_i32_224 c0_i32_225
  let c1_i32_226 : BitVec 32 := 1#32
  let v243 : BitVec 32 := Scalar.select v242 c1_i32_226 c32_i32_224
  let v244 : BitVec 32 := Scalar.remsi v241 v243
  let c0_i32_228 : BitVec 32 := 0#32
  let v246 : BitVec 1 := Scalar.cmpi .slt v244 c0_i32_228
  let c0_i32_229 : BitVec 32 := 0#32
  let v247 : BitVec 1 := Scalar.cmpi .slt v243 c0_i32_229
  let v248 : BitVec 1 := Scalar.xori v246 v247
  let c0_i32_227 : BitVec 32 := 0#32
  let v245 : BitVec 1 := Scalar.cmpi .ne v244 c0_i32_227
  let v249 : BitVec 1 := Scalar.andi v248 v245
  let v250 : BitVec 32 := Scalar.addi v244 v243
  let v251 : BitVec 32 := Scalar.select v249 v250 v244
  let c256_i32_230 : BitVec 32 := 256#32
  let v252 : BitVec 32 := Scalar.muli v251 c256_i32_230
  let v253 : Index := Scalar.indexCast v252
  let c0_231 : Index := 0#32
  ![v253.toNat, 0]
def k0_dev11 (v1 : BitVec 32) : Nat :=
  let c0_i32_239 : BitVec 32 := 0#32
  let c1_i32_238 : BitVec 32 := 1#32
  let v262 : BitVec 32 := Scalar.muli v1 c1_i32_238
  let v263 : BitVec 32 := Scalar.addi c0_i32_239 v262
  v263.toNat
def k0_dev12 (v2 : BitVec 32) : Nat :=
  let c0_i32_242 : BitVec 32 := 0#32
  let c1_i32_241 : BitVec 32 := 1#32
  let v264 : BitVec 32 := Scalar.muli v2 c1_i32_241
  let v265 : BitVec 32 := Scalar.addi c0_i32_242 v264
  v265.toNat
@[reducible] def k0_t1_loop : Scf.Loop 32 :=
  let c0_i32_243 : BitVec 32 := 0#32
  let c14_i32 : BitVec 32 := 14#32
  let v266 : BitVec 32 := Scalar.addi c0_i32_243 c14_i32
  let c1_i32_244 : BitVec 32 := 1#32
  ⟨c0_i32_243, v266, c1_i32_244⟩
def k0_dev13 (v2 : BitVec 32) : Nat :=
  let c0_i32_1042 : BitVec 32 := 0#32
  let c1_i32_1041 : BitVec 32 := 1#32
  let v1105 : BitVec 32 := Scalar.muli v2 c1_i32_1041
  let v1106 : BitVec 32 := Scalar.addi c0_i32_1042 v1105
  v1106.toNat
def k0_dev14 (v1 : BitVec 32) : Nat :=
  let c0_i32_1077 : BitVec 32 := 0#32
  let c1_i32_1076 : BitVec 32 := 1#32
  let v1133 : BitVec 32 := Scalar.muli v1 c1_i32_1076
  let v1134 : BitVec 32 := Scalar.addi c0_i32_1077 v1133
  v1134.toNat
def k0_dev15 (v2 : BitVec 32) : Nat :=
  let c0_i32_1110 : BitVec 32 := 0#32
  let c1_i32_1109 : BitVec 32 := 1#32
  let v1161 : BitVec 32 := Scalar.muli v2 c1_i32_1109
  let v1162 : BitVec 32 := Scalar.addi c0_i32_1110 v1161
  v1162.toNat
def k0_dev16 (v1 : BitVec 32) : Nat :=
  let c0_i32_1143 : BitVec 32 := 0#32
  let c1_i32_1142 : BitVec 32 := 1#32
  let v1189 : BitVec 32 := Scalar.muli v1 c1_i32_1142
  let v1190 : BitVec 32 := Scalar.addi c0_i32_1143 v1189
  v1190.toNat
def k0_off6 (v0 : BitVec 32) (k0_t1 : Fin k0_t1_loop.trips) : Fin 2 → Nat :=
  let c2_i32_1010 : BitVec 32 := 2#32
  let c0_i32_243 : BitVec 32 := 0#32
  let c1_i32_244 : BitVec 32 := 1#32
  let arg17 : BitVec 32 := Scf.iv c0_i32_243 c1_i32_244 k0_t1
  let v1084 : BitVec 32 := Scalar.muli c2_i32_1010 arg17
  let c1_i32_1011 : BitVec 32 := 1#32
  let v1085 : BitVec 32 := Scalar.addi v1084 c1_i32_1011
  let v1198 : BitVec 32 := Scalar.subi v0 v1085
  let c2_i32_1148 : BitVec 32 := 2#32
  let v1199 : BitVec 32 := Scalar.subi v1198 c2_i32_1148
  let c32_i32_1149 : BitVec 32 := 32#32
  let c0_i32_1150 : BitVec 32 := 0#32
  let v1200 : BitVec 1 := Scalar.cmpi .eq c32_i32_1149 c0_i32_1150
  let c1_i32_1151 : BitVec 32 := 1#32
  let v1201 : BitVec 32 := Scalar.select v1200 c1_i32_1151 c32_i32_1149
  let v1202 : BitVec 32 := Scalar.remsi v1199 v1201
  let c0_i32_1153 : BitVec 32 := 0#32
  let v1204 : BitVec 1 := Scalar.cmpi .slt v1202 c0_i32_1153
  let c0_i32_1154 : BitVec 32 := 0#32
  let v1205 : BitVec 1 := Scalar.cmpi .slt v1201 c0_i32_1154
  let v1206 : BitVec 1 := Scalar.xori v1204 v1205
  let c0_i32_1152 : BitVec 32 := 0#32
  let v1203 : BitVec 1 := Scalar.cmpi .ne v1202 c0_i32_1152
  let v1207 : BitVec 1 := Scalar.andi v1206 v1203
  let v1208 : BitVec 32 := Scalar.addi v1202 v1201
  let v1209 : BitVec 32 := Scalar.select v1207 v1208 v1202
  let c256_i32_1155 : BitVec 32 := 256#32
  let v1210 : BitVec 32 := Scalar.muli v1209 c256_i32_1155
  let v1211 : Index := Scalar.indexCast v1210
  let c0_1156 : Index := 0#32
  ![v1211.toNat, 0]
def k0_off7 (v0 : BitVec 32) (k0_t1 : Fin k0_t1_loop.trips) : Fin 2 → Nat :=
  let c2_i32_1010 : BitVec 32 := 2#32
  let c0_i32_243 : BitVec 32 := 0#32
  let c1_i32_244 : BitVec 32 := 1#32
  let arg17 : BitVec 32 := Scf.iv c0_i32_243 c1_i32_244 k0_t1
  let v1084 : BitVec 32 := Scalar.muli c2_i32_1010 arg17
  let c1_i32_1011 : BitVec 32 := 1#32
  let v1085 : BitVec 32 := Scalar.addi v1084 c1_i32_1011
  let v1220 : BitVec 32 := Scalar.addi v0 v1085
  let c2_i32_1162 : BitVec 32 := 2#32
  let v1221 : BitVec 32 := Scalar.addi v1220 c2_i32_1162
  let c32_i32_1163 : BitVec 32 := 32#32
  let c0_i32_1164 : BitVec 32 := 0#32
  let v1222 : BitVec 1 := Scalar.cmpi .eq c32_i32_1163 c0_i32_1164
  let c1_i32_1165 : BitVec 32 := 1#32
  let v1223 : BitVec 32 := Scalar.select v1222 c1_i32_1165 c32_i32_1163
  let v1224 : BitVec 32 := Scalar.remsi v1221 v1223
  let c0_i32_1167 : BitVec 32 := 0#32
  let v1226 : BitVec 1 := Scalar.cmpi .slt v1224 c0_i32_1167
  let c0_i32_1168 : BitVec 32 := 0#32
  let v1227 : BitVec 1 := Scalar.cmpi .slt v1223 c0_i32_1168
  let v1228 : BitVec 1 := Scalar.xori v1226 v1227
  let c0_i32_1166 : BitVec 32 := 0#32
  let v1225 : BitVec 1 := Scalar.cmpi .ne v1224 c0_i32_1166
  let v1229 : BitVec 1 := Scalar.andi v1228 v1225
  let v1230 : BitVec 32 := Scalar.addi v1224 v1223
  let v1231 : BitVec 32 := Scalar.select v1229 v1230 v1224
  let c256_i32_1169 : BitVec 32 := 256#32
  let v1232 : BitVec 32 := Scalar.muli v1231 c256_i32_1169
  let v1233 : Index := Scalar.indexCast v1232
  let c0_1170 : Index := 0#32
  ![v1233.toNat, 0]
def k0_dev17 (v1 : BitVec 32) : Nat :=
  let c0_i32_1178 : BitVec 32 := 0#32
  let c1_i32_1177 : BitVec 32 := 1#32
  let v1242 : BitVec 32 := Scalar.muli v1 c1_i32_1177
  let v1243 : BitVec 32 := Scalar.addi c0_i32_1178 v1242
  v1243.toNat
def k0_dev18 (v2 : BitVec 32) : Nat :=
  let c0_i32_1181 : BitVec 32 := 0#32
  let c1_i32_1180 : BitVec 32 := 1#32
  let v1244 : BitVec 32 := Scalar.muli v2 c1_i32_1180
  let v1245 : BitVec 32 := Scalar.addi c0_i32_1181 v1244
  v1245.toNat
def k0_dev19 (v2 : BitVec 32) : Nat :=
  let c0_i32_1213 : BitVec 32 := 0#32
  let c1_i32_1212 : BitVec 32 := 1#32
  let v1266 : BitVec 32 := Scalar.muli v2 c1_i32_1212
  let v1267 : BitVec 32 := Scalar.addi c0_i32_1213 v1266
  v1267.toNat
def k0_dev20 (v1 : BitVec 32) : Nat :=
  let c0_i32_1248 : BitVec 32 := 0#32
  let c1_i32_1247 : BitVec 32 := 1#32
  let v1294 : BitVec 32 := Scalar.muli v1 c1_i32_1247
  let v1295 : BitVec 32 := Scalar.addi c0_i32_1248 v1294
  v1295.toNat
def k0_dev21 (v2 : BitVec 32) : Nat :=
  let c0_i32_1281 : BitVec 32 := 0#32
  let c1_i32_1280 : BitVec 32 := 1#32
  let v1322 : BitVec 32 := Scalar.muli v2 c1_i32_1280
  let v1323 : BitVec 32 := Scalar.addi c0_i32_1281 v1322
  v1323.toNat
def k0_dev22 (v1 : BitVec 32) : Nat :=
  let c0_i32_1314 : BitVec 32 := 0#32
  let c1_i32_1313 : BitVec 32 := 1#32
  let v1350 : BitVec 32 := Scalar.muli v1 c1_i32_1313
  let v1351 : BitVec 32 := Scalar.addi c0_i32_1314 v1350
  v1351.toNat
def k0_off8 (v0 : BitVec 32) (k0_t1 : Fin k0_t1_loop.trips) : Fin 2 → Nat :=
  let c2_i32_1010 : BitVec 32 := 2#32
  let c0_i32_243 : BitVec 32 := 0#32
  let c1_i32_244 : BitVec 32 := 1#32
  let arg17 : BitVec 32 := Scf.iv c0_i32_243 c1_i32_244 k0_t1
  let v1084 : BitVec 32 := Scalar.muli c2_i32_1010 arg17
  let c1_i32_1011 : BitVec 32 := 1#32
  let v1085 : BitVec 32 := Scalar.addi v1084 c1_i32_1011
  let c1_i32_1182 : BitVec 32 := 1#32
  let v1246 : BitVec 32 := Scalar.addi v1085 c1_i32_1182
  let v1359 : BitVec 32 := Scalar.subi v0 v1246
  let c2_i32_1319 : BitVec 32 := 2#32
  let v1360 : BitVec 32 := Scalar.subi v1359 c2_i32_1319
  let c32_i32_1320 : BitVec 32 := 32#32
  let c0_i32_1321 : BitVec 32 := 0#32
  let v1361 : BitVec 1 := Scalar.cmpi .eq c32_i32_1320 c0_i32_1321
  let c1_i32_1322 : BitVec 32 := 1#32
  let v1362 : BitVec 32 := Scalar.select v1361 c1_i32_1322 c32_i32_1320
  let v1363 : BitVec 32 := Scalar.remsi v1360 v1362
  let c0_i32_1324 : BitVec 32 := 0#32
  let v1365 : BitVec 1 := Scalar.cmpi .slt v1363 c0_i32_1324
  let c0_i32_1325 : BitVec 32 := 0#32
  let v1366 : BitVec 1 := Scalar.cmpi .slt v1362 c0_i32_1325
  let v1367 : BitVec 1 := Scalar.xori v1365 v1366
  let c0_i32_1323 : BitVec 32 := 0#32
  let v1364 : BitVec 1 := Scalar.cmpi .ne v1363 c0_i32_1323
  let v1368 : BitVec 1 := Scalar.andi v1367 v1364
  let v1369 : BitVec 32 := Scalar.addi v1363 v1362
  let v1370 : BitVec 32 := Scalar.select v1368 v1369 v1363
  let c256_i32_1326 : BitVec 32 := 256#32
  let v1371 : BitVec 32 := Scalar.muli v1370 c256_i32_1326
  let v1372 : Index := Scalar.indexCast v1371
  let c0_1327 : Index := 0#32
  ![v1372.toNat, 0]
def k0_off9 (v0 : BitVec 32) (k0_t1 : Fin k0_t1_loop.trips) : Fin 2 → Nat :=
  let c2_i32_1010 : BitVec 32 := 2#32
  let c0_i32_243 : BitVec 32 := 0#32
  let c1_i32_244 : BitVec 32 := 1#32
  let arg17 : BitVec 32 := Scf.iv c0_i32_243 c1_i32_244 k0_t1
  let v1084 : BitVec 32 := Scalar.muli c2_i32_1010 arg17
  let c1_i32_1011 : BitVec 32 := 1#32
  let v1085 : BitVec 32 := Scalar.addi v1084 c1_i32_1011
  let c1_i32_1182 : BitVec 32 := 1#32
  let v1246 : BitVec 32 := Scalar.addi v1085 c1_i32_1182
  let v1381 : BitVec 32 := Scalar.addi v0 v1246
  let c2_i32_1333 : BitVec 32 := 2#32
  let v1382 : BitVec 32 := Scalar.addi v1381 c2_i32_1333
  let c32_i32_1334 : BitVec 32 := 32#32
  let c0_i32_1335 : BitVec 32 := 0#32
  let v1383 : BitVec 1 := Scalar.cmpi .eq c32_i32_1334 c0_i32_1335
  let c1_i32_1336 : BitVec 32 := 1#32
  let v1384 : BitVec 32 := Scalar.select v1383 c1_i32_1336 c32_i32_1334
  let v1385 : BitVec 32 := Scalar.remsi v1382 v1384
  let c0_i32_1338 : BitVec 32 := 0#32
  let v1387 : BitVec 1 := Scalar.cmpi .slt v1385 c0_i32_1338
  let c0_i32_1339 : BitVec 32 := 0#32
  let v1388 : BitVec 1 := Scalar.cmpi .slt v1384 c0_i32_1339
  let v1389 : BitVec 1 := Scalar.xori v1387 v1388
  let c0_i32_1337 : BitVec 32 := 0#32
  let v1386 : BitVec 1 := Scalar.cmpi .ne v1385 c0_i32_1337
  let v1390 : BitVec 1 := Scalar.andi v1389 v1386
  let v1391 : BitVec 32 := Scalar.addi v1385 v1384
  let v1392 : BitVec 32 := Scalar.select v1390 v1391 v1385
  let c256_i32_1340 : BitVec 32 := 256#32
  let v1393 : BitVec 32 := Scalar.muli v1392 c256_i32_1340
  let v1394 : Index := Scalar.indexCast v1393
  let c0_1341 : Index := 0#32
  ![v1394.toNat, 0]
def k0_dev23 (v1 : BitVec 32) : Nat :=
  let c0_i32_1349 : BitVec 32 := 0#32
  let c1_i32_1348 : BitVec 32 := 1#32
  let v1403 : BitVec 32 := Scalar.muli v1 c1_i32_1348
  let v1404 : BitVec 32 := Scalar.addi c0_i32_1349 v1403
  v1404.toNat
def k0_dev24 (v2 : BitVec 32) : Nat :=
  let c0_i32_1352 : BitVec 32 := 0#32
  let c1_i32_1351 : BitVec 32 := 1#32
  let v1405 : BitVec 32 := Scalar.muli v2 c1_i32_1351
  let v1406 : BitVec 32 := Scalar.addi c0_i32_1352 v1405
  v1406.toNat
def k0_dev25 (v2 : BitVec 32) : Nat :=
  let c0_i32_276 : BitVec 32 := 0#32
  let c1_i32_275 : BitVec 32 := 1#32
  let v286 : BitVec 32 := Scalar.muli v2 c1_i32_275
  let v287 : BitVec 32 := Scalar.addi c0_i32_276 v286
  v287.toNat
def k0_dev26 (v1 : BitVec 32) : Nat :=
  let c0_i32_311 : BitVec 32 := 0#32
  let c1_i32_310 : BitVec 32 := 1#32
  let v314 : BitVec 32 := Scalar.muli v1 c1_i32_310
  let v315 : BitVec 32 := Scalar.addi c0_i32_311 v314
  v315.toNat
def k0_dev27 (v2 : BitVec 32) : Nat :=
  let c0_i32_344 : BitVec 32 := 0#32
  let c1_i32_343 : BitVec 32 := 1#32
  let v342 : BitVec 32 := Scalar.muli v2 c1_i32_343
  let v343 : BitVec 32 := Scalar.addi c0_i32_344 v342
  v343.toNat
def k0_dev28 (v1 : BitVec 32) : Nat :=
  let c0_i32_377 : BitVec 32 := 0#32
  let c1_i32_376 : BitVec 32 := 1#32
  let v370 : BitVec 32 := Scalar.muli v1 c1_i32_376
  let v371 : BitVec 32 := Scalar.addi c0_i32_377 v370
  v371.toNat
def k0_dev29 (v1 : BitVec 32) : Nat :=
  let c0_i32_413 : BitVec 32 := 0#32
  let c1_i32_412 : BitVec 32 := 1#32
  let v423 : BitVec 32 := Scalar.muli v1 c1_i32_412
  let v424 : BitVec 32 := Scalar.addi c0_i32_413 v423
  v424.toNat
def k0_dev30 (v2 : BitVec 32) : Nat :=
  let c0_i32_416 : BitVec 32 := 0#32
  let c1_i32_415 : BitVec 32 := 1#32
  let v425 : BitVec 32 := Scalar.muli v2 c1_i32_415
  let v426 : BitVec 32 := Scalar.addi c0_i32_416 v425
  v426.toNat
def k0_dev31 (v1 : BitVec 32) : Nat :=
  let c0_i32_515 : BitVec 32 := 0#32
  let c1_i32_514 : BitVec 32 := 1#32
  let v503 : BitVec 32 := Scalar.muli v1 c1_i32_514
  let v504 : BitVec 32 := Scalar.addi c0_i32_515 v503
  v504.toNat
def k0_dev32 (v2 : BitVec 32) : Nat :=
  let c0_i32_518 : BitVec 32 := 0#32
  let c1_i32_517 : BitVec 32 := 1#32
  let v505 : BitVec 32 := Scalar.muli v2 c1_i32_517
  let v506 : BitVec 32 := Scalar.addi c0_i32_518 v505
  v506.toNat
def k0_off10 (v0 : BitVec 32) : Fin 2 → Nat :=
  let c1_i32_519 : BitVec 32 := 1#32
  let v507 : BitVec 32 := Scalar.addi v0 c1_i32_519
  let c32_i32_520 : BitVec 32 := 32#32
  let c0_i32_521 : BitVec 32 := 0#32
  let v508 : BitVec 1 := Scalar.cmpi .eq c32_i32_520 c0_i32_521
  let c1_i32_522 : BitVec 32 := 1#32
  let v509 : BitVec 32 := Scalar.select v508 c1_i32_522 c32_i32_520
  let v510 : BitVec 32 := Scalar.remsi v507 v509
  let c0_i32_524 : BitVec 32 := 0#32
  let v512 : BitVec 1 := Scalar.cmpi .slt v510 c0_i32_524
  let c0_i32_525 : BitVec 32 := 0#32
  let v513 : BitVec 1 := Scalar.cmpi .slt v509 c0_i32_525
  let v514 : BitVec 1 := Scalar.xori v512 v513
  let c0_i32_523 : BitVec 32 := 0#32
  let v511 : BitVec 1 := Scalar.cmpi .ne v510 c0_i32_523
  let v515 : BitVec 1 := Scalar.andi v514 v511
  let v516 : BitVec 32 := Scalar.addi v510 v509
  let v517 : BitVec 32 := Scalar.select v515 v516 v510
  let c256_i32_526 : BitVec 32 := 256#32
  let v518 : BitVec 32 := Scalar.muli v517 c256_i32_526
  let c0_i32_536 : BitVec 32 := 0#32
  ![v518.toNat, 0]
def k0_off11 (v0 : BitVec 32) : Fin 2 → Nat :=
  let c1_i32_527 : BitVec 32 := 1#32
  let v519 : BitVec 32 := Scalar.subi v0 c1_i32_527
  let c32_i32_528 : BitVec 32 := 32#32
  let c0_i32_529 : BitVec 32 := 0#32
  let v520 : BitVec 1 := Scalar.cmpi .eq c32_i32_528 c0_i32_529
  let c1_i32_530 : BitVec 32 := 1#32
  let v521 : BitVec 32 := Scalar.select v520 c1_i32_530 c32_i32_528
  let v522 : BitVec 32 := Scalar.remsi v519 v521
  let c0_i32_532 : BitVec 32 := 0#32
  let v524 : BitVec 1 := Scalar.cmpi .slt v522 c0_i32_532
  let c0_i32_533 : BitVec 32 := 0#32
  let v525 : BitVec 1 := Scalar.cmpi .slt v521 c0_i32_533
  let v526 : BitVec 1 := Scalar.xori v524 v525
  let c0_i32_531 : BitVec 32 := 0#32
  let v523 : BitVec 1 := Scalar.cmpi .ne v522 c0_i32_531
  let v527 : BitVec 1 := Scalar.andi v526 v523
  let v528 : BitVec 32 := Scalar.addi v522 v521
  let v529 : BitVec 32 := Scalar.select v527 v528 v522
  let c256_i32_534 : BitVec 32 := 256#32
  let v530 : BitVec 32 := Scalar.muli v529 c256_i32_534
  let c2048_i32 : BitVec 32 := 2048#32
  ![v530.toNat, 2048]
def k0_off12 (v0 : BitVec 32) (c0_i32_543 : BitVec 32) : Fin 2 → Nat :=
  let c1_i32_542 : BitVec 32 := 1#32
  let v537 : BitVec 32 := Scalar.addi v0 c1_i32_542
  let v538 : BitVec 32 := Scalar.subi v537 c0_i32_543
  let c32_i32_544 : BitVec 32 := 32#32
  let c0_i32_545 : BitVec 32 := 0#32
  let v539 : BitVec 1 := Scalar.cmpi .eq c32_i32_544 c0_i32_545
  let c1_i32_546 : BitVec 32 := 1#32
  let v540 : BitVec 32 := Scalar.select v539 c1_i32_546 c32_i32_544
  let v541 : BitVec 32 := Scalar.remsi v538 v540
  let c0_i32_548 : BitVec 32 := 0#32
  let v543 : BitVec 1 := Scalar.cmpi .slt v541 c0_i32_548
  let c0_i32_549 : BitVec 32 := 0#32
  let v544 : BitVec 1 := Scalar.cmpi .slt v540 c0_i32_549
  let v545 : BitVec 1 := Scalar.xori v543 v544
  let c0_i32_547 : BitVec 32 := 0#32
  let v542 : BitVec 1 := Scalar.cmpi .ne v541 c0_i32_547
  let v546 : BitVec 1 := Scalar.andi v545 v542
  let v547 : BitVec 32 := Scalar.addi v541 v540
  let v548 : BitVec 32 := Scalar.select v546 v547 v541
  let c256_i32_550 : BitVec 32 := 256#32
  let v549 : BitVec 32 := Scalar.muli v548 c256_i32_550
  let c0_i32_555 : BitVec 32 := 0#32
  ![v549.toNat, 0]
def k0_off12_at (r : Fin 4) : BitVec 32 :=
  if r.val < 2 then
    if r.val < 1 then
      0#32
    else
      1#32
  else
    if r.val < 3 then
      29#32
    else
      30#32
def k0_dev33 (v2 : BitVec 32) : Nat :=
  let c0_i32_554 : BitVec 32 := 0#32
  let c1_i32_553 : BitVec 32 := 1#32
  let v550 : BitVec 32 := Scalar.muli v2 c1_i32_553
  let v551 : BitVec 32 := Scalar.addi c0_i32_554 v550
  v551.toNat
def k0_off13 (v0 : BitVec 32) (c0_i32_559 : BitVec 32) : Fin 2 → Nat :=
  let c1_i32_558 : BitVec 32 := 1#32
  let v558 : BitVec 32 := Scalar.subi v0 c1_i32_558
  let v559 : BitVec 32 := Scalar.addi v558 c0_i32_559
  let c32_i32_560 : BitVec 32 := 32#32
  let c0_i32_561 : BitVec 32 := 0#32
  let v560 : BitVec 1 := Scalar.cmpi .eq c32_i32_560 c0_i32_561
  let c1_i32_562 : BitVec 32 := 1#32
  let v561 : BitVec 32 := Scalar.select v560 c1_i32_562 c32_i32_560
  let v562 : BitVec 32 := Scalar.remsi v559 v561
  let c0_i32_564 : BitVec 32 := 0#32
  let v564 : BitVec 1 := Scalar.cmpi .slt v562 c0_i32_564
  let c0_i32_565 : BitVec 32 := 0#32
  let v565 : BitVec 1 := Scalar.cmpi .slt v561 c0_i32_565
  let v566 : BitVec 1 := Scalar.xori v564 v565
  let c0_i32_563 : BitVec 32 := 0#32
  let v563 : BitVec 1 := Scalar.cmpi .ne v562 c0_i32_563
  let v567 : BitVec 1 := Scalar.andi v566 v563
  let v568 : BitVec 32 := Scalar.addi v562 v561
  let v569 : BitVec 32 := Scalar.select v567 v568 v562
  let c256_i32_566 : BitVec 32 := 256#32
  let v570 : BitVec 32 := Scalar.muli v569 c256_i32_566
  let c2048_i32_571 : BitVec 32 := 2048#32
  ![v570.toNat, 2048]
def k0_off13_at (r : Fin 4) : BitVec 32 :=
  if r.val < 2 then
    if r.val < 1 then
      0#32
    else
      1#32
  else
    if r.val < 3 then
      29#32
    else
      30#32
def k0_dev34 (v1 : BitVec 32) : Nat :=
  let c0_i32_570 : BitVec 32 := 0#32
  let c1_i32_569 : BitVec 32 := 1#32
  let v571 : BitVec 32 := Scalar.muli v1 c1_i32_569
  let v572 : BitVec 32 := Scalar.addi c0_i32_570 v571
  v572.toNat
def k0_off14 (v0 : BitVec 32) (c0_i32_575 : BitVec 32) : Fin 2 → Nat :=
  let c1_i32_574 : BitVec 32 := 1#32
  let v579 : BitVec 32 := Scalar.addi v0 c1_i32_574
  let v580 : BitVec 32 := Scalar.subi v579 c0_i32_575
  let c32_i32_576 : BitVec 32 := 32#32
  let c0_i32_577 : BitVec 32 := 0#32
  let v581 : BitVec 1 := Scalar.cmpi .eq c32_i32_576 c0_i32_577
  let c1_i32_578 : BitVec 32 := 1#32
  let v582 : BitVec 32 := Scalar.select v581 c1_i32_578 c32_i32_576
  let v583 : BitVec 32 := Scalar.remsi v580 v582
  let c0_i32_580 : BitVec 32 := 0#32
  let v585 : BitVec 1 := Scalar.cmpi .slt v583 c0_i32_580
  let c0_i32_581 : BitVec 32 := 0#32
  let v586 : BitVec 1 := Scalar.cmpi .slt v582 c0_i32_581
  let v587 : BitVec 1 := Scalar.xori v585 v586
  let c0_i32_579 : BitVec 32 := 0#32
  let v584 : BitVec 1 := Scalar.cmpi .ne v583 c0_i32_579
  let v588 : BitVec 1 := Scalar.andi v587 v584
  let v589 : BitVec 32 := Scalar.addi v583 v582
  let v590 : BitVec 32 := Scalar.select v588 v589 v583
  let c256_i32_582 : BitVec 32 := 256#32
  let v591 : BitVec 32 := Scalar.muli v590 c256_i32_582
  let c1024_i32_587 : BitVec 32 := 1024#32
  ![v591.toNat, 1024]
def k0_off14_at (r : Fin 4) : BitVec 32 :=
  if r.val < 2 then
    if r.val < 1 then
      0#32
    else
      1#32
  else
    if r.val < 3 then
      29#32
    else
      30#32
def k0_dev35 (v2 : BitVec 32) : Nat :=
  let c0_i32_586 : BitVec 32 := 0#32
  let c1_i32_585 : BitVec 32 := 1#32
  let v592 : BitVec 32 := Scalar.muli v2 c1_i32_585
  let v593 : BitVec 32 := Scalar.addi c0_i32_586 v592
  v593.toNat
def k0_off15 (v0 : BitVec 32) (c0_i32_591 : BitVec 32) : Fin 2 → Nat :=
  let c1_i32_590 : BitVec 32 := 1#32
  let v600 : BitVec 32 := Scalar.subi v0 c1_i32_590
  let v601 : BitVec 32 := Scalar.addi v600 c0_i32_591
  let c32_i32_592 : BitVec 32 := 32#32
  let c0_i32_593 : BitVec 32 := 0#32
  let v602 : BitVec 1 := Scalar.cmpi .eq c32_i32_592 c0_i32_593
  let c1_i32_594 : BitVec 32 := 1#32
  let v603 : BitVec 32 := Scalar.select v602 c1_i32_594 c32_i32_592
  let v604 : BitVec 32 := Scalar.remsi v601 v603
  let c0_i32_596 : BitVec 32 := 0#32
  let v606 : BitVec 1 := Scalar.cmpi .slt v604 c0_i32_596
  let c0_i32_597 : BitVec 32 := 0#32
  let v607 : BitVec 1 := Scalar.cmpi .slt v603 c0_i32_597
  let v608 : BitVec 1 := Scalar.xori v606 v607
  let c0_i32_595 : BitVec 32 := 0#32
  let v605 : BitVec 1 := Scalar.cmpi .ne v604 c0_i32_595
  let v609 : BitVec 1 := Scalar.andi v608 v605
  let v610 : BitVec 32 := Scalar.addi v604 v603
  let v611 : BitVec 32 := Scalar.select v609 v610 v604
  let c256_i32_598 : BitVec 32 := 256#32
  let v612 : BitVec 32 := Scalar.muli v611 c256_i32_598
  let c3072_i32 : BitVec 32 := 3072#32
  ![v612.toNat, 3072]
def k0_off15_at (r : Fin 4) : BitVec 32 :=
  if r.val < 2 then
    if r.val < 1 then
      0#32
    else
      1#32
  else
    if r.val < 3 then
      29#32
    else
      30#32
def k0_dev36 (v1 : BitVec 32) : Nat :=
  let c0_i32_602 : BitVec 32 := 0#32
  let c1_i32_601 : BitVec 32 := 1#32
  let v613 : BitVec 32 := Scalar.muli v1 c1_i32_601
  let v614 : BitVec 32 := Scalar.addi c0_i32_602 v613
  v614.toNat
def k0_dev37 (v2 : BitVec 32) : Nat :=
  let c0_i32_641 : BitVec 32 := 0#32
  let c1_i32_640 : BitVec 32 := 1#32
  let v657 : BitVec 32 := Scalar.muli v2 c1_i32_640
  let v658 : BitVec 32 := Scalar.addi c0_i32_641 v657
  v658.toNat
def k0_dev38 (v1 : BitVec 32) : Nat :=
  let c0_i32_680 : BitVec 32 := 0#32
  let c1_i32_679 : BitVec 32 := 1#32
  let v701 : BitVec 32 := Scalar.muli v1 c1_i32_679
  let v702 : BitVec 32 := Scalar.addi c0_i32_680 v701
  v702.toNat
def k0_dev39 (v2 : BitVec 32) : Nat :=
  let c0_i32_717 : BitVec 32 := 0#32
  let c1_i32_716 : BitVec 32 := 1#32
  let v745 : BitVec 32 := Scalar.muli v2 c1_i32_716
  let v746 : BitVec 32 := Scalar.addi c0_i32_717 v745
  v746.toNat
def k0_dev40 (v1 : BitVec 32) : Nat :=
  let c0_i32_754 : BitVec 32 := 0#32
  let c1_i32_753 : BitVec 32 := 1#32
  let v789 : BitVec 32 := Scalar.muli v1 c1_i32_753
  let v790 : BitVec 32 := Scalar.addi c0_i32_754 v789
  v790.toNat
def k0_dev41 (v1 : BitVec 32) : Nat :=
  let c0_i32_759 : BitVec 32 := 0#32
  let c1_i32_758 : BitVec 32 := 1#32
  let v797 : BitVec 32 := Scalar.muli v1 c1_i32_758
  let v798 : BitVec 32 := Scalar.addi c0_i32_759 v797
  v798.toNat
def k0_dev42 (v2 : BitVec 32) : Nat :=
  let c0_i32_762 : BitVec 32 := 0#32
  let c1_i32_761 : BitVec 32 := 1#32
  let v799 : BitVec 32 := Scalar.muli v2 c1_i32_761
  let v800 : BitVec 32 := Scalar.addi c0_i32_762 v799
  v800.toNat
@[reducible] def k0_t2_loop : Scf.Loop 32 :=
  let c0_i32_763 : BitVec 32 := 0#32
  let c14_i32_764 : BitVec 32 := 14#32
  let v801 : BitVec 32 := Scalar.addi c0_i32_763 c14_i32_764
  let c1_i32_765 : BitVec 32 := 1#32
  ⟨c0_i32_763, v801, c1_i32_765⟩
def k0_off16 (v0 : BitVec 32) (k0_t2 : Fin k0_t2_loop.trips) : Fin 2 → Nat :=
  let c1_i32_1012 : BitVec 32 := 1#32
  let v1086 : BitVec 32 := Scalar.addi v0 c1_i32_1012
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let v1087 : BitVec 32 := Scalar.subi v1086 v1085
  let c32_i32_1013 : BitVec 32 := 32#32
  let c0_i32_1014 : BitVec 32 := 0#32
  let v1088 : BitVec 1 := Scalar.cmpi .eq c32_i32_1013 c0_i32_1014
  let c1_i32_1015 : BitVec 32 := 1#32
  let v1089 : BitVec 32 := Scalar.select v1088 c1_i32_1015 c32_i32_1013
  let v1090 : BitVec 32 := Scalar.remsi v1087 v1089
  let c0_i32_1017 : BitVec 32 := 0#32
  let v1092 : BitVec 1 := Scalar.cmpi .slt v1090 c0_i32_1017
  let c0_i32_1018 : BitVec 32 := 0#32
  let v1093 : BitVec 1 := Scalar.cmpi .slt v1089 c0_i32_1018
  let v1094 : BitVec 1 := Scalar.xori v1092 v1093
  let c0_i32_1016 : BitVec 32 := 0#32
  let v1091 : BitVec 1 := Scalar.cmpi .ne v1090 c0_i32_1016
  let v1095 : BitVec 1 := Scalar.andi v1094 v1091
  let v1096 : BitVec 32 := Scalar.addi v1090 v1089
  let v1097 : BitVec 32 := Scalar.select v1095 v1096 v1090
  let c256_i32_1019 : BitVec 32 := 256#32
  let v1098 : BitVec 32 := Scalar.muli v1097 c256_i32_1019
  let c0_i32_1023 : BitVec 32 := 0#32
  ![v1098.toNat, 0]
def k0_off17 (v0 : BitVec 32) (k0_t2 : Fin k0_t2_loop.trips) : Fin 2 → Nat :=
  let c1_i32_1034 : BitVec 32 := 1#32
  let v1110 : BitVec 32 := Scalar.addi v0 c1_i32_1034
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1033 : BitVec 32 := 1#32
  let v1109 : BitVec 32 := Scalar.addi v1085 c1_i32_1033
  let v1111 : BitVec 32 := Scalar.subi v1110 v1109
  let c32_i32_1035 : BitVec 32 := 32#32
  let c0_i32_1036 : BitVec 32 := 0#32
  let v1112 : BitVec 1 := Scalar.cmpi .eq c32_i32_1035 c0_i32_1036
  let c1_i32_1037 : BitVec 32 := 1#32
  let v1113 : BitVec 32 := Scalar.select v1112 c1_i32_1037 c32_i32_1035
  let v1114 : BitVec 32 := Scalar.remsi v1111 v1113
  let c0_i32_1039 : BitVec 32 := 0#32
  let v1116 : BitVec 1 := Scalar.cmpi .slt v1114 c0_i32_1039
  let c0_i32_1040 : BitVec 32 := 0#32
  let v1117 : BitVec 1 := Scalar.cmpi .slt v1113 c0_i32_1040
  let v1118 : BitVec 1 := Scalar.xori v1116 v1117
  let c0_i32_1038 : BitVec 32 := 0#32
  let v1115 : BitVec 1 := Scalar.cmpi .ne v1114 c0_i32_1038
  let v1119 : BitVec 1 := Scalar.andi v1118 v1115
  let v1120 : BitVec 32 := Scalar.addi v1114 v1113
  let v1121 : BitVec 32 := Scalar.select v1119 v1120 v1114
  let c256_i32_1041 : BitVec 32 := 256#32
  let v1122 : BitVec 32 := Scalar.muli v1121 c256_i32_1041
  let c0_i32_1046 : BitVec 32 := 0#32
  ![v1122.toNat, 0]
def k0_dev43 (v2 : BitVec 32) : Nat :=
  let c0_i32_1045 : BitVec 32 := 0#32
  let c1_i32_1044 : BitVec 32 := 1#32
  let v1123 : BitVec 32 := Scalar.muli v2 c1_i32_1044
  let v1124 : BitVec 32 := Scalar.addi c0_i32_1045 v1123
  v1124.toNat
def k0_off18 (v0 : BitVec 32) (k0_t2 : Fin k0_t2_loop.trips) : Fin 2 → Nat :=
  let c1_i32_1048 : BitVec 32 := 1#32
  let v1131 : BitVec 32 := Scalar.subi v0 c1_i32_1048
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let v1132 : BitVec 32 := Scalar.addi v1131 v1085
  let c32_i32_1049 : BitVec 32 := 32#32
  let c0_i32_1050 : BitVec 32 := 0#32
  let v1133 : BitVec 1 := Scalar.cmpi .eq c32_i32_1049 c0_i32_1050
  let c1_i32_1051 : BitVec 32 := 1#32
  let v1134 : BitVec 32 := Scalar.select v1133 c1_i32_1051 c32_i32_1049
  let v1135 : BitVec 32 := Scalar.remsi v1132 v1134
  let c0_i32_1053 : BitVec 32 := 0#32
  let v1137 : BitVec 1 := Scalar.cmpi .slt v1135 c0_i32_1053
  let c0_i32_1054 : BitVec 32 := 0#32
  let v1138 : BitVec 1 := Scalar.cmpi .slt v1134 c0_i32_1054
  let v1139 : BitVec 1 := Scalar.xori v1137 v1138
  let c0_i32_1052 : BitVec 32 := 0#32
  let v1136 : BitVec 1 := Scalar.cmpi .ne v1135 c0_i32_1052
  let v1140 : BitVec 1 := Scalar.andi v1139 v1136
  let v1141 : BitVec 32 := Scalar.addi v1135 v1134
  let v1142 : BitVec 32 := Scalar.select v1140 v1141 v1135
  let c256_i32_1055 : BitVec 32 := 256#32
  let v1143 : BitVec 32 := Scalar.muli v1142 c256_i32_1055
  let c2048_i32_1059 : BitVec 32 := 2048#32
  ![v1143.toNat, 2048]
def k0_off19 (v0 : BitVec 32) (k0_t2 : Fin k0_t2_loop.trips) : Fin 2 → Nat :=
  let c1_i32_1070 : BitVec 32 := 1#32
  let v1155 : BitVec 32 := Scalar.subi v0 c1_i32_1070
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1069 : BitVec 32 := 1#32
  let v1154 : BitVec 32 := Scalar.addi v1085 c1_i32_1069
  let v1156 : BitVec 32 := Scalar.addi v1155 v1154
  let c32_i32_1071 : BitVec 32 := 32#32
  let c0_i32_1072 : BitVec 32 := 0#32
  let v1157 : BitVec 1 := Scalar.cmpi .eq c32_i32_1071 c0_i32_1072
  let c1_i32_1073 : BitVec 32 := 1#32
  let v1158 : BitVec 32 := Scalar.select v1157 c1_i32_1073 c32_i32_1071
  let v1159 : BitVec 32 := Scalar.remsi v1156 v1158
  let c0_i32_1075 : BitVec 32 := 0#32
  let v1161 : BitVec 1 := Scalar.cmpi .slt v1159 c0_i32_1075
  let c0_i32_1076 : BitVec 32 := 0#32
  let v1162 : BitVec 1 := Scalar.cmpi .slt v1158 c0_i32_1076
  let v1163 : BitVec 1 := Scalar.xori v1161 v1162
  let c0_i32_1074 : BitVec 32 := 0#32
  let v1160 : BitVec 1 := Scalar.cmpi .ne v1159 c0_i32_1074
  let v1164 : BitVec 1 := Scalar.andi v1163 v1160
  let v1165 : BitVec 32 := Scalar.addi v1159 v1158
  let v1166 : BitVec 32 := Scalar.select v1164 v1165 v1159
  let c256_i32_1077 : BitVec 32 := 256#32
  let v1167 : BitVec 32 := Scalar.muli v1166 c256_i32_1077
  let c2048_i32_1082 : BitVec 32 := 2048#32
  ![v1167.toNat, 2048]
def k0_dev44 (v1 : BitVec 32) : Nat :=
  let c0_i32_1081 : BitVec 32 := 0#32
  let c1_i32_1080 : BitVec 32 := 1#32
  let v1168 : BitVec 32 := Scalar.muli v1 c1_i32_1080
  let v1169 : BitVec 32 := Scalar.addi c0_i32_1081 v1168
  v1169.toNat
def k0_off20 (v0 : BitVec 32) (k0_t2 : Fin k0_t2_loop.trips) : Fin 2 → Nat :=
  let c1_i32_1084 : BitVec 32 := 1#32
  let v1176 : BitVec 32 := Scalar.addi v0 c1_i32_1084
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let v1177 : BitVec 32 := Scalar.subi v1176 v1085
  let c32_i32_1085 : BitVec 32 := 32#32
  let c0_i32_1086 : BitVec 32 := 0#32
  let v1178 : BitVec 1 := Scalar.cmpi .eq c32_i32_1085 c0_i32_1086
  let c1_i32_1087 : BitVec 32 := 1#32
  let v1179 : BitVec 32 := Scalar.select v1178 c1_i32_1087 c32_i32_1085
  let v1180 : BitVec 32 := Scalar.remsi v1177 v1179
  let c0_i32_1089 : BitVec 32 := 0#32
  let v1182 : BitVec 1 := Scalar.cmpi .slt v1180 c0_i32_1089
  let c0_i32_1090 : BitVec 32 := 0#32
  let v1183 : BitVec 1 := Scalar.cmpi .slt v1179 c0_i32_1090
  let v1184 : BitVec 1 := Scalar.xori v1182 v1183
  let c0_i32_1088 : BitVec 32 := 0#32
  let v1181 : BitVec 1 := Scalar.cmpi .ne v1180 c0_i32_1088
  let v1185 : BitVec 1 := Scalar.andi v1184 v1181
  let v1186 : BitVec 32 := Scalar.addi v1180 v1179
  let v1187 : BitVec 32 := Scalar.select v1185 v1186 v1180
  let c256_i32_1091 : BitVec 32 := 256#32
  let v1188 : BitVec 32 := Scalar.muli v1187 c256_i32_1091
  let c1024_i32_1095 : BitVec 32 := 1024#32
  ![v1188.toNat, 1024]
def k0_off21 (v0 : BitVec 32) (k0_t2 : Fin k0_t2_loop.trips) : Fin 2 → Nat :=
  let c1_i32_1104 : BitVec 32 := 1#32
  let v1200 : BitVec 32 := Scalar.addi v0 c1_i32_1104
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1103 : BitVec 32 := 1#32
  let v1199 : BitVec 32 := Scalar.addi v1085 c1_i32_1103
  let v1201 : BitVec 32 := Scalar.subi v1200 v1199
  let c32_i32_1105 : BitVec 32 := 32#32
  let c0_i32_1106 : BitVec 32 := 0#32
  let v1202 : BitVec 1 := Scalar.cmpi .eq c32_i32_1105 c0_i32_1106
  let c1_i32_1107 : BitVec 32 := 1#32
  let v1203 : BitVec 32 := Scalar.select v1202 c1_i32_1107 c32_i32_1105
  let v1204 : BitVec 32 := Scalar.remsi v1201 v1203
  let c0_i32_1109 : BitVec 32 := 0#32
  let v1206 : BitVec 1 := Scalar.cmpi .slt v1204 c0_i32_1109
  let c0_i32_1110 : BitVec 32 := 0#32
  let v1207 : BitVec 1 := Scalar.cmpi .slt v1203 c0_i32_1110
  let v1208 : BitVec 1 := Scalar.xori v1206 v1207
  let c0_i32_1108 : BitVec 32 := 0#32
  let v1205 : BitVec 1 := Scalar.cmpi .ne v1204 c0_i32_1108
  let v1209 : BitVec 1 := Scalar.andi v1208 v1205
  let v1210 : BitVec 32 := Scalar.addi v1204 v1203
  let v1211 : BitVec 32 := Scalar.select v1209 v1210 v1204
  let c256_i32_1111 : BitVec 32 := 256#32
  let v1212 : BitVec 32 := Scalar.muli v1211 c256_i32_1111
  let c1024_i32_1116 : BitVec 32 := 1024#32
  ![v1212.toNat, 1024]
def k0_dev45 (v2 : BitVec 32) : Nat :=
  let c0_i32_1115 : BitVec 32 := 0#32
  let c1_i32_1114 : BitVec 32 := 1#32
  let v1213 : BitVec 32 := Scalar.muli v2 c1_i32_1114
  let v1214 : BitVec 32 := Scalar.addi c0_i32_1115 v1213
  v1214.toNat
def k0_off22 (v0 : BitVec 32) (k0_t2 : Fin k0_t2_loop.trips) : Fin 2 → Nat :=
  let c1_i32_1118 : BitVec 32 := 1#32
  let v1221 : BitVec 32 := Scalar.subi v0 c1_i32_1118
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let v1222 : BitVec 32 := Scalar.addi v1221 v1085
  let c32_i32_1119 : BitVec 32 := 32#32
  let c0_i32_1120 : BitVec 32 := 0#32
  let v1223 : BitVec 1 := Scalar.cmpi .eq c32_i32_1119 c0_i32_1120
  let c1_i32_1121 : BitVec 32 := 1#32
  let v1224 : BitVec 32 := Scalar.select v1223 c1_i32_1121 c32_i32_1119
  let v1225 : BitVec 32 := Scalar.remsi v1222 v1224
  let c0_i32_1123 : BitVec 32 := 0#32
  let v1227 : BitVec 1 := Scalar.cmpi .slt v1225 c0_i32_1123
  let c0_i32_1124 : BitVec 32 := 0#32
  let v1228 : BitVec 1 := Scalar.cmpi .slt v1224 c0_i32_1124
  let v1229 : BitVec 1 := Scalar.xori v1227 v1228
  let c0_i32_1122 : BitVec 32 := 0#32
  let v1226 : BitVec 1 := Scalar.cmpi .ne v1225 c0_i32_1122
  let v1230 : BitVec 1 := Scalar.andi v1229 v1226
  let v1231 : BitVec 32 := Scalar.addi v1225 v1224
  let v1232 : BitVec 32 := Scalar.select v1230 v1231 v1225
  let c256_i32_1125 : BitVec 32 := 256#32
  let v1233 : BitVec 32 := Scalar.muli v1232 c256_i32_1125
  let c3072_i32_1129 : BitVec 32 := 3072#32
  ![v1233.toNat, 3072]
def k0_off23 (v0 : BitVec 32) (k0_t2 : Fin k0_t2_loop.trips) : Fin 2 → Nat :=
  let c1_i32_1138 : BitVec 32 := 1#32
  let v1245 : BitVec 32 := Scalar.subi v0 c1_i32_1138
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1137 : BitVec 32 := 1#32
  let v1244 : BitVec 32 := Scalar.addi v1085 c1_i32_1137
  let v1246 : BitVec 32 := Scalar.addi v1245 v1244
  let c32_i32_1139 : BitVec 32 := 32#32
  let c0_i32_1140 : BitVec 32 := 0#32
  let v1247 : BitVec 1 := Scalar.cmpi .eq c32_i32_1139 c0_i32_1140
  let c1_i32_1141 : BitVec 32 := 1#32
  let v1248 : BitVec 32 := Scalar.select v1247 c1_i32_1141 c32_i32_1139
  let v1249 : BitVec 32 := Scalar.remsi v1246 v1248
  let c0_i32_1143 : BitVec 32 := 0#32
  let v1251 : BitVec 1 := Scalar.cmpi .slt v1249 c0_i32_1143
  let c0_i32_1144 : BitVec 32 := 0#32
  let v1252 : BitVec 1 := Scalar.cmpi .slt v1248 c0_i32_1144
  let v1253 : BitVec 1 := Scalar.xori v1251 v1252
  let c0_i32_1142 : BitVec 32 := 0#32
  let v1250 : BitVec 1 := Scalar.cmpi .ne v1249 c0_i32_1142
  let v1254 : BitVec 1 := Scalar.andi v1253 v1250
  let v1255 : BitVec 32 := Scalar.addi v1249 v1248
  let v1256 : BitVec 32 := Scalar.select v1254 v1255 v1249
  let c256_i32_1145 : BitVec 32 := 256#32
  let v1257 : BitVec 32 := Scalar.muli v1256 c256_i32_1145
  let c3072_i32_1150 : BitVec 32 := 3072#32
  ![v1257.toNat, 3072]
def k0_dev46 (v1 : BitVec 32) : Nat :=
  let c0_i32_1149 : BitVec 32 := 0#32
  let c1_i32_1148 : BitVec 32 := 1#32
  let v1258 : BitVec 32 := Scalar.muli v1 c1_i32_1148
  let v1259 : BitVec 32 := Scalar.addi c0_i32_1149 v1258
  v1259.toNat
def k0_dev47 (v1 : BitVec 32) : Nat :=
  let c0_i32_1154 : BitVec 32 := 0#32
  let c1_i32_1153 : BitVec 32 := 1#32
  let v1266 : BitVec 32 := Scalar.muli v1 c1_i32_1153
  let v1267 : BitVec 32 := Scalar.addi c0_i32_1154 v1266
  v1267.toNat
def k0_dev48 (v2 : BitVec 32) : Nat :=
  let c0_i32_1157 : BitVec 32 := 0#32
  let c1_i32_1156 : BitVec 32 := 1#32
  let v1268 : BitVec 32 := Scalar.muli v2 c1_i32_1156
  let v1269 : BitVec 32 := Scalar.addi c0_i32_1157 v1268
  v1269.toNat
def k0_off24 (v0 : BitVec 32) (k0_t2 : Fin k0_t2_loop.trips) : Fin 2 → Nat :=
  let c1_i32_1181 : BitVec 32 := 1#32
  let v1295 : BitVec 32 := Scalar.addi v0 c1_i32_1181
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1158 : BitVec 32 := 1#32
  let v1270 : BitVec 32 := Scalar.addi v1085 c1_i32_1158
  let c1_i32_1180 : BitVec 32 := 1#32
  let v1294 : BitVec 32 := Scalar.addi v1270 c1_i32_1180
  let v1296 : BitVec 32 := Scalar.subi v1295 v1294
  let c32_i32_1182 : BitVec 32 := 32#32
  let c0_i32_1183 : BitVec 32 := 0#32
  let v1297 : BitVec 1 := Scalar.cmpi .eq c32_i32_1182 c0_i32_1183
  let c1_i32_1184 : BitVec 32 := 1#32
  let v1298 : BitVec 32 := Scalar.select v1297 c1_i32_1184 c32_i32_1182
  let v1299 : BitVec 32 := Scalar.remsi v1296 v1298
  let c0_i32_1186 : BitVec 32 := 0#32
  let v1301 : BitVec 1 := Scalar.cmpi .slt v1299 c0_i32_1186
  let c0_i32_1187 : BitVec 32 := 0#32
  let v1302 : BitVec 1 := Scalar.cmpi .slt v1298 c0_i32_1187
  let v1303 : BitVec 1 := Scalar.xori v1301 v1302
  let c0_i32_1185 : BitVec 32 := 0#32
  let v1300 : BitVec 1 := Scalar.cmpi .ne v1299 c0_i32_1185
  let v1304 : BitVec 1 := Scalar.andi v1303 v1300
  let v1305 : BitVec 32 := Scalar.addi v1299 v1298
  let v1306 : BitVec 32 := Scalar.select v1304 v1305 v1299
  let c256_i32_1188 : BitVec 32 := 256#32
  let v1307 : BitVec 32 := Scalar.muli v1306 c256_i32_1188
  let c0_i32_1193 : BitVec 32 := 0#32
  ![v1307.toNat, 0]
def k0_dev49 (v2 : BitVec 32) : Nat :=
  let c0_i32_1192 : BitVec 32 := 0#32
  let c1_i32_1191 : BitVec 32 := 1#32
  let v1308 : BitVec 32 := Scalar.muli v2 c1_i32_1191
  let v1309 : BitVec 32 := Scalar.addi c0_i32_1192 v1308
  v1309.toNat
def k0_off25 (v0 : BitVec 32) (k0_t2 : Fin k0_t2_loop.trips) : Fin 2 → Nat :=
  let c1_i32_1217 : BitVec 32 := 1#32
  let v1340 : BitVec 32 := Scalar.subi v0 c1_i32_1217
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1158 : BitVec 32 := 1#32
  let v1270 : BitVec 32 := Scalar.addi v1085 c1_i32_1158
  let c1_i32_1216 : BitVec 32 := 1#32
  let v1339 : BitVec 32 := Scalar.addi v1270 c1_i32_1216
  let v1341 : BitVec 32 := Scalar.addi v1340 v1339
  let c32_i32_1218 : BitVec 32 := 32#32
  let c0_i32_1219 : BitVec 32 := 0#32
  let v1342 : BitVec 1 := Scalar.cmpi .eq c32_i32_1218 c0_i32_1219
  let c1_i32_1220 : BitVec 32 := 1#32
  let v1343 : BitVec 32 := Scalar.select v1342 c1_i32_1220 c32_i32_1218
  let v1344 : BitVec 32 := Scalar.remsi v1341 v1343
  let c0_i32_1222 : BitVec 32 := 0#32
  let v1346 : BitVec 1 := Scalar.cmpi .slt v1344 c0_i32_1222
  let c0_i32_1223 : BitVec 32 := 0#32
  let v1347 : BitVec 1 := Scalar.cmpi .slt v1343 c0_i32_1223
  let v1348 : BitVec 1 := Scalar.xori v1346 v1347
  let c0_i32_1221 : BitVec 32 := 0#32
  let v1345 : BitVec 1 := Scalar.cmpi .ne v1344 c0_i32_1221
  let v1349 : BitVec 1 := Scalar.andi v1348 v1345
  let v1350 : BitVec 32 := Scalar.addi v1344 v1343
  let v1351 : BitVec 32 := Scalar.select v1349 v1350 v1344
  let c256_i32_1224 : BitVec 32 := 256#32
  let v1352 : BitVec 32 := Scalar.muli v1351 c256_i32_1224
  let c2048_i32_1229 : BitVec 32 := 2048#32
  ![v1352.toNat, 2048]
def k0_dev50 (v1 : BitVec 32) : Nat :=
  let c0_i32_1228 : BitVec 32 := 0#32
  let c1_i32_1227 : BitVec 32 := 1#32
  let v1353 : BitVec 32 := Scalar.muli v1 c1_i32_1227
  let v1354 : BitVec 32 := Scalar.addi c0_i32_1228 v1353
  v1354.toNat
def k0_off26 (v0 : BitVec 32) (k0_t2 : Fin k0_t2_loop.trips) : Fin 2 → Nat :=
  let c1_i32_1251 : BitVec 32 := 1#32
  let v1385 : BitVec 32 := Scalar.addi v0 c1_i32_1251
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1158 : BitVec 32 := 1#32
  let v1270 : BitVec 32 := Scalar.addi v1085 c1_i32_1158
  let c1_i32_1250 : BitVec 32 := 1#32
  let v1384 : BitVec 32 := Scalar.addi v1270 c1_i32_1250
  let v1386 : BitVec 32 := Scalar.subi v1385 v1384
  let c32_i32_1252 : BitVec 32 := 32#32
  let c0_i32_1253 : BitVec 32 := 0#32
  let v1387 : BitVec 1 := Scalar.cmpi .eq c32_i32_1252 c0_i32_1253
  let c1_i32_1254 : BitVec 32 := 1#32
  let v1388 : BitVec 32 := Scalar.select v1387 c1_i32_1254 c32_i32_1252
  let v1389 : BitVec 32 := Scalar.remsi v1386 v1388
  let c0_i32_1256 : BitVec 32 := 0#32
  let v1391 : BitVec 1 := Scalar.cmpi .slt v1389 c0_i32_1256
  let c0_i32_1257 : BitVec 32 := 0#32
  let v1392 : BitVec 1 := Scalar.cmpi .slt v1388 c0_i32_1257
  let v1393 : BitVec 1 := Scalar.xori v1391 v1392
  let c0_i32_1255 : BitVec 32 := 0#32
  let v1390 : BitVec 1 := Scalar.cmpi .ne v1389 c0_i32_1255
  let v1394 : BitVec 1 := Scalar.andi v1393 v1390
  let v1395 : BitVec 32 := Scalar.addi v1389 v1388
  let v1396 : BitVec 32 := Scalar.select v1394 v1395 v1389
  let c256_i32_1258 : BitVec 32 := 256#32
  let v1397 : BitVec 32 := Scalar.muli v1396 c256_i32_1258
  let c1024_i32_1263 : BitVec 32 := 1024#32
  ![v1397.toNat, 1024]
def k0_dev51 (v2 : BitVec 32) : Nat :=
  let c0_i32_1262 : BitVec 32 := 0#32
  let c1_i32_1261 : BitVec 32 := 1#32
  let v1398 : BitVec 32 := Scalar.muli v2 c1_i32_1261
  let v1399 : BitVec 32 := Scalar.addi c0_i32_1262 v1398
  v1399.toNat
def k0_off27 (v0 : BitVec 32) (k0_t2 : Fin k0_t2_loop.trips) : Fin 2 → Nat :=
  let c1_i32_1285 : BitVec 32 := 1#32
  let v1430 : BitVec 32 := Scalar.subi v0 c1_i32_1285
  let c2_i32_1010 : BitVec 32 := 2#32
  let c0_i32_763 : BitVec 32 := 0#32
  let c1_i32_765 : BitVec 32 := 1#32
  let arg17 : BitVec 32 := Scf.iv c0_i32_763 c1_i32_765 k0_t2
  let v1084 : BitVec 32 := Scalar.muli c2_i32_1010 arg17
  let c1_i32_1011 : BitVec 32 := 1#32
  let v1085 : BitVec 32 := Scalar.addi v1084 c1_i32_1011
  let c1_i32_1158 : BitVec 32 := 1#32
  let v1270 : BitVec 32 := Scalar.addi v1085 c1_i32_1158
  let c1_i32_1284 : BitVec 32 := 1#32
  let v1429 : BitVec 32 := Scalar.addi v1270 c1_i32_1284
  let v1431 : BitVec 32 := Scalar.addi v1430 v1429
  let c32_i32_1286 : BitVec 32 := 32#32
  let c0_i32_1287 : BitVec 32 := 0#32
  let v1432 : BitVec 1 := Scalar.cmpi .eq c32_i32_1286 c0_i32_1287
  let c1_i32_1288 : BitVec 32 := 1#32
  let v1433 : BitVec 32 := Scalar.select v1432 c1_i32_1288 c32_i32_1286
  let v1434 : BitVec 32 := Scalar.remsi v1431 v1433
  let c0_i32_1290 : BitVec 32 := 0#32
  let v1436 : BitVec 1 := Scalar.cmpi .slt v1434 c0_i32_1290
  let c0_i32_1291 : BitVec 32 := 0#32
  let v1437 : BitVec 1 := Scalar.cmpi .slt v1433 c0_i32_1291
  let v1438 : BitVec 1 := Scalar.xori v1436 v1437
  let c0_i32_1289 : BitVec 32 := 0#32
  let v1435 : BitVec 1 := Scalar.cmpi .ne v1434 c0_i32_1289
  let v1439 : BitVec 1 := Scalar.andi v1438 v1435
  let v1440 : BitVec 32 := Scalar.addi v1434 v1433
  let v1441 : BitVec 32 := Scalar.select v1439 v1440 v1434
  let c256_i32_1292 : BitVec 32 := 256#32
  let v1442 : BitVec 32 := Scalar.muli v1441 c256_i32_1292
  let c3072_i32_1297 : BitVec 32 := 3072#32
  ![v1442.toNat, 3072]

def k0_chk3 (v0 : BitVec 32) : Prop :=
  (∀ a, (k0_off1 v0) a + S256x256.size a ≤ S8192x256.size a) ∧
  (∀ a, (k0_off2 v0) a + S256x256.size a ≤ S8192x256.size a) ∧
  (∀ a, (k0_off3 v0) a + S256x256.size a ≤ S8192x256.size a) ∧
  (∀ (r : Fin 2), ∀ a, (k0_off4 v0 (BitVec.ofNat 32 (29 * r.val))) a + S256x256.size a ≤ S8192x256.size a) ∧
  (∀ (r : Fin 2), ∀ a, (k0_off5 v0 (BitVec.ofNat 32 (29 * r.val))) a + S256x256.size a ≤ S8192x256.size a) ∧
  (∀ k0_t1 : Fin k0_t1_loop.trips, ∀ a, (k0_off6 v0 k0_t1) a + S256x256.size a ≤ S8192x256.size a) ∧
  (∀ k0_t1 : Fin k0_t1_loop.trips, ∀ a, (k0_off7 v0 k0_t1) a + S256x256.size a ≤ S8192x256.size a) ∧
  (∀ k0_t1 : Fin k0_t1_loop.trips, ∀ a, (k0_off8 v0 k0_t1) a + S256x256.size a ≤ S8192x256.size a) ∧
  (∀ k0_t1 : Fin k0_t1_loop.trips, ∀ a, (k0_off9 v0 k0_t1) a + S256x256.size a ≤ S8192x256.size a) ∧
  (∀ a, (k0_off10 v0) a + S256x2048.size a ≤ S8192x4096.size a) ∧
  (∀ a, (k0_off11 v0) a + S256x2048.size a ≤ S8192x4096.size a) ∧
  (∀ (r : Fin 4), ∀ a, (k0_off12 v0 (k0_off12_at r)) a + S256x1024.size a ≤ S8192x4096.size a) ∧
  (∀ (r : Fin 4), ∀ a, (k0_off13 v0 (k0_off13_at r)) a + S256x1024.size a ≤ S8192x4096.size a) ∧
  (∀ (r : Fin 4), ∀ a, (k0_off14 v0 (k0_off14_at r)) a + S256x1024.size a ≤ S8192x4096.size a) ∧
  (∀ (r : Fin 4), ∀ a, (k0_off15 v0 (k0_off15_at r)) a + S256x1024.size a ≤ S8192x4096.size a) ∧
  (∀ k0_t2 : Fin k0_t2_loop.trips, ∀ a, (k0_off16 v0 k0_t2) a + S256x1024.size a ≤ S8192x4096.size a) ∧
  (∀ k0_t2 : Fin k0_t2_loop.trips, ∀ a, (k0_off17 v0 k0_t2) a + S256x1024.size a ≤ S8192x4096.size a) ∧
  (∀ k0_t2 : Fin k0_t2_loop.trips, ∀ a, (k0_off18 v0 k0_t2) a + S256x1024.size a ≤ S8192x4096.size a) ∧
  (∀ k0_t2 : Fin k0_t2_loop.trips, ∀ a, (k0_off19 v0 k0_t2) a + S256x1024.size a ≤ S8192x4096.size a) ∧
  (∀ k0_t2 : Fin k0_t2_loop.trips, ∀ a, (k0_off20 v0 k0_t2) a + S256x1024.size a ≤ S8192x4096.size a) ∧
  (∀ k0_t2 : Fin k0_t2_loop.trips, ∀ a, (k0_off21 v0 k0_t2) a + S256x1024.size a ≤ S8192x4096.size a) ∧
  (∀ k0_t2 : Fin k0_t2_loop.trips, ∀ a, (k0_off22 v0 k0_t2) a + S256x1024.size a ≤ S8192x4096.size a) ∧
  (∀ k0_t2 : Fin k0_t2_loop.trips, ∀ a, (k0_off23 v0 k0_t2) a + S256x1024.size a ≤ S8192x4096.size a) ∧
  (∀ k0_t2 : Fin k0_t2_loop.trips, ∀ a, (k0_off24 v0 k0_t2) a + S256x1024.size a ≤ S8192x4096.size a) ∧
  (∀ k0_t2 : Fin k0_t2_loop.trips, ∀ a, (k0_off25 v0 k0_t2) a + S256x1024.size a ≤ S8192x4096.size a) ∧
  (∀ k0_t2 : Fin k0_t2_loop.trips, ∀ a, (k0_off26 v0 k0_t2) a + S256x1024.size a ≤ S8192x4096.size a) ∧
  (∀ k0_t2 : Fin k0_t2_loop.trips, ∀ a, (k0_off27 v0 k0_t2) a + S256x1024.size a ≤ S8192x4096.size a)
theorem k0_off1_inb : ∀ (v0 : BitVec 32) (k0_hw3 : k0_chk3 v0), ∀ a, (k0_off1 v0) a + S256x256.size a ≤ S8192x256.size a := fun v0 k0_hw3 => k0_hw3.1
theorem k0_off2_inb : ∀ (v0 : BitVec 32) (k0_hw3 : k0_chk3 v0), ∀ a, (k0_off2 v0) a + S256x256.size a ≤ S8192x256.size a := fun v0 k0_hw3 => k0_hw3.2.1
theorem k0_off3_inb : ∀ (v0 : BitVec 32) (k0_hw3 : k0_chk3 v0), ∀ a, (k0_off3 v0) a + S256x256.size a ≤ S8192x256.size a := fun v0 k0_hw3 => k0_hw3.2.2.1
theorem k0_off4_inb : ∀ (v0 : BitVec 32) (k0_hw3 : k0_chk3 v0), ∀ (r : Fin 2), ∀ a, (k0_off4 v0 (BitVec.ofNat 32 (29 * r.val))) a + S256x256.size a ≤ S8192x256.size a := fun v0 k0_hw3 r => k0_hw3.2.2.2.1 r
theorem k0_off5_inb : ∀ (v0 : BitVec 32) (k0_hw3 : k0_chk3 v0), ∀ (r : Fin 2), ∀ a, (k0_off5 v0 (BitVec.ofNat 32 (29 * r.val))) a + S256x256.size a ≤ S8192x256.size a := fun v0 k0_hw3 r => k0_hw3.2.2.2.2.1 r
theorem k0_off6_inb : ∀ (v0 : BitVec 32) (k0_hw3 : k0_chk3 v0) (k0_t1 : Fin k0_t1_loop.trips), ∀ a, (k0_off6 v0 k0_t1) a + S256x256.size a ≤ S8192x256.size a := fun v0 k0_hw3 k0_t1 => k0_hw3.2.2.2.2.2.1 k0_t1
theorem k0_off7_inb : ∀ (v0 : BitVec 32) (k0_hw3 : k0_chk3 v0) (k0_t1 : Fin k0_t1_loop.trips), ∀ a, (k0_off7 v0 k0_t1) a + S256x256.size a ≤ S8192x256.size a := fun v0 k0_hw3 k0_t1 => k0_hw3.2.2.2.2.2.2.1 k0_t1
theorem k0_off8_inb : ∀ (v0 : BitVec 32) (k0_hw3 : k0_chk3 v0) (k0_t1 : Fin k0_t1_loop.trips), ∀ a, (k0_off8 v0 k0_t1) a + S256x256.size a ≤ S8192x256.size a := fun v0 k0_hw3 k0_t1 => k0_hw3.2.2.2.2.2.2.2.1 k0_t1
theorem k0_off9_inb : ∀ (v0 : BitVec 32) (k0_hw3 : k0_chk3 v0) (k0_t1 : Fin k0_t1_loop.trips), ∀ a, (k0_off9 v0 k0_t1) a + S256x256.size a ≤ S8192x256.size a := fun v0 k0_hw3 k0_t1 => k0_hw3.2.2.2.2.2.2.2.2.1 k0_t1
theorem k0_off10_inb : ∀ (v0 : BitVec 32) (k0_hw3 : k0_chk3 v0), ∀ a, (k0_off10 v0) a + S256x2048.size a ≤ S8192x4096.size a := fun v0 k0_hw3 => k0_hw3.2.2.2.2.2.2.2.2.2.1
theorem k0_off11_inb : ∀ (v0 : BitVec 32) (k0_hw3 : k0_chk3 v0), ∀ a, (k0_off11 v0) a + S256x2048.size a ≤ S8192x4096.size a := fun v0 k0_hw3 => k0_hw3.2.2.2.2.2.2.2.2.2.2.1
theorem k0_off12_inb : ∀ (v0 : BitVec 32) (k0_hw3 : k0_chk3 v0), ∀ (r : Fin 4), ∀ a, (k0_off12 v0 (k0_off12_at r)) a + S256x1024.size a ≤ S8192x4096.size a := fun v0 k0_hw3 r => k0_hw3.2.2.2.2.2.2.2.2.2.2.2.1 r
theorem k0_off13_inb : ∀ (v0 : BitVec 32) (k0_hw3 : k0_chk3 v0), ∀ (r : Fin 4), ∀ a, (k0_off13 v0 (k0_off13_at r)) a + S256x1024.size a ≤ S8192x4096.size a := fun v0 k0_hw3 r => k0_hw3.2.2.2.2.2.2.2.2.2.2.2.2.1 r
theorem k0_off14_inb : ∀ (v0 : BitVec 32) (k0_hw3 : k0_chk3 v0), ∀ (r : Fin 4), ∀ a, (k0_off14 v0 (k0_off14_at r)) a + S256x1024.size a ≤ S8192x4096.size a := fun v0 k0_hw3 r => k0_hw3.2.2.2.2.2.2.2.2.2.2.2.2.2.1 r
theorem k0_off15_inb : ∀ (v0 : BitVec 32) (k0_hw3 : k0_chk3 v0), ∀ (r : Fin 4), ∀ a, (k0_off15 v0 (k0_off15_at r)) a + S256x1024.size a ≤ S8192x4096.size a := fun v0 k0_hw3 r => k0_hw3.2.2.2.2.2.2.2.2.2.2.2.2.2.2.1 r
theorem k0_off16_inb : ∀ (v0 : BitVec 32) (k0_hw3 : k0_chk3 v0) (k0_t2 : Fin k0_t2_loop.trips), ∀ a, (k0_off16 v0 k0_t2) a + S256x1024.size a ≤ S8192x4096.size a := fun v0 k0_hw3 k0_t2 => k0_hw3.2.2.2.2.2.2.2.2.2.2.2.2.2.2.2.1 k0_t2
theorem k0_off17_inb : ∀ (v0 : BitVec 32) (k0_hw3 : k0_chk3 v0) (k0_t2 : Fin k0_t2_loop.trips), ∀ a, (k0_off17 v0 k0_t2) a + S256x1024.size a ≤ S8192x4096.size a := fun v0 k0_hw3 k0_t2 => k0_hw3.2.2.2.2.2.2.2.2.2.2.2.2.2.2.2.2.1 k0_t2
theorem k0_off18_inb : ∀ (v0 : BitVec 32) (k0_hw3 : k0_chk3 v0) (k0_t2 : Fin k0_t2_loop.trips), ∀ a, (k0_off18 v0 k0_t2) a + S256x1024.size a ≤ S8192x4096.size a := fun v0 k0_hw3 k0_t2 => k0_hw3.2.2.2.2.2.2.2.2.2.2.2.2.2.2.2.2.2.1 k0_t2
theorem k0_off19_inb : ∀ (v0 : BitVec 32) (k0_hw3 : k0_chk3 v0) (k0_t2 : Fin k0_t2_loop.trips), ∀ a, (k0_off19 v0 k0_t2) a + S256x1024.size a ≤ S8192x4096.size a := fun v0 k0_hw3 k0_t2 => k0_hw3.2.2.2.2.2.2.2.2.2.2.2.2.2.2.2.2.2.2.1 k0_t2
theorem k0_off20_inb : ∀ (v0 : BitVec 32) (k0_hw3 : k0_chk3 v0) (k0_t2 : Fin k0_t2_loop.trips), ∀ a, (k0_off20 v0 k0_t2) a + S256x1024.size a ≤ S8192x4096.size a := fun v0 k0_hw3 k0_t2 => k0_hw3.2.2.2.2.2.2.2.2.2.2.2.2.2.2.2.2.2.2.2.1 k0_t2
theorem k0_off21_inb : ∀ (v0 : BitVec 32) (k0_hw3 : k0_chk3 v0) (k0_t2 : Fin k0_t2_loop.trips), ∀ a, (k0_off21 v0 k0_t2) a + S256x1024.size a ≤ S8192x4096.size a := fun v0 k0_hw3 k0_t2 => k0_hw3.2.2.2.2.2.2.2.2.2.2.2.2.2.2.2.2.2.2.2.2.1 k0_t2
theorem k0_off22_inb : ∀ (v0 : BitVec 32) (k0_hw3 : k0_chk3 v0) (k0_t2 : Fin k0_t2_loop.trips), ∀ a, (k0_off22 v0 k0_t2) a + S256x1024.size a ≤ S8192x4096.size a := fun v0 k0_hw3 k0_t2 => k0_hw3.2.2.2.2.2.2.2.2.2.2.2.2.2.2.2.2.2.2.2.2.2.1 k0_t2
theorem k0_off23_inb : ∀ (v0 : BitVec 32) (k0_hw3 : k0_chk3 v0) (k0_t2 : Fin k0_t2_loop.trips), ∀ a, (k0_off23 v0 k0_t2) a + S256x1024.size a ≤ S8192x4096.size a := fun v0 k0_hw3 k0_t2 => k0_hw3.2.2.2.2.2.2.2.2.2.2.2.2.2.2.2.2.2.2.2.2.2.2.1 k0_t2
theorem k0_off24_inb : ∀ (v0 : BitVec 32) (k0_hw3 : k0_chk3 v0) (k0_t2 : Fin k0_t2_loop.trips), ∀ a, (k0_off24 v0 k0_t2) a + S256x1024.size a ≤ S8192x4096.size a := fun v0 k0_hw3 k0_t2 => k0_hw3.2.2.2.2.2.2.2.2.2.2.2.2.2.2.2.2.2.2.2.2.2.2.2.1 k0_t2
theorem k0_off25_inb : ∀ (v0 : BitVec 32) (k0_hw3 : k0_chk3 v0) (k0_t2 : Fin k0_t2_loop.trips), ∀ a, (k0_off25 v0 k0_t2) a + S256x1024.size a ≤ S8192x4096.size a := fun v0 k0_hw3 k0_t2 => k0_hw3.2.2.2.2.2.2.2.2.2.2.2.2.2.2.2.2.2.2.2.2.2.2.2.2.1 k0_t2
theorem k0_off26_inb : ∀ (v0 : BitVec 32) (k0_hw3 : k0_chk3 v0) (k0_t2 : Fin k0_t2_loop.trips), ∀ a, (k0_off26 v0 k0_t2) a + S256x1024.size a ≤ S8192x4096.size a := fun v0 k0_hw3 k0_t2 => k0_hw3.2.2.2.2.2.2.2.2.2.2.2.2.2.2.2.2.2.2.2.2.2.2.2.2.2.1 k0_t2
theorem k0_off27_inb : ∀ (v0 : BitVec 32) (k0_hw3 : k0_chk3 v0) (k0_t2 : Fin k0_t2_loop.trips), ∀ a, (k0_off27 v0 k0_t2) a + S256x1024.size a ≤ S8192x4096.size a := fun v0 k0_hw3 k0_t2 => k0_hw3.2.2.2.2.2.2.2.2.2.2.2.2.2.2.2.2.2.2.2.2.2.2.2.2.2.2 k0_t2

def k0_dev52 (v1 : BitVec 32) : Nat :=
  let c0_i32_1296 : BitVec 32 := 0#32
  let c1_i32_1295 : BitVec 32 := 1#32
  let v1443 : BitVec 32 := Scalar.muli v1 c1_i32_1295
  let v1444 : BitVec 32 := Scalar.addi c0_i32_1296 v1443
  v1444.toNat
def k0_dev53 (v1 : BitVec 32) : Nat :=
  let c0_i32_1301 : BitVec 32 := 0#32
  let c1_i32_1300 : BitVec 32 := 1#32
  let v1451 : BitVec 32 := Scalar.muli v1 c1_i32_1300
  let v1452 : BitVec 32 := Scalar.addi c0_i32_1301 v1451
  v1452.toNat
def k0_dev54 (v2 : BitVec 32) : Nat :=
  let c0_i32_1304 : BitVec 32 := 0#32
  let c1_i32_1303 : BitVec 32 := 1#32
  let v1453 : BitVec 32 := Scalar.muli v2 c1_i32_1303
  let v1454 : BitVec 32 := Scalar.addi c0_i32_1304 v1453
  v1454.toNat
def k0_dev55 (v2 : BitVec 32) : Nat :=
  let c0_i32_800 : BitVec 32 := 0#32
  let c1_i32_799 : BitVec 32 := 1#32
  let v838 : BitVec 32 := Scalar.muli v2 c1_i32_799
  let v839 : BitVec 32 := Scalar.addi c0_i32_800 v838
  v839.toNat
def k0_dev56 (v1 : BitVec 32) : Nat :=
  let c0_i32_837 : BitVec 32 := 0#32
  let c1_i32_836 : BitVec 32 := 1#32
  let v882 : BitVec 32 := Scalar.muli v1 c1_i32_836
  let v883 : BitVec 32 := Scalar.addi c0_i32_837 v882
  v883.toNat
def k0_dev57 (v2 : BitVec 32) : Nat :=
  let c0_i32_872 : BitVec 32 := 0#32
  let c1_i32_871 : BitVec 32 := 1#32
  let v926 : BitVec 32 := Scalar.muli v2 c1_i32_871
  let v927 : BitVec 32 := Scalar.addi c0_i32_872 v926
  v927.toNat
def k0_dev58 (v1 : BitVec 32) : Nat :=
  let c0_i32_907 : BitVec 32 := 0#32
  let c1_i32_906 : BitVec 32 := 1#32
  let v970 : BitVec 32 := Scalar.muli v1 c1_i32_906
  let v971 : BitVec 32 := Scalar.addi c0_i32_907 v970
  v971.toNat
def k0_dev59 (v1 : BitVec 32) : Nat :=
  let c0_i32_912 : BitVec 32 := 0#32
  let c1_i32_911 : BitVec 32 := 1#32
  let v978 : BitVec 32 := Scalar.muli v1 c1_i32_911
  let v979 : BitVec 32 := Scalar.addi c0_i32_912 v978
  v979.toNat
def k0_dev60 (v2 : BitVec 32) : Nat :=
  let c0_i32_915 : BitVec 32 := 0#32
  let c1_i32_914 : BitVec 32 := 1#32
  let v980 : BitVec 32 := Scalar.muli v2 c1_i32_914
  let v981 : BitVec 32 := Scalar.addi c0_i32_915 v980
  v981.toNat
def k0_dev61 (v1 : BitVec 32) : Nat :=
  let c0_i32_998 : BitVec 32 := 0#32
  let c1_i32_997 : BitVec 32 := 1#32
  let v1074 : BitVec 32 := Scalar.muli v1 c1_i32_997
  let v1075 : BitVec 32 := Scalar.addi c0_i32_998 v1074
  v1075.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev11 v1) < nD) ∧
  ((k0_dev14 v1) < nD) ∧
  ((k0_dev16 v1) < nD) ∧
  ((k0_dev17 v1) < nD) ∧
  ((k0_dev20 v1) < nD) ∧
  ((k0_dev22 v1) < nD) ∧
  ((k0_dev23 v1) < nD) ∧
  ((k0_dev26 v1) < nD) ∧
  ((k0_dev28 v1) < nD) ∧
  ((k0_dev29 v1) < nD) ∧
  ((k0_dev31 v1) < nD) ∧
  ((k0_dev34 v1) < nD) ∧
  ((k0_dev36 v1) < nD) ∧
  ((k0_dev38 v1) < nD) ∧
  ((k0_dev40 v1) < nD) ∧
  ((k0_dev41 v1) < nD) ∧
  ((k0_dev44 v1) < nD) ∧
  ((k0_dev46 v1) < nD) ∧
  ((k0_dev47 v1) < nD) ∧
  ((k0_dev50 v1) < nD) ∧
  ((k0_dev52 v1) < nD) ∧
  ((k0_dev53 v1) < nD) ∧
  ((k0_dev56 v1) < nD) ∧
  ((k0_dev58 v1) < nD) ∧
  ((k0_dev59 v1) < nD) ∧
  ((k0_dev61 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev11_lt : ∀ (v1 : BitVec 32) (k0_hw1 : k0_chk1 v1), (k0_dev11 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev17_lt : ∀ (v1 : BitVec 32) (k0_hw1 : k0_chk1 v1), (k0_dev17 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev23_lt : ∀ (v1 : BitVec 32) (k0_hw1 : k0_chk1 v1), (k0_dev23 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev29_lt : ∀ (v1 : BitVec 32) (k0_hw1 : k0_chk1 v1), (k0_dev29 v1) < nD := fun v1 k0_hw1 => k0_hw1.2.2.2.2.2.2.2.2.2.2.2.2.2.2.1
theorem k0_dev31_lt : ∀ (v1 : BitVec 32) (k0_hw1 : k0_chk1 v1), (k0_dev31 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.2.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.2.2.2.2.2.2.2.2.2.2.2.2.2.2.2.2.2.2.2.2.2.2.2.2.2.2.2.2.2.2

def k0_dev62 (v2 : BitVec 32) : Nat :=
  let c0_i32_1001 : BitVec 32 := 0#32
  let c1_i32_1000 : BitVec 32 := 1#32
  let v1076 : BitVec 32 := Scalar.muli v2 c1_i32_1000
  let v1077 : BitVec 32 := Scalar.addi c0_i32_1001 v1076
  v1077.toNat

def k0_chk2 (v2 : BitVec 32) : Prop :=
  ((k0_dev2 v2) < nD) ∧
  ((k0_dev3 v2) < nD) ∧
  ((k0_dev5 v2) < nD) ∧
  ((k0_dev7 v2) < nD) ∧
  ((k0_dev9 v2) < nD) ∧
  ((k0_dev12 v2) < nD) ∧
  ((k0_dev13 v2) < nD) ∧
  ((k0_dev15 v2) < nD) ∧
  ((k0_dev18 v2) < nD) ∧
  ((k0_dev19 v2) < nD) ∧
  ((k0_dev21 v2) < nD) ∧
  ((k0_dev24 v2) < nD) ∧
  ((k0_dev25 v2) < nD) ∧
  ((k0_dev27 v2) < nD) ∧
  ((k0_dev30 v2) < nD) ∧
  ((k0_dev32 v2) < nD) ∧
  ((k0_dev33 v2) < nD) ∧
  ((k0_dev35 v2) < nD) ∧
  ((k0_dev37 v2) < nD) ∧
  ((k0_dev39 v2) < nD) ∧
  ((k0_dev42 v2) < nD) ∧
  ((k0_dev43 v2) < nD) ∧
  ((k0_dev45 v2) < nD) ∧
  ((k0_dev48 v2) < nD) ∧
  ((k0_dev49 v2) < nD) ∧
  ((k0_dev51 v2) < nD) ∧
  ((k0_dev54 v2) < nD) ∧
  ((k0_dev55 v2) < nD) ∧
  ((k0_dev57 v2) < nD) ∧
  ((k0_dev60 v2) < nD) ∧
  ((k0_dev62 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2), (k0_dev3 v2) < nD := fun v2 k0_hw2 => k0_hw2.2.1
theorem k0_dev5_lt : ∀ (v2 : BitVec 32) (k0_hw2 : k0_chk2 v2), (k0_dev5 v2) < nD := fun v2 k0_hw2 => k0_hw2.2.2.1
theorem k0_dev7_lt : ∀ (v2 : BitVec 32) (k0_hw2 : k0_chk2 v2), (k0_dev7 v2) < nD := fun v2 k0_hw2 => k0_hw2.2.2.2.1
theorem k0_dev9_lt : ∀ (v2 : BitVec 32) (k0_hw2 : k0_chk2 v2), (k0_dev9 v2) < nD := fun v2 k0_hw2 => k0_hw2.2.2.2.2.1
theorem k0_dev12_lt : ∀ (v2 : BitVec 32) (k0_hw2 : k0_chk2 v2), (k0_dev12 v2) < nD := fun v2 k0_hw2 => k0_hw2.2.2.2.2.2.1
theorem k0_dev13_lt : ∀ (v2 : BitVec 32) (k0_hw2 : k0_chk2 v2), (k0_dev13 v2) < nD := fun v2 k0_hw2 => k0_hw2.2.2.2.2.2.2.1
theorem k0_dev15_lt : ∀ (v2 : BitVec 32) (k0_hw2 : k0_chk2 v2), (k0_dev15 v2) < nD := fun v2 k0_hw2 => k0_hw2.2.2.2.2.2.2.2.1
theorem k0_dev18_lt : ∀ (v2 : BitVec 32) (k0_hw2 : k0_chk2 v2), (k0_dev18 v2) < nD := fun v2 k0_hw2 => k0_hw2.2.2.2.2.2.2.2.2.1
theorem k0_dev19_lt : ∀ (v2 : BitVec 32) (k0_hw2 : k0_chk2 v2), (k0_dev19 v2) < nD := fun v2 k0_hw2 => k0_hw2.2.2.2.2.2.2.2.2.2.1
theorem k0_dev21_lt : ∀ (v2 : BitVec 32) (k0_hw2 : k0_chk2 v2), (k0_dev21 v2) < nD := fun v2 k0_hw2 => k0_hw2.2.2.2.2.2.2.2.2.2.2.1
theorem k0_dev24_lt : ∀ (v2 : BitVec 32) (k0_hw2 : k0_chk2 v2), (k0_dev24 v2) < nD := fun v2 k0_hw2 => k0_hw2.2.2.2.2.2.2.2.2.2.2.2.1
theorem k0_dev25_lt : ∀ (v2 : BitVec 32) (k0_hw2 : k0_chk2 v2), (k0_dev25 v2) < nD := fun v2 k0_hw2 => k0_hw2.2.2.2.2.2.2.2.2.2.2.2.2.1
theorem k0_dev27_lt : ∀ (v2 : BitVec 32) (k0_hw2 : k0_chk2 v2), (k0_dev27 v2) < nD := fun v2 k0_hw2 => k0_hw2.2.2.2.2.2.2.2.2.2.2.2.2.2.1
theorem k0_dev30_lt : ∀ (v2 : BitVec 32) (k0_hw2 : k0_chk2 v2), (k0_dev30 v2) < nD := fun v2 k0_hw2 => k0_hw2.2.2.2.2.2.2.2.2.2.2.2.2.2.2.1
theorem k0_dev32_lt : ∀ (v2 : BitVec 32) (k0_hw2 : k0_chk2 v2), (k0_dev32 v2) < nD := fun v2 k0_hw2 => k0_hw2.2.2.2.2.2.2.2.2.2.2.2.2.2.2.2.1
theorem k0_dev33_lt : ∀ (v2 : BitVec 32) (k0_hw2 : k0_chk2 v2), (k0_dev33 v2) < nD := fun v2 k0_hw2 => k0_hw2.2.2.2.2.2.2.2.2.2.2.2.2.2.2.2.2.1
theorem k0_dev35_lt : ∀ (v2 : BitVec 32) (k0_hw2 : k0_chk2 v2), (k0_dev35 v2) < nD := fun v2 k0_hw2 => k0_hw2.2.2.2.2.2.2.2.2.2.2.2.2.2.2.2.2.2.1
theorem k0_dev37_lt : ∀ (v2 : BitVec 32) (k0_hw2 : k0_chk2 v2), (k0_dev37 v2) < nD := fun v2 k0_hw2 => k0_hw2.2.2.2.2.2.2.2.2.2.2.2.2.2.2.2.2.2.2.1
theorem k0_dev39_lt : ∀ (v2 : BitVec 32) (k0_hw2 : k0_chk2 v2), (k0_dev39 v2) < nD := fun v2 k0_hw2 => k0_hw2.2.2.2.2.2.2.2.2.2.2.2.2.2.2.2.2.2.2.2.1
theorem k0_dev42_lt : ∀ (v2 : BitVec 32) (k0_hw2 : k0_chk2 v2), (k0_dev42 v2) < nD := fun v2 k0_hw2 => k0_hw2.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.2.2.2.2.2.2.2.2.2.2.2.2.2.2.2.2.2.2.2.2.2.2.1
theorem k0_dev48_lt : ∀ (v2 : BitVec 32) (k0_hw2 : k0_chk2 v2), (k0_dev48 v2) < nD := fun v2 k0_hw2 => k0_hw2.2.2.2.2.2.2.2.2.2.2.2.2.2.2.2.2.2.2.2.2.2.2.2.1
theorem k0_dev49_lt : ∀ (v2 : BitVec 32) (k0_hw2 : k0_chk2 v2), (k0_dev49 v2) < nD := fun v2 k0_hw2 => k0_hw2.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.2.2.2.2.2.2.2.2.2.2.2.2.2.2.2.2.2.2.2.2.2.2.2.2.2.1
theorem k0_dev54_lt : ∀ (v2 : BitVec 32) (k0_hw2 : k0_chk2 v2), (k0_dev54 v2) < nD := fun v2 k0_hw2 => k0_hw2.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.2.2.2.2.2.2.2.2.2.2.2.2.2.2.2.2.2.2.2.2.2.2.2.2.2.2.2.2.1
theorem k0_dev60_lt : ∀ (v2 : BitVec 32) (k0_hw2 : k0_chk2 v2), (k0_dev60 v2) < nD := fun v2 k0_hw2 => k0_hw2.2.2.2.2.2.2.2.2.2.2.2.2.2.2.2.2.2.2.2.2.2.2.2.2.2.2.2.2.2.1
theorem k0_dev62_lt : ∀ (v2 : BitVec 32) (k0_hw2 : k0_chk2 v2), (k0_dev62 v2) < nD := fun v2 k0_hw2 => k0_hw2.2.2.2.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Clean.lean ====
/- The kernel's program in a direction-generic form: one block per thing the kernel does (wait for a pair of copies and add, send on, wait for an
   acknowledgement, recompute a partial product, acknowledge), each over the direction, the column half and the buffer slot, chained by continuations.
   The printed body is this program, by `rfl`. -/
module

public import proofs.«01_k».proof.Proof.Gen.KernelIdeal.Skeleton
public import proofs.«01_k».proof.Proof.Gen.KernelIdeal.Points

@[expose] public section

noncomputable section

namespace Cert.KernelIdeal.AR

open Idealize.ShloMosaic Idealize.SL.Sem Cert.KernelIdeal Cert.KernelIdeal.Gen

variable {F : FTy → Type} [FloatOps F]

/-! ## Buffers and semaphores by direction (`false`: clockwise, to the right neighbour), column half and slot -/

/-- The accumulator a direction sends from. -/
abbrev acc : Bool → Memref sig .tc .vmem S256x2048 .f32
  | false => Memref.whole cc0_scratch0
  | true => Memref.whole cc0_scratch1
/-- The next block's own partial product. -/
abbrev tmp : Bool → Memref sig .tc .vmem S256x2048 .f32
  | false => Memref.whole cc0_scratch2
  | true => Memref.whole cc0_scratch3
/-- The two slots a direction receives into. -/
abbrev comm : Bool → Memref sig .tc .vmem S2x256x2048 .f32
  | false => Memref.whole cc0_scratch4
  | true => Memref.whole cc0_scratch5

/-- First column of a half of a 2048-wide buffer. -/
abbrev col : Bool → ℕ
  | false => 0
  | true => 1024
/-- First column of a direction's half of the result. -/
abbrev base : Bool → ℕ
  | false => 0
  | true => 2048
abbrev sl : Bool → ℕ
  | false => 0
  | true => 1
/-- Index of a slot's and half's semaphore within its array. -/
abbrev six : Bool → Bool → ℕ
  | false, false => 0
  | false, true => 1
  | true, false => 2
  | true, true => 3

theorem inb_half (u : Bool) : ∀ a, (![0, col u] : Fin 2 → ℕ) a + S256x1024.size a ≤ S256x2048.size a := by
  cases u
  · exact inb_S256x2048_S256x1024_0_0
  · exact inb_S256x2048_S256x1024_0_1024
theorem inb_slot (σ u : Bool) : ∀ a, (![sl σ, 0, col u] : Fin 3 → ℕ) a + S1x256x1024.size a ≤ S2x256x2048.size a := by
  cases σ <;> cases u
  · exact inb_S2x256x2048_S1x256x1024_0_0_0
  · exact inb_S2x256x2048_S1x256x1024_0_0_1024
  · exact inb_S2x256x2048_S1x256x1024_1_0_0
  · exact inb_S2x256x2048_S1x256x1024_1_0_1024
theorem inb_six (σ u : Bool) : ∀ a, (![six σ u] : Fin 1 → ℕ) a + S1.size a ≤ S4.size a := by
  cases σ <;> cases u
  · exact inb_S4_S1_0
  · exact inb_S4_S1_1
  · exact inb_S4_S1_2
  · exact inb_S4_S1_3
theorem inb_w (d : Bool) : ∀ a, (![0, base d] : Fin 2 → ℕ) a + S256x2048.size a ≤ S256x4096.size a := by
  cases d
  · exact inb_S256x4096_S256x2048_0_0
  · exact inb_S256x4096_S256x2048_0_2048
theorem inb_two (d : Bool) : ∀ a, (![sl d] : Fin 1 → ℕ) a + S1.size a ≤ S2.size a := by
  cases d
  · exact inb_S2_S1_0
  · exact inb_S2_S1_1

abbrev halfR (u : Bool) : Rect S256x2048 := Rect.unit (s := S256x2048) ![0, col u] S256x1024.size (inb_half u)
abbrev slotR (σ u : Bool) : Rect S2x256x2048 := Rect.unit (s := S2x256x2048) ![sl σ, 0, col u] S1x256x1024.size (inb_slot σ u)
abbrev fullR : Rect S256x2048 := Rect.unit (s := S256x2048) ![0, 0] S256x2048.size inb_S256x2048_S256x2048_0_0
abbrev wR (d : Bool) : Rect S256x4096 := Rect.unit (s := S256x4096) ![0, base d] S256x2048.size (inb_w d)

/-- A column half of the accumulator, as a copy's source. -/
abbrev accM (d u : Bool) : Memref sig .tc .vmem S256x1024 .f32 := (acc d).slice (halfR u) (fun _ => rfl)
/-- A column half of a slot, as a copy's target. -/
abbrev commM (d σ u : Bool) : Memref sig .tc .vmem S256x1024 .f32 :=
  ((comm d).slice (slotR σ u) (fun _ => rfl)).squeeze S256x1024 squeezes_S1x256x1024_S256x1024
/-- A row block of the result, one column quarter. -/
abbrev outM (off : Fin 2 → ℕ) (h : ∀ a, off a + S256x1024.size a ≤ S8192x4096.size a) : Memref sig .tc .hbm S256x1024 .f32 :=
  (Memref.whole main_v28).slice (Rect.unit (s := S8192x4096) off S256x1024.size h) (fun _ => rfl)
/-- A row block of the result, one direction's half. -/
abbrev outW (off : Fin 2 → ℕ) (h : ∀ a, off a + S256x2048.size a ≤ S8192x4096.size a) : Memref sig .tc .hbm S256x2048 .f32 :=
  (Memref.whole main_v28).slice (Rect.unit (s := S8192x4096) off S256x2048.size h) (fun _ => rfl)

abbrev sArr : Bool → DmaSems sig S4
  | false => cc0_scratch6
  | true => cc0_scratch8
abbrev rArr : Bool → DmaSems sig S4
  | false => cc0_scratch7
  | true => cc0_scratch9
abbrev aArr : Bool → Sems sig S_
  | false => cc0_scratch11
  | true => cc0_scratch12
abbrev sS (d σ u : Bool) := (((sArr d).slice (Rect.unit (s := S4) ![six σ u] S1.size (inb_six σ u))).squeeze S_ squeezes_S1_S_).sem
abbrev rS (d σ u : Bool) := (((rArr d).slice (Rect.unit (s := S4) ![six σ u] S1.size (inb_six σ u))).squeeze S_ squeezes_S1_S_).sem
abbrev stS (d : Bool) := ((cc0_scratch10.slice (Rect.unit (s := S2) ![sl d] S1.size (inb_two d))).squeeze S_ squeezes_S1_S_).sem
abbrev aS (d : Bool) := (aArr d).sem
abbrev bS := (SemArray.scalar (sig.barrier 0 rfl) : Sems sig S_).sem

/-! ## The blocks -/

abbrev PK (F : FTy → Type) [FloatOps F] := Prog (TpuEff nD τ sig (Elt F) Λ₀ .tc) PUnit

/-- Wait for the sent copy and the received one of a half, and add the received half to the own partial product. -/
def rsBlk (d u σ : Bool) (k : PK F) : PK F :=
  .op (.waitDma2 (sS d σ u) (commM d σ u) (accM d u) ((View.wordExact_bits rfl).reshape _ _) (View.wordExact_bits rfl)) fun _ =>
  .op (.waitDma2 (rS d σ u) (accM d u) (commM d σ u) (View.wordExact_bits rfl) ((View.wordExact_bits rfl).reshape _ _)) fun _ =>
  .op (.load (comm d) (slotR σ u).toLoadRect (View.loadsAt_vmem h_S1x256x1024)) fun x =>
  .op (.load (tmp d) (halfR u).toLoadRect (View.loadsAt_vmem h_S256x1024)) fun y =>
  .op (.load (acc d) (halfR u).toLoadRect (View.loadsAt_vmem h_S256x1024)) fun _ =>
  .op (.store (acc d) (halfR u) (k0_pay1 x y) Finset.univ (View.stores_vmem_bits_univ h_S256x1024 rfl) (.inl rfl)) fun _ => k

/-- Send a half of the accumulator into a slot of the neighbour. -/
def rsSend (d u σ : Bool) (dev : Dev nD) (k : PK F) : PK F :=
  .op (.enqueueDma (accM d u) (.remote (Dev.tc dev) (commM d σ u) (.dma (sS d σ u))) (.dma (rS d σ u)) (View.wordExact_bits rfl)
    ((View.wordExact_bits rfl).reshape _ _) ⟨⟨rfl, Or.inl rfl⟩, trivial⟩) fun _ => k

/-- One unit of acknowledgement. -/
def ackW (d : Bool) (n : BitVec 32) (k : PK F) : PK F := .op (.semWait (aS d) n.toInt) fun _ => k
/-- Give the acknowledgement cell of `dev` one unit. -/
def ackS (d : Bool) (dev : Dev nD) (k : PK F) : PK F := .op (.semSignal (dev, Proc.tc) (aS d) (1#32 : BitVec 32).toInt) fun _ => k

variable (a1 : Memref sig .tc .vmem S8192x256 .f32) (a2 : Memref sig .tc .vmem S256x4096 .f32)

/-- Compute a row block's own partial product into a buffer. -/
def mm (t : Memref sig .tc .vmem S256x2048 .f32) (d : Bool) (off : Fin 2 → ℕ) (h : ∀ a, off a + S256x256.size a ≤ S8192x256.size a) (k : PK F) : PK F :=
  .op (.load a1 (Rect.unit (s := S8192x256) off S256x256.size h).toLoadRect (View.loadsAt_vmem h_S256x256)) fun x =>
  .op (.load a2 (wR d).toLoadRect (View.loadsAt_vmem h_S256x2048)) fun y =>
  .op (.load t fullR.toLoadRect (View.loadsAt_vmem h_S256x2048)) fun _ =>
  .op (.store t fullR (k0_pay18 x y) Finset.univ (View.stores_vmem_bits_univ h_S256x2048 rfl) (.inl rfl)) fun _ => k

/-- The acknowledgement wait of an iteration that has one. -/
def ackIf (b : Bool) (d : Bool) (k : PK F) : PK F := match b with
  | true => ackW d 1#32 k
  | false => k

/-- One reduce-scatter iteration that sends on: slot `σ` is read, slot `!σ` is sent to. -/
def rsIter (wt σ : Bool) (R L : Dev nD) (off off' : Fin 2 → ℕ) (h : ∀ a, off a + S256x256.size a ≤ S8192x256.size a)
    (h' : ∀ a, off' a + S256x256.size a ≤ S8192x256.size a) (k : PK F) : PK F :=
  rsBlk false false σ <| ackIf wt false <| rsSend false false (!σ) R <|
  rsBlk true false σ <| ackIf wt true <| rsSend true false (!σ) L <|
  rsBlk false true σ <| rsSend false true (!σ) R <|
  rsBlk true true σ <| rsSend true true (!σ) L <|
  mm a1 a2 (tmp false) false off h <| mm a1 a2 (tmp true) true off' h' <|
  ackS false L <| ackS true R k

/-- The last reduce-scatter iteration. -/
def rsLast (σ : Bool) (R L : Dev nD) (k : PK F) : PK F :=
  rsBlk false false σ <| rsBlk true false σ <| rsBlk false true σ <| rsBlk true true σ <|
  ackS false L <| ackS true R k

/-- Wait for the copies of the gather's first step: sent from the accumulator, received in a row block of the result. -/
def agBlk0 (d u σ : Bool) (off : Fin 2 → ℕ) (h : ∀ a, off a + S256x1024.size a ≤ S8192x4096.size a) (k : PK F) : PK F :=
  .op (.waitDma2 (sS d σ u) (outM off h) (accM d u) (View.wordExact_bits rfl) (View.wordExact_bits rfl)) fun _ =>
  .op (.waitDma2 (rS d σ u) (accM d u) (outM off h) (View.wordExact_bits rfl) (View.wordExact_bits rfl)) fun _ => k
/-- Wait for the copies of a later step of the gather. -/
def agBlk (d u σ : Bool) (off : Fin 2 → ℕ) (h : ∀ a, off a + S256x1024.size a ≤ S8192x4096.size a) (k : PK F) : PK F :=
  .op (.waitDma2 (sS d σ u) (outM off h) (outM off h) (View.wordExact_bits rfl) (View.wordExact_bits rfl)) fun _ =>
  .op (.waitDma2 (rS d σ u) (outM off h) (outM off h) (View.wordExact_bits rfl) (View.wordExact_bits rfl)) fun _ => k

/-- Send a half of the accumulator to a row block of the neighbour's result. -/
def agSend0 (d u σ : Bool) (dev : Dev nD) (off : Fin 2 → ℕ) (h : ∀ a, off a + S256x1024.size a ≤ S8192x4096.size a) (k : PK F) : PK F :=
  .op (.enqueueDma (accM d u) (.remote (Dev.tc dev) (outM off h) (.dma (sS d σ u))) (.dma (rS d σ u)) (View.wordExact_bits rfl)
    (View.wordExact_bits rfl) ⟨⟨rfl, Or.inl rfl⟩, trivial⟩) fun _ => k
/-- Send a row block of the result to the same rows of the neighbour's. -/
def agSend (d u σ : Bool) (dev : Dev nD) (off : Fin 2 → ℕ) (h : ∀ a, off a + S256x1024.size a ≤ S8192x4096.size a) (k : PK F) : PK F :=
  .op (.enqueueDma (outM off h) (.remote (Dev.tc dev) (outM off h) (.dma (sS d σ u))) (.dma (rS d σ u)) (View.wordExact_bits rfl)
    (View.wordExact_bits rfl) ⟨⟨rfl, Or.inl rfl⟩, trivial⟩) fun _ => k

/-- Where a row block lies in the result: its first row and column, and that it fits. -/
abbrev Blk := { off : Fin 2 → ℕ // ∀ a, off a + S256x1024.size a ≤ S8192x4096.size a }

/-- One iteration of the gather that sends on: what was received (`A`) is what is sent (`B`: the rows sent). -/
def agIter (σ : Bool) (R L : Dev nD) (A B : Bool → Bool → Blk) (k : PK F) : PK F :=
  agBlk false false σ (A false false).1 (A false false).2 <| ackW false 1#32 <| agSend false false (!σ) R (B false false).1 (B false false).2 <|
  agBlk true false σ (A true false).1 (A true false).2 <| ackW true 1#32 <| agSend true false (!σ) L (B true false).1 (B true false).2 <|
  agBlk false true σ (A false true).1 (A false true).2 <| agSend false true (!σ) R (B false true).1 (B false true).2 <|
  agBlk true true σ (A true true).1 (A true true).2 <| agSend true true (!σ) L (B true true).1 (B true true).2 <|
  ackS false L <| ackS true R k
/-- The first. -/
def agIter0 (σ : Bool) (R L : Dev nD) (A B : Bool → Bool → Blk) (k : PK F) : PK F :=
  agBlk0 false false σ (A false false).1 (A false false).2 <| ackW false 1#32 <| agSend false false (!σ) R (B false false).1 (B false false).2 <|
  agBlk0 true false σ (A true false).1 (A true false).2 <| ackW true 1#32 <| agSend true false (!σ) L (B true false).1 (B true false).2 <|
  agBlk0 false true σ (A false true).1 (A false true).2 <| agSend false true (!σ) R (B false true).1 (B false true).2 <|
  agBlk0 true true σ (A true true).1 (A true true).2 <| agSend true true (!σ) L (B true true).1 (B true true).2 <|
  ackS false L <| ackS true R k
/-- The last. -/
def agLast (σ : Bool) (R L : Dev nD) (A : Bool → Bool → Blk) (k : PK F) : PK F :=
  agBlk false false σ (A false false).1 (A false false).2 <| agBlk true false σ (A true false).1 (A true false).2 <|
  agBlk false true σ (A false true).1 (A false true).2 <| agBlk true true σ (A true true).1 (A true true).2 <|
  ackS false L <| ackS true R k

/-- The copy of a finished accumulator to the result on the same device. -/
def stCopy (d : Bool) (off : Fin 2 → ℕ) (h : ∀ a, off a + S256x2048.size a ≤ S8192x4096.size a) (k : PK F) : PK F :=
  .op (.enqueueDma (acc d) (.here (outW off h)) (.dma (stS d)) (View.wordExact_bits rfl) (View.wordExact_bits rfl) ⟨Or.inl rfl, trivial⟩) fun _ => k
def stWait (d : Bool) (off : Fin 2 → ℕ) (h : ∀ a, off a + S256x2048.size a ≤ S8192x4096.size a) (k : PK F) : PK F :=
  .op (.waitDma2 (stS d) (acc d) (outW off h) (View.wordExact_bits rfl) (View.wordExact_bits rfl)) fun _ => k

/-- Give the barrier cell of `dev` one unit. -/
def barS (dev : Dev nD) (k : PK F) : PK F := .op (.semSignal (dev, Proc.tc) bS (1#32 : BitVec 32).toInt) fun _ => k
def barW (k : PK F) : PK F := .op (.semWait bS (2#32 : BitVec 32).toInt) fun _ => k

variable (v0 : Elt F .i32) (hw3 : k0_chk3 v0) (v1 : Elt F .i32) (hw1 : k0_chk1 v1) (v2 : Elt F .i32) (hw2 : k0_chk2 v2)

/-- The left and right neighbours, as the loaded words name them. -/
abbrev lft (v1 : BitVec 32) (hw1 : k0_chk1 v1) : Dev nD := ⟨k0_dev1 v1, k0_dev1_lt v1 hw1⟩
abbrev rgt (v2 : BitVec 32) (hw2 : k0_chk2 v2) : Dev nD := ⟨k0_dev2 v2, k0_dev2_lt v2 hw2⟩

/-- The row blocks of the gather's steps 0, 1, 29, 30 (`r` numbers them). -/
abbrev blkC (r : Fin 4) : Bool → Bool → Blk
  | false, false => ⟨k0_off12 v0 (k0_off12_at r), k0_off12_inb v0 hw3 r⟩
  | true, false => ⟨k0_off13 v0 (k0_off13_at r), k0_off13_inb v0 hw3 r⟩
  | false, true => ⟨k0_off14 v0 (k0_off14_at r), k0_off14_inb v0 hw3 r⟩
  | true, true => ⟨k0_off15 v0 (k0_off15_at r), k0_off15_inb v0 hw3 r⟩
/-- The row blocks of a trip of the gather's loop: received first, sent first (received second), sent second. -/
abbrev blkP (t : Fin k0_t2_loop.trips) : Bool → Bool → Blk
  | false, false => ⟨k0_off16 v0 t, k0_off16_inb v0 hw3 t⟩
  | true, false => ⟨k0_off18 v0 t, k0_off18_inb v0 hw3 t⟩
  | false, true => ⟨k0_off20 v0 t, k0_off20_inb v0 hw3 t⟩
  | true, true => ⟨k0_off22 v0 t, k0_off22_inb v0 hw3 t⟩
abbrev blkQ (t : Fin k0_t2_loop.trips) : Bool → Bool → Blk
  | false, false => ⟨k0_off17 v0 t, k0_off17_inb v0 hw3 t⟩
  | true, false => ⟨k0_off19 v0 t, k0_off19_inb v0 hw3 t⟩
  | false, true => ⟨k0_off21 v0 t, k0_off21_inb v0 hw3 t⟩
  | true, true => ⟨k0_off23 v0 t, k0_off23_inb v0 hw3 t⟩
abbrev blkR (t : Fin k0_t2_loop.trips) : Bool → Bool → Blk
  | false, false => ⟨k0_off24 v0 t, k0_off24_inb v0 hw3 t⟩
  | true, false => ⟨k0_off25 v0 t, k0_off25_inb v0 hw3 t⟩
  | false, true => ⟨k0_off26 v0 t, k0_off26_inb v0 hw3 t⟩
  | true, true => ⟨k0_off27 v0 t, k0_off27_inb v0 hw3 t⟩

/-- A trip of the reduce-scatter loop. -/
def rsTrip (t : Fin k0_t1_loop.trips) (k : PK F) : PK F :=
  rsIter a1 a2 true true (rgt v2 hw2) (lft v1 hw1) (k0_off6 v0 t) (k0_off7 v0 t) (k0_off6_inb v0 hw3 t) (k0_off7_inb v0 hw3 t) <|
  rsIter a1 a2 true false (rgt v2 hw2) (lft v1 hw1) (k0_off8 v0 t) (k0_off9 v0 t) (k0_off8_inb v0 hw3 t) (k0_off9_inb v0 hw3 t) k
/-- A trip of the gather's loop. -/
def agTrip (t : Fin k0_t2_loop.trips) (k : PK F) : PK F :=
  agIter false (rgt v2 hw2) (lft v1 hw1) (blkP v0 hw3 t) (blkQ v0 hw3 t) <|
  agIter true (rgt v2 hw2) (lft v1 hw1) (blkQ v0 hw3 t) (blkR v0 hw3 t) k

/-- The end: the gather's last two steps, and the waits that close the protocol. -/
def fin : PK F :=
  agIter false (rgt v2 hw2) (lft v1 hw1) (blkC v0 hw3 2) (blkC v0 hw3 3) <|
  agLast true (rgt v2 hw2) (lft v1 hw1) (blkC v0 hw3 3) <|
  stWait false (k0_off10 v0) (k0_off10_inb v0 hw3) <| stWait true (k0_off11 v0) (k0_off11_inb v0 hw3) <|
  ackW false 2#32 <| ackW true 2#32 <| .ret ⟨⟩
/-- The reduce-scatter's last two steps, the copies to the result, and the gather up to its loop. -/
def mid (k : PK F) : PK F :=
  rsIter a1 a2 true true (rgt v2 hw2) (lft v1 hw1) (k0_off4 v0 29#32) (k0_off5 v0 29#32) (k0_off4_inb v0 hw3 1) (k0_off5_inb v0 hw3 1) <|
  rsLast false (rgt v2 hw2) (lft v1 hw1) <|
  stCopy false (k0_off10 v0) (k0_off10_inb v0 hw3) <| stCopy true (k0_off11 v0) (k0_off11_inb v0 hw3) <|
  ackW false 1#32 <| ackW true 1#32 <|
  agSend0 false false true (rgt v2 hw2) (blkC v0 hw3 0 false false).1 (blkC v0 hw3 0 false false).2 <|
  agSend0 true false true (lft v1 hw1) (blkC v0 hw3 0 true false).1 (blkC v0 hw3 0 true false).2 <|
  agSend0 false true true (rgt v2 hw2) (blkC v0 hw3 0 false true).1 (blkC v0 hw3 0 false true).2 <|
  agSend0 true true true (lft v1 hw1) (blkC v0 hw3 0 true true).1 (blkC v0 hw3 0 true true).2 <|
  agIter0 true (rgt v2 hw2) (lft v1 hw1) (blkC v0 hw3 0) (blkC v0 hw3 1) k
/-- The start: the barrier, the first partial products, the first sends and the first reduce-scatter step. -/
def pro (k : PK F) : PK F :=
  barS (lft v1 hw1) <| barS (rgt v2 hw2) <| barW <|
  mm a1 a2 (acc false) false (k0_off1 v0) (k0_off1_inb v0 hw3) <| mm a1 a2 (acc true) true (k0_off1 v0) (k0_off1_inb v0 hw3) <|
  rsSend false false false (rgt v2 hw2) <| rsSend true false false (lft v1 hw1) <|
  rsSend false true false (rgt v2 hw2) <| rsSend true true false (lft v1 hw1) <|
  mm a1 a2 (tmp false) false (k0_off2 v0) (k0_off2_inb v0 hw3) <| mm a1 a2 (tmp true) true (k0_off3 v0) (k0_off3_inb v0 hw3) <|
  rsIter a1 a2 false false (rgt v2 hw2) (lft v1 hw1) (k0_off4 v0 0#32) (k0_off5 v0 0#32) (k0_off4_inb v0 hw3 0) (k0_off5_inb v0 hw3 0) k

variable (a0 : Memref sig .tc .smem S3 .i32) (h0 : a0.IsWhole) (h1 : a1.IsWhole) (h2 : a2.IsWhole)

abbrev t1B (z : FVec F S256x2048 .f32) := k0_t1_body a0 h0 a1 h1 a2 h2 (Memref.whole main_v28) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v0 hw3 v1 hw1 v2 hw2 z
abbrev t2B (z : BitVec 32) := k0_t2_body (F := F) a0 h0 a1 h1 a2 h2 (Memref.whole main_v28) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v0 hw3 v1 hw1 v2 hw2 z

set_option maxRecDepth 65536 in
set_option maxHeartbeats 8000000 in
theorem t1_eq (z : FVec F S256x2048 .f32) (t : Fin k0_t1_loop.trips) (f : Unit → PK F) :
    Prog.bind (t1B a1 a2 v0 hw3 v1 hw1 v2 hw2 a0 h0 h1 h2 z t ⟨⟩) f = rsTrip a1 a2 v0 hw3 v1 hw1 v2 hw2 t (f ⟨⟩) := by
  rfl
set_option maxRecDepth 65536 in
set_option maxHeartbeats 8000000 in
theorem t2_eq (z : BitVec 32) (t : Fin k0_t2_loop.trips) (f : Unit → PK F) :
    Prog.bind (t2B a1 a2 v0 hw3 v1 hw1 v2 hw2 a0 h0 h1 h2 z t ⟨⟩) f = agTrip v0 hw3 v1 hw1 v2 hw2 t (f ⟨⟩) := by
  rfl

/-- The reduce-scatter loop and the gather's. -/
def loop1 : Prog (TpuEff nD τ sig (Elt F) Λ₀ .tc) Unit :=
  Scf.Loop.for k0_t1_loop k0_t1_ok ⟨⟩ (fun t _ => rsTrip a1 a2 v0 hw3 v1 hw1 v2 hw2 t (.ret ⟨⟩))
def loop2 : Prog (TpuEff nD τ sig (Elt F) Λ₀ .tc) Unit :=
  Scf.Loop.for k0_t2_loop k0_t2_ok ⟨⟩ (fun t _ => agTrip v0 hw3 v1 hw1 v2 hw2 t (.ret ⟨⟩))

/-- Everything after the prologue. -/
def rest : PK F :=
  Prog.bind (loop1 a1 a2 v0 hw3 v1 hw1 v2 hw2) fun _ => mid a1 a2 v0 hw3 v1 hw1 v2 hw2 <|
  Prog.bind (loop2 v0 hw3 v1 hw1 v2 hw2) fun _ => fin v0 hw3 v1 hw1 v2 hw2

/-- The load of the three words and their checks, the prologue, then `r`. -/
def start (r : (v0 : Elt F .i32) → k0_chk3 v0 → (v1 : Elt F .i32) → k0_chk1 v1 → (v2 : Elt F .i32) → k0_chk2 v2 → PK F) : PK F :=
  smemLoadElt a0 (Rect.unit (s := S3) ![0] S1.size inb_S3_S1_0) (View.loads_smem_one rfl numel1_S1) (Shape.Idx.first (numel1_S1.symm ▸ Nat.one_pos)) fun v0 =>
  .op (TpuEff.assume (k0_chk3 v0) (k0_chk3.dec v0)) fun hw3 =>
  smemLoadElt a0 (Rect.unit (s := S3) ![1] S1.size inb_S3_S1_1) (View.loads_smem_one rfl numel1_S1) (Shape.Idx.first (numel1_S1.symm ▸ Nat.one_pos)) fun v1 =>
  .op (TpuEff.assume (k0_chk1 v1) (k0_chk1.dec v1)) fun hw1 =>
  smemLoadElt a0 (Rect.unit (s := S3) ![2] S1.size inb_S3_S1_2) (View.loads_smem_one rfl numel1_S1) (Shape.Idx.first (numel1_S1.symm ▸ Nat.one_pos)) fun v2 =>
  .op (TpuEff.assume (k0_chk2 v2) (k0_chk2.dec v2)) fun hw2 =>
  pro a1 a2 v0 hw3.down v1 hw1.down v2 hw2.down (r v0 hw3.down v1 hw1.down v2 hw2.down)

/-! The printed body closes each loop's part a few operations after the loop: the same program up to reassociating the two loops. -/

def tail1 : Prog (TpuEff nD τ sig (Elt F) Λ₀ .tc) (FVec F S256x1024 .f32) :=
  .op (.waitDma2 (sS false true false) (commM false true false) (accM false false) ((View.wordExact_bits rfl).reshape _ _) (View.wordExact_bits rfl)) fun _ =>
  .op (.waitDma2 (rS false true false) (accM false false) (commM false true false) (View.wordExact_bits rfl) ((View.wordExact_bits rfl).reshape _ _)) fun _ =>
  .op (.load (comm false) (slotR true false).toLoadRect (View.loadsAt_vmem h_S1x256x1024)) fun x => .ret (k0_pay29 x)
def mid' (k : PK F) (z : FVec F S256x1024 .f32) : PK F :=
  .op (.load (tmp false) (halfR false).toLoadRect (View.loadsAt_vmem h_S256x1024)) fun y =>
  .op (.load (acc false) (halfR false).toLoadRect (View.loadsAt_vmem h_S256x1024)) fun _ =>
  .op (.store (acc false) (halfR false) (k0_pay30 z y) Finset.univ (View.stores_vmem_bits_univ h_S256x1024 rfl) (.inl rfl)) fun _ =>
  ackW false 1#32 <| rsSend false false false (rgt v2 hw2) <|
  rsBlk true false true <| ackW true 1#32 <| rsSend true false false (lft v1 hw1) <|
  rsBlk false true true <| rsSend false true false (rgt v2 hw2) <|
  rsBlk true true true <| rsSend true true false (lft v1 hw1) <|
  mm a1 a2 (tmp false) false (k0_off4 v0 29#32) (k0_off4_inb v0 hw3 1) <| mm a1 a2 (tmp true) true (k0_off5 v0 29#32) (k0_off5_inb v0 hw3 1) <|
  ackS false (lft v1 hw1) <| ackS true (rgt v2 hw2) <|
  rsLast false (rgt v2 hw2) (lft v1 hw1) <|
  stCopy false (k0_off10 v0) (k0_off10_inb v0 hw3) <| stCopy true (k0_off11 v0) (k0_off11_inb v0 hw3) <|
  ackW false 1#32 <| ackW true 1#32 <|
  agSend0 false false true (rgt v2 hw2) (blkC v0 hw3 0 false false).1 (blkC v0 hw3 0 false false).2 <|
  agSend0 true false true (lft v1 hw1) (blkC v0 hw3 0 true false).1 (blkC v0 hw3 0 true false).2 <|
  agSend0 false true true (rgt v2 hw2) (blkC v0 hw3 0 false true).1 (blkC v0 hw3 0 false true).2 <|
  agSend0 true true true (lft v1 hw1) (blkC v0 hw3 0 true true).1 (blkC v0 hw3 0 true true).2 <|
  agIter0 true (rgt v2 hw2) (lft v1 hw1) (blkC v0 hw3 0) (blkC v0 hw3 1) k
def tail2 (z : Σ' (_ : BitVec 32), BitVec 32) : Prog (TpuEff nD τ sig (Elt F) Λ₀ .tc) (Σ' (_ : BitVec 32), BitVec 32) :=
  .op (.waitDma2 (sS false false false) (outM _ (blkC v0 hw3 2 false false).2) (outM _ (blkC v0 hw3 2 false false).2) (View.wordExact_bits rfl) (View.wordExact_bits rfl)) fun _ =>
  .op (.waitDma2 (rS false false false) (outM _ (blkC v0 hw3 2 false false).2) (outM _ (blkC v0 hw3 2 false false).2) (View.wordExact_bits rfl) (View.wordExact_bits rfl)) fun _ =>
  .op (.semWait (aS false) (1#32).toInt) fun _ => .ret z
def fin' : PK F :=
  agSend false false true (rgt v2 hw2) (blkC v0 hw3 3 false false).1 (blkC v0 hw3 3 false false).2 <|
  agBlk true false false (blkC v0 hw3 2 true false).1 (blkC v0 hw3 2 true false).2 <| ackW true 1#32 <| agSend true false true (lft v1 hw1) (blkC v0 hw3 3 true false).1 (blkC v0 hw3 3 true false).2 <|
  agBlk false true false (blkC v0 hw3 2 false true).1 (blkC v0 hw3 2 false true).2 <| agSend false true true (rgt v2 hw2) (blkC v0 hw3 3 false true).1 (blkC v0 hw3 3 false true).2 <|
  agBlk true true false (blkC v0 hw3 2 true true).1 (blkC v0 hw3 2 true true).2 <| agSend true true true (lft v1 hw1) (blkC v0 hw3 3 true true).1 (blkC v0 hw3 3 true true).2 <|
  ackS false (lft v1 hw1) <| ackS true (rgt v2 hw2) <|
  agLast true (rgt v2 hw2) (lft v1 hw1) (blkC v0 hw3 3) <|
  stWait false (k0_off10 v0) (k0_off10_inb v0 hw3) <| stWait true (k0_off11 v0) (k0_off11_inb v0 hw3) <|
  ackW false 2#32 <| ackW true 2#32 <| .ret ⟨⟩

theorem bindA {α β γ : Type} (p : Prog (TpuEff nD τ sig (Elt F) Λ₀ .tc) α) (f : α → Prog (TpuEff nD τ sig (Elt F) Λ₀ .tc) β)
    (g : β → Prog (TpuEff nD τ sig (Elt F) Λ₀ .tc) γ) :
    Prog.bind (Prog.bind p f) g = Prog.bind p (fun a => Prog.bind (f a) g) := Prog.bind_assoc p f g

theorem rest_eq (z : Σ' (_ : BitVec 32), BitVec 32) : Prog.bind (Prog.bind (loop1 a1 a2 v0 hw3 v1 hw1 v2 hw2) fun _ => tail1)
      (mid' a1 a2 v0 hw3 v1 hw1 v2 hw2 (Prog.bind (Prog.bind (loop2 v0 hw3 v1 hw1 v2 hw2) fun _ => tail2 v0 hw3 z) fun _ => fin' v0 hw3 v1 hw1 v2 hw2))
    = rest a1 a2 v0 hw3 v1 hw1 v2 hw2 := by
  exact (bindA _ _ _).trans (congrArg (fun q => Prog.bind (loop1 a1 a2 v0 hw3 v1 hw1 v2 hw2) fun _ => Prog.bind tail1 (mid' a1 a2 v0 hw3 v1 hw1 v2 hw2 q)) (bindA _ _ _))

set_option maxRecDepth 65536 in
set_option maxHeartbeats 8000000 in
theorem body_eq' : cc0_body (F := F) a0 h0 a1 h1 a2 h2 (Memref.whole main_v28) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 = start a1 a2 a0 (fun v0 hw3 v1 hw1 v2 hw2 =>
      Prog.bind (Prog.bind (loop1 a1 a2 v0 hw3 v1 hw1 v2 hw2) fun _ => tail1)
      (mid' a1 a2 v0 hw3 v1 hw1 v2 hw2 (Prog.bind (Prog.bind (loop2 v0 hw3 v1 hw1 v2 hw2) fun _ => tail2 v0 hw3 ⟨Scalar.subi (Scalar.addi v0 1#32) 30#32, Scalar.select (Scalar.cmpi .eq 32#32 0#32) 1#32 32#32⟩) fun _ => fin' v0 hw3 v1 hw1 v2 hw2))) := by
  rfl

/-- The printed body is the clean program. -/
theorem body_eq : cc0_body (F := F) a0 h0 a1 h1 a2 h2 (Memref.whole main_v28) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 = start a1 a2 a0 (rest a1 a2) := by
  rw [body_eq']; congr 1; funext v0 hw3 v1 hw1 v2 hw2; exact rest_eq a1 a2 v0 hw3 v1 hw1 v2 hw2 _

end Cert.KernelIdeal.AR
-- ==== Proof.Spec.lean ====
/- The protocol of the kernel: the ring, the values that travel, who owns what, the semaphores' schedule of rounds, and the levels of the waits. -/
module

public import proofs.«01_k».proof.Proof.Clean
public import Idealize.ShloMosaic.Lib.Pipeline.Regions
public import Idealize.ShloMosaic.Lib.Pipeline.Kit
public import Idealize.ShloMosaic.Lib.Rounds
public import Idealize.ShloMosaic.Lib.Release

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Rounds
open Release (USlots released readerAt writeTok slotInv)

variable {F : FTy → Type} [FloatOps F]

/-! ## The ring -/

def posL : Fin 32 → Fin 32 := ![0, 31, 30, 1, 2, 29, 28, 3, 7, 24, 25, 6, 5, 26, 27, 4, 8, 23, 22, 9, 10, 21, 20, 11, 15, 16, 17, 14, 13, 18, 19, 12]
def rngL : Fin 32 → Fin 32 := ![0, 3, 4, 7, 15, 12, 11, 8, 16, 19, 20, 23, 31, 28, 27, 24, 25, 26, 29, 30, 22, 21, 18, 17, 9, 10, 13, 14, 6, 5, 2, 1]

/-- The device a direction sends to, and the one it receives from. -/
def nxt (d : Bool) (c : Dev nD) : Dev nD := rngL (if d then posL c + 31 else posL c + 1)
def prv (d : Bool) (c : Dev nD) : Dev nD := nxt (!d) c
/-- The row block a direction works on at step `n`. -/
def blk (d : Bool) (c : Dev nD) (n : ℕ) : Fin 32 := if d then posL c + Fin.ofNat 32 n else posL c + 31 * Fin.ofNat 32 n

theorem prv_nxt (d : Bool) (c : Dev nD) : prv d (nxt d c) = c := by revert d c; decide
theorem nxt_prv (d : Bool) (c : Dev nD) : nxt d (prv d c) = c := by revert d c; decide
theorem nxt_not (d : Bool) (c : Dev nD) : nxt (!d) c = prv d c := rfl
theorem posL_rngL (p : Fin 32) : posL (rngL p) = p := by revert p; decide
theorem rngL_posL (p : Fin 32) : rngL (posL p) = p := by revert p; decide
theorem pos_nxt (d : Bool) (c : Dev nD) : posL (nxt d c) = if d then posL c + 31 else posL c + 1 := posL_rngL _

theorem blk_nxt (d : Bool) (c : Dev nD) (n : ℕ) : blk d (nxt d c) (n + 1) = blk d c n := by
  unfold blk; rw [pos_nxt]
  have h : (Fin.ofNat 32 (n + 1) : Fin 32) = Fin.ofNat 32 n + 1 := by
    ext; simp [Fin.ofNat, Fin.val_add]
  rw [h]
  generalize Fin.ofNat 32 n = a
  generalize (posL c : Fin 32) = p
  revert d p a; decide
theorem blk_prv (d : Bool) (c : Dev nD) (n : ℕ) : blk d (prv d c) n = blk d c (n + 1) := by
  conv_rhs => rw [← nxt_prv d c]
  rw [blk_nxt]
theorem blk_add32 (d : Bool) (c : Dev nD) (n : ℕ) : blk d c (n + 32) = blk d c n := by
  unfold blk; rw [show (Fin.ofNat 32 (n + 32) : Fin 32) = Fin.ofNat 32 n from by ext; simp [Fin.ofNat]]

/-! ## The resource algebra -/

abbrev RKey : Type := Dev nD × Bool × Bool
abbrev RT : Type := URounds (GSem nD τ sig) ℕ
abbrev UU : Type := UR sig nD τ × (RT × USlots RKey)

local notation "𝕄" => MT nD τ sig ℕ (Elt F) ℕ UU ℕ

abbrev EP : Emb (UR sig nD τ) (MT nD τ sig ℕ (Elt F) ℕ UU ℕ) := embL
abbrev ER : Emb RT (MT nD τ sig ℕ (Elt F) ℕ UU ℕ) := (Emb.inl : Emb RT (RT × USlots RKey)).trans embR
abbrev ES : Emb (USlots RKey) (MT nD τ sig ℕ (Elt F) ℕ UU ℕ) := (Emb.inr : Emb (USlots RKey) (RT × USlots RKey)).trans embR

instance ER_landsIn : (ER : Emb RT 𝕄).LandsIn (upEmb : UEmb _ 𝕄) := by unfold ER; infer_instance
instance ES_landsIn : (ES : Emb (USlots RKey) 𝕄).LandsIn (upEmb : UEmb _ 𝕄) := by unfold ES; infer_instance

/-! ## Owning what a memref names, at a value -/

/-- The elements `M` names on device `c`, at the share `q`, reading `v`. -/
def own {sp : Space} {s : Shape} (c : Dev nD) (M : Memref sig .tc sp s .f32) (q : PosShare TreeShare) (v : s.Idx → Elt F .f32) : sProp 𝕄 :=
  iprop(∃ f : Buf (Elt F) (M.view.loc (c : Thread nD τ)), (M.view.loc (c : Thread nD τ) ↦[M.view.set]{q} f) ∗ ⌜M.view.read (Elt F) f = v⌝)
/-- The same at a value not said. -/
def ownA {sp : Space} {s : Shape} (c : Dev nD) (M : Memref sig .tc sp s .f32) (q : PosShare TreeShare) : sProp 𝕄 :=
  iprop(∃ f : Buf (Elt F) (M.view.loc (c : Thread nD τ)), (M.view.loc (c : Thread nD τ) ↦[M.view.set]{q} f))

instance own_storable {sp : Space} {s : Shape} (c : Dev nD) (M : Memref sig .tc sp s .f32) (q : PosShare TreeShare) (v : s.Idx → Elt F .f32) :
    Storable (upEmb : UEmb _ 𝕄) (own c M q v) := by unfold own; infer_instance
instance ownA_storable {sp : Space} {s : Shape} (c : Dev nD) (M : Memref sig .tc sp s .f32) (q : PosShare TreeShare) :
    Storable (upEmb : UEmb _ 𝕄) (ownA (F := F) c M q) := by unfold ownA; infer_instance

/-- One tile of the result: row block `b`, direction's half `d`, column half `u`. -/
def tOff (d u : Bool) (b : Fin 32) : Fin 2 → ℕ := ![256 * b.val, base d + col u]
theorem tOff_inb (d u : Bool) (b : Fin 32) : ∀ a, tOff d u b a + S256x1024.size a ≤ S8192x4096.size a := by
  intro a; have hb := b.isLt
  fin_cases a
  · show 256 * b.val + 256 ≤ 8192; omega
  · show base d + col u + 1024 ≤ 4096; cases d <;> cases u <;> decide
abbrev tile (d u : Bool) (b : Fin 32) : Memref sig .tc .hbm S256x1024 .f32 := outM (tOff d u b) (tOff_inb d u b)
def wOff (d : Bool) (b : Fin 32) : Fin 2 → ℕ := ![256 * b.val, base d]
theorem wOff_inb (d : Bool) (b : Fin 32) : ∀ a, wOff d b a + S256x2048.size a ≤ S8192x4096.size a := by
  intro a; have hb := b.isLt
  fin_cases a
  · show 256 * b.val + 256 ≤ 8192; omega
  · show base d + 2048 ≤ 4096; cases d <;> decide
abbrev wtile (d : Bool) (b : Fin 32) : Memref sig .tc .hbm S256x2048 .f32 := outW (wOff d b) (wOff_inb d b)

theorem xOff_inb (b : Fin 32) : ∀ a, (![256 * b.val, 0] : Fin 2 → ℕ) a + S256x256.size a ≤ S8192x256.size a := by
  intro a; have hb := b.isLt
  fin_cases a
  · show 256 * b.val + 256 ≤ 8192; omega
  · show 0 + 256 ≤ 256; decide
abbrev xR (b : Fin 32) : Rect S8192x256 := Rect.unit (s := S8192x256) ![256 * b.val, 0] S256x256.size (xOff_inb b)

/-! ## The values that travel -/

abbrev XT (F : FTy → Type) : Type := Dev nD → S8192x256.Idx → Elt F .f32
abbrev WT (F : FTy → Type) : Type := Dev nD → S256x4096.Idx → Elt F .f32

/-- Device `c`'s own product for row block `b`, a direction's columns. -/
def part (X : XT F) (Wt : WT F) (d : Bool) (c : Dev nD) (b : Fin 32) : S256x2048.Idx → Elt F .f32 :=
  k0_pay18 (F := F) (fun i => X c ((xR b).emb i)) (fun i => Wt c ((wR d).emb i))
def hf (u : Bool) (v : S256x2048.Idx → Elt F .f32) : S256x1024.Idx → Elt F .f32 := fun i => v ((halfR u).emb i)
/-- A received half with its slot axis. -/
def up3 (v : S256x1024.Idx → Elt F .f32) : S1x256x1024.Idx → Elt F .f32 :=
  fun i => v (Shape.reshapeEquiv (squeezes_S1x256x1024_S256x1024.numel_eq).symm i)

/-- What device `c` sends at step `s` in direction `d`, column half `u`. -/
def sv (X : XT F) (Wt : WT F) (d u : Bool) : ℕ → Dev nD → S256x1024.Idx → Elt F .f32
  | 0, c => hf u (part X Wt d c (blk d c 0))
  | s + 1, c => if s < 31 then k0_pay1 (F := F) (up3 (sv X Wt d u s (prv d c))) (hf u (part X Wt d c (blk d c (s + 1)))) else sv X Wt d u s (prv d c)

/-! ## Cells -/

inductive Knd where
  | bar
  | ack (d : Bool)
  | send (d σ u : Bool)
  | recv (d σ u : Bool)
  | store (d : Bool)
  | other
deriving DecidableEq

def bit (n : ℕ) : Bool := decide (n % 2 = 1)
def knd : SemLoc sig → Knd
  | .reg i => if i.val = 0 then .ack false else if i.val = 1 then .ack true else .bar
  | .dma i =>
    if i.val < 3 then .other
    else if i.val < 7 then .send false (bit ((i.val - 3) / 2)) (bit (i.val - 3))
    else if i.val < 11 then .recv false (bit ((i.val - 7) / 2)) (bit (i.val - 7))
    else if i.val < 15 then .send true (bit ((i.val - 11) / 2)) (bit (i.val - 11))
    else if i.val < 19 then .recv true (bit ((i.val - 15) / 2)) (bit (i.val - 15))
    else .store (bit (i.val - 19))

abbrev bC (c : Dev nD) : GSem nD τ sig := ((c : Thread nD τ), .reg bS)
abbrev aC (c : Dev nD) (d : Bool) : GSem nD τ sig := ((c : Thread nD τ), .reg (aS d))
abbrev sC (c : Dev nD) (d σ u : Bool) : GSem nD τ sig := ((c : Thread nD τ), .dma (sS d σ u))
abbrev rC (c : Dev nD) (d σ u : Bool) : GSem nD τ sig := ((c : Thread nD τ), .dma (rS d σ u))
abbrev tC (c : Dev nD) (d : Bool) : GSem nD τ sig := ((c : Thread nD τ), .dma (stS d))

theorem knd_bar : knd (.reg bS) = .bar := by decide
theorem knd_ack (d : Bool) : knd (.reg (aS d)) = .ack d := by cases d <;> decide
theorem knd_send (d σ u : Bool) : knd (.dma (sS d σ u)) = .send d σ u := by cases d <;> cases σ <;> cases u <;> decide
theorem knd_recv (d σ u : Bool) : knd (.dma (rS d σ u)) = .recv d σ u := by cases d <;> cases σ <;> cases u <;> decide
theorem knd_store (d : Bool) : knd (.dma (stS d)) = .store d := by cases d <;> decide

/-- Units of one copy of a column half, and of one local copy. -/
def NB : ℕ := (accM false false).view.dmaCredit
def NS : ℕ := (acc false).view.dmaCredit
theorem NB_pos : 0 < NB := View.dmaCredit_pos _ (by decide)
theorem NS_pos : 0 < NS := View.dmaCredit_pos _ (by decide)

/-! ## Payloads -/

/-- Steps before `n` that use slot `σ`. -/
def cnt (σ : Bool) (n : ℕ) : ℕ := (n + 1 - sl σ) / 2

theorem sl_bit (s : ℕ) : 2 * (s / 2) + sl (bit s) = s := by
  unfold bit; rcases Nat.mod_two_eq_zero_or_one s with h | h <;> simp [h, sl] <;> omega
theorem bit_succ (s : ℕ) : bit (s + 1) = !bit s := by
  unfold bit; rcases Nat.mod_two_eq_zero_or_one s with h | h
  · have : (s + 1) % 2 = 1 := by omega
    simp [h, this]
  · have : (s + 1) % 2 = 0 := by omega
    simp [h, this]
theorem cnt_bit (s : ℕ) : cnt (bit s) s = s / 2 := by
  unfold cnt bit; rcases Nat.mod_two_eq_zero_or_one s with h | h <;> simp [h, sl] <;> omega
theorem cnt_bit_succ (s : ℕ) : cnt (bit s) (s + 1) = s / 2 + 1 := by
  unfold cnt bit; rcases Nat.mod_two_eq_zero_or_one s with h | h <;> simp [h, sl] <;> omega
theorem cnt_not (s : ℕ) : cnt (!bit s) (s + 1) = cnt (!bit s) s := by
  unfold cnt bit; rcases Nat.mod_two_eq_zero_or_one s with h | h <;> simp [h, sl] <;> omega
theorem cnt_mono (σ : Bool) {n n' : ℕ} (h : n ≤ n') : cnt σ n ≤ cnt σ n' := by
  unfold cnt; omega

/-- How far a device's receive cells and slots are before its step `n`. -/
def upto (d : Bool) (p : Dev nD) (n : ℕ) : sProp 𝕄 :=
  iprop(reached ER (rC p d false false) (cnt false n) ∗ reached ER (rC p d false true) (cnt false n)
    ∗ reached ER (rC p d true false) (cnt true n) ∗ reached ER (rC p d true true) (cnt true n)
    ∗ released ES (p, d, false) (1 + cnt false (min n 29)) ∗ released ES (p, d, true) (1 + cnt true (min n 29)))

/-- A slot of the receiving buffer. -/
def slotP (k : RKey) : sProp 𝕄 := iprop(ownA (F := F) k.1 (commM k.2.1 k.2.2 false) fullShare ∗ ownA (F := F) k.1 (commM k.2.1 k.2.2 true) fullShare)

/-- The tiles of the result on `p` that its neighbour writes at the gather's step `s`. -/
def dst (d : Bool) (p : Dev nD) (s : ℕ) : sProp 𝕄 :=
  iprop(ownA (F := F) p (tile d false (blk d p (s + 1))) fullShare ∗ ownA (F := F) p (tile d true (blk d p (s + 1))) fullShare)
/-- What the device `p` that another sends to in direction `d` grants it at the barrier: its receive cells and its slots are as before step 0,
    its tiles of the result may be written, and its acknowledgement cell for the other direction is open. -/
def grant (d : Bool) (p : Dev nD) : sProp 𝕄 :=
  iprop(upto (F := F) d p 0 ∗ reached ER (aC p (!d)) 0 ∗ bigSep (Finset.Ico 31 62) (dst (F := F) d p))

def srcB (X : XT F) (Wt : WT F) (d u : Bool) (s : ℕ) (c : Dev nD) : sProp 𝕄 :=
  if s < 31 then ownA (F := F) c (accM d u) fullShare
  else if s = 31 then ownA (F := F) c (accM d u) fullShare.left
  else own c (tile d u (blk d c s)) fullShare (sv X Wt d u s c)
def rcvB (X : XT F) (Wt : WT F) (d σ u : Bool) (s : ℕ) (c : Dev nD) : sProp 𝕄 :=
  if s < 31 then own c (commM d σ u) fullShare (sv X Wt d u s (prv d c))
  else own c (tile d u (blk d c (s + 1))) fullShare (sv X Wt d u s (prv d c))
def stB (X : XT F) (Wt : WT F) (d : Bool) (c : Dev nD) : sProp 𝕄 :=
  iprop(own c (tile d false (blk d c 31)) fullShare (sv X Wt d false 31 c) ∗ own c (tile d true (blk d c 31)) fullShare (sv X Wt d true 31 c)
    ∗ ownA (F := F) c (acc d) fullShare.right)

instance upto_storable (d : Bool) (p : Dev nD) (n : ℕ) : Storable (upEmb : UEmb _ 𝕄) (upto (F := F) d p n) := by unfold upto; infer_instance
instance dst_storable (d : Bool) (p : Dev nD) (n : ℕ) : Storable (upEmb : UEmb _ 𝕄) (dst (F := F) d p n) := by unfold dst; infer_instance
instance grant_storable (d : Bool) (p : Dev nD) : Storable (upEmb : UEmb _ 𝕄) (grant (F := F) d p) := by unfold grant; infer_instance
instance slotP_storable (k : RKey) : Storable (upEmb : UEmb _ 𝕄) (slotP (F := F) k) := by unfold slotP; infer_instance
instance srcB_storable (X : XT F) (Wt : WT F) (d u : Bool) (s : ℕ) (c : Dev nD) : Storable (upEmb : UEmb _ 𝕄) (srcB X Wt d u s c) := by
  unfold srcB; (repeat' split) <;> infer_instance
instance rcvB_storable (X : XT F) (Wt : WT F) (d σ u : Bool) (s : ℕ) (c : Dev nD) : Storable (upEmb : UEmb _ 𝕄) (rcvB X Wt d σ u s c) := by
  unfold rcvB; (repeat' split) <;> infer_instance
instance stB_storable (X : XT F) (Wt : WT F) (d : Bool) (c : Dev nD) : Storable (upEmb : UEmb _ 𝕄) (stB X Wt d c) := by unfold stB; infer_instance
instance upto_persistent (d : Bool) (p : Dev nD) (n : ℕ) : BI.Persistent (upto (F := F) d p n) := by unfold upto; infer_instance

/-! ## The schedule -/

def kDuties (r : ℕ) : Knd → Finset ℕ
  | .bar => if r = 0 then {0, 1} else ∅
  | .ack _ => if r = 0 then Finset.range 62 else ∅
  | .send _ _ _ => if r < 31 then {0} else ∅
  | .recv _ _ _ => if r < 31 then {0} else ∅
  | .store _ => if r = 0 then {0} else ∅
  | .other => ∅
def kAmount : Knd → ℕ
  | .bar => 1
  | .ack _ => 1
  | .store _ => NS
  | _ => NB
def kPay (X : XT F) (Wt : WT F) (c : Dev nD) (r i : ℕ) : Knd → sProp 𝕄
  | .bar => grant (F := F) (decide (i = 1)) (nxt (decide (i = 1)) c)
  | .ack d => upto (F := F) d (nxt d c) (i + 1)
  | .send d σ u => srcB X Wt d u (2 * r + sl σ) c
  | .recv d σ u => rcvB X Wt d σ u (2 * r + sl σ) c
  | .store d => stB X Wt d c
  | .other => iprop(emp)

theorem kAmount_pos (k : Knd) : 0 < kAmount k := by
  cases k <;> first | exact Nat.one_pos | exact NS_pos | exact NB_pos

def Rd (X : XT F) (Wt : WT F) : Rounds.Schedule (GSem nD τ sig) ℕ 𝕄 where
  duties g r := if g.1.2 = .tc then kDuties r (knd g.2) else ∅
  unitless _ := False
  amount g _ _ := kAmount (knd g.2)
  payload g r i := kPay X Wt g.1.1 r i (knd g.2)
  amount_pos g _ _ _ := kAmount_pos _

instance Rd_payload_storable (X : XT F) (Wt : WT F) (g : GSem nD τ sig) (r i : ℕ) : Storable (upEmb : UEmb _ 𝕄) ((Rd X Wt).payload g r i) := by
  show Storable upEmb (kPay X Wt g.1.1 r i (knd g.2))
  generalize knd g.2 = k
  cases k <;> unfold kPay <;> infer_instance

section
variable (X : XT F) (Wt : WT F) (c : Dev nD)
theorem duties_tc (sm : SemLoc sig) (r : ℕ) : (Rd X Wt).duties ((c : Thread nD τ), sm) r = kDuties r (knd sm) := by dsimp only [Rd]; exact if_pos rfl
theorem duties_bar : (Rd X Wt).duties (bC c) 0 = {0, 1} := by rw [duties_tc, knd_bar]; rfl
theorem duties_ack (d : Bool) : (Rd X Wt).duties (aC c d) 0 = Finset.range 62 := by rw [duties_tc, knd_ack]; rfl
theorem duties_send (d σ u : Bool) {r : ℕ} (h : r < 31) : (Rd X Wt).duties (sC c d σ u) r = {0} := by rw [duties_tc, knd_send]; exact if_pos h
theorem duties_recv (d σ u : Bool) {r : ℕ} (h : r < 31) : (Rd X Wt).duties (rC c d σ u) r = {0} := by rw [duties_tc, knd_recv]; exact if_pos h
theorem duties_store (d : Bool) : (Rd X Wt).duties (tC c d) 0 = {0} := by rw [duties_tc, knd_store]; rfl
theorem amount_bar (r i : ℕ) : (Rd X Wt).amount (bC c) r i = 1 := by show kAmount (knd (.reg bS)) = 1; rw [knd_bar]; rfl
theorem amount_ack (d : Bool) (r i : ℕ) : (Rd X Wt).amount (aC c d) r i = 1 := by show kAmount (knd _) = 1; rw [knd_ack]; rfl
theorem amount_send (d σ u : Bool) (r i : ℕ) : (Rd X Wt).amount (sC c d σ u) r i = NB := by show kAmount (knd _) = NB; rw [knd_send]; rfl
theorem amount_recv (d σ u : Bool) (r i : ℕ) : (Rd X Wt).amount (rC c d σ u) r i = NB := by show kAmount (knd _) = NB; rw [knd_recv]; rfl
theorem amount_store (d : Bool) (r i : ℕ) : (Rd X Wt).amount (tC c d) r i = NS := by show kAmount (knd _) = NS; rw [knd_store]; rfl
theorem payload_bar (r i : ℕ) : (Rd X Wt).payload (bC c) r i = grant (decide (i = 1)) (nxt (decide (i = 1)) c) := by show kPay X Wt c r i (knd (.reg bS)) = _; rw [knd_bar]; rfl
theorem payload_ack (d : Bool) (r i : ℕ) : (Rd X Wt).payload (aC c d) r i = upto d (nxt d c) (i + 1) := by show kPay X Wt c r i (knd _) = _; rw [knd_ack]; rfl
theorem payload_send (d σ u : Bool) (r i : ℕ) : (Rd X Wt).payload (sC c d σ u) r i = srcB X Wt d u (2 * r + sl σ) c := by show kPay X Wt c r i (knd _) = _; rw [knd_send]; rfl
theorem payload_recv (d σ u : Bool) (r i : ℕ) : (Rd X Wt).payload (rC c d σ u) r i = rcvB X Wt d σ u (2 * r + sl σ) c := by show kPay X Wt c r i (knd _) = _; rw [knd_recv]; rfl
theorem payload_store (d : Bool) (r i : ℕ) : (Rd X Wt).payload (tC c d) r i = stB X Wt d c := by show kPay X Wt c r i (knd _) = _; rw [knd_store]; rfl

theorem expect_bar : (Rd X Wt).expect (bC c) 0 = 2 := by
  unfold Schedule.expect Schedule.amountOf; rw [duties_bar]; simp only [amount_bar]; rfl
theorem expect_ack (d : Bool) : (Rd X Wt).expect (aC c d) 0 = 62 := by
  unfold Schedule.expect Schedule.amountOf; rw [duties_ack]; simp only [amount_ack]; simp
theorem expect_send (d σ u : Bool) {r : ℕ} (h : r < 31) : (Rd X Wt).expect (sC c d σ u) r = NB := by
  unfold Schedule.expect Schedule.amountOf; rw [duties_send X Wt c d σ u h, Finset.sum_singleton, amount_send]
theorem expect_recv (d σ u : Bool) {r : ℕ} (h : r < 31) : (Rd X Wt).expect (rC c d σ u) r = NB := by
  unfold Schedule.expect Schedule.amountOf; rw [duties_recv X Wt c d σ u h, Finset.sum_singleton, amount_recv]
theorem expect_store (d : Bool) : (Rd X Wt).expect (tC c d) 0 = NS := by
  unfold Schedule.expect Schedule.amountOf; rw [duties_store, Finset.sum_singleton, amount_store]
end

/-! ## Levels -/

def L (g : GSem nD τ sig) : Finset ℕ := if g.1.2 = .tc then Finset.range 64 else ∅
def kLv (i : ℕ) : Knd → ℕ
  | .bar => 1
  | .recv _ _ _ => 2 * i + 10
  | .ack _ => 2 * i + 11
  | _ => 0
def lv (g : GSem nD τ sig) (i : ℕ) : ℕ := kLv i (knd g.2)

/-- Every cell owed to is a core's, and sits above the level `n`. -/
def Above (O : CellTallies nD τ sig ℕ) (n : ℕ) : Prop := ∀ g i, 0 < O g i → i ∈ L g ∧ n < lv g i

theorem Above.add {O O' : CellTallies nD τ sig ℕ} {n : ℕ} (h : Above O n) (h' : Above O' n) : Above (O + O') n := by
  intro g i hg
  rw [Pi.add_apply, Finsupp.add_apply] at hg
  rcases Nat.add_pos_iff_pos_or_pos.mp hg with hg | hg
  · exact h g i hg
  · exact h' g i hg
theorem Above.mono {O : CellTallies nD τ sig ℕ} {n n' : ℕ} (h : Above O n) (hn : n' ≤ n) : Above O n' :=
  fun g i hg => ⟨(h g i hg).1, lt_of_le_of_lt hn (h g i hg).2⟩
theorem Above.zero (n : ℕ) : Above (0 : CellTallies nD τ sig ℕ) n := fun _ _ hg => absurd hg (Nat.lt_irrefl 0)
theorem Above.at {p : Dev nD} {sm : SemLoc sig} {i k n : ℕ} (hi : i < 64) (h : n < kLv i (knd sm)) :
    Above (tallyAt ((p : Thread nD τ), sm) i k) n := by
  intro g j hg
  rw [tallyAt_apply] at hg
  by_cases e : g = ((p : Thread nD τ), sm) ∧ j = i
  · rw [e.1, e.2]
    exact ⟨by unfold L; rw [if_pos rfl]; exact Finset.mem_range.mpr hi, h⟩
  · rw [if_neg e] at hg; exact absurd hg (Nat.lt_irrefl 0)

theorem Above.wait {O : CellTallies nD τ sig ℕ} {n : ℕ} (h : Above O n) (c : Dev nD) (sm : SemLoc sig) (i : ℕ) (hi : i < 64) (hl : kLv i (knd sm) ≤ n) :
    (levAts L lv : sProp 𝕄) ⊢ MayWait (c : Thread nD τ) sm i O :=
  MayOwe.of_cut (L := L) (lev := lv) n
    (fun p hp => by rw [Finset.mem_singleton.mp hp]; unfold L; rw [if_pos rfl]; exact Finset.mem_range.mpr hi)
    (fun g u hg => (h g u hg).1)
    (fun p hp => by rw [Finset.mem_singleton.mp hp]; exact hl)
    (fun g u hg => (h g u hg).2)

end Cert.KernelIdeal.AR
-- ==== Proof.Rules.lean ====
/- The program steps over `own`: loads, stores, products, splitting and joining of halves. -/
module

public import proofs.«01_k».proof.Proof.Spec
public import Idealize.ShloMosaic.Lib.Tactic

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Release (USlots released readerAt writeTok slotInv)

variable {F : FTy → Type} [FloatOps F]

local notation "𝕄" => MT nD τ sig ℕ (Elt F) ℕ UU ℕ

abbrev 𝒱₀ : Variants := Variants.none
/-- The weakest precondition of a piece of device `c`'s body. -/
abbrev wpc (c : Dev nD) (p : PK F) (Kt : PUnit.{1} → sProp 𝕄) : sProp 𝕄 := wp frame (wpE (defs₀ (F := F)) 𝒱₀ (c : Thread nD τ) none) Set.univ p Kt

section
variable {sp : Space} {s : Shape} (c : Dev nD)

theorem own_weaken (M : Memref sig .tc sp s .f32) (q : PosShare TreeShare) (v : s.Idx → Elt F .f32) : own c M q v ⊢ ownA (F := F) c M q := by
  unfold own ownA
  iintro ⟨%f, Hf, -⟩
  iexists f; iexact Hf

theorem own_share (M : Memref sig .tc sp s .f32) (q q₁ q₂ : PosShare TreeShare) (h : q ∈ q₁ ·? q₂) (v : s.Idx → Elt F .f32) :
    own c M q v ⊢ iprop(own c M q₁ v ∗ own c M q₂ v) := by
  unfold own
  iintro ⟨%f, Hf, %hv⟩
  ihave H := (pointsTo_share h).mp $$ Hf
  icases H with ⟨H1, H2⟩
  isplitl [H1]
  · iexists f; isplitl [H1]; · iexact H1
    ipureintro; exact hv
  · iexists f; isplitl [H2]; · iexact H2
    ipureintro; exact hv

theorem ownA_unshare (M : Memref sig .tc sp s .f32) (q q₁ q₂ : PosShare TreeShare) (h : q ∈ q₁ ·? q₂) :
    iprop(ownA (F := F) c M q₁ ∗ ownA (F := F) c M q₂) ⊢ ownA (F := F) c M q := by
  unfold ownA
  iintro ⟨⟨%f, Hf⟩, ⟨%g, Hg⟩⟩
  icombine Hf Hg gives %e
  iexists f
  iapply (pointsTo_share h).2
  isplitl [Hf]; · iexact Hf
  iapply (Entails.of_eq (pointsTo_congr fun i hi => (e i (Finset.mem_inter.mpr ⟨hi, hi⟩)).1.symm))
  iexact Hg

/-- Load a rectangle of a memref held at a value. -/
theorem own_load (Kt : PUnit.{1} → sProp 𝕄) (M : Memref sig .tc .vmem s .f32) (q : PosShare TreeShare) (v : s.Idx → Elt F .f32) (r : Rect s) (hl : M.view.LoadsAt r)
    (k : (r.shape.Idx → Elt F .f32) → PK F) :
    own c M q v ⊢ iprop((own c M q v -∗ wpc c (k fun i => v (r.emb i)) Kt) -∗ wpc c (.op (.load M r hl) k) Kt) := by
  unfold own
  iintro ⟨%f, Hf, %hv⟩ Hk
  subst hv
  iapply (wp_load_rect 𝒱₀ (c : Thread nD τ) none Set.univ (m := M) (r := r) (f := f) (View.set_slice_subset _ r)) $$ [Hf]
  · iexact Hf
  iintro Hf
  iapply Hk
  iexists f
  isplitl [Hf]; · iexact Hf
  ipureintro; rfl

/-- Load a slice held at a value. -/
theorem own_loadS (Kt : PUnit.{1} → sProp 𝕄) (M : Memref sig .tc .vmem s .f32) (q : PosShare TreeShare) (r : Rect s) (hr : ∀ a, r.stride a = 1) (v : r.shape.Idx → Elt F .f32) (hl : M.view.LoadsAt r)
    (k : (r.shape.Idx → Elt F .f32) → PK F) :
    own c (M.slice r hr) q v ⊢ iprop((own c (M.slice r hr) q v -∗ wpc c (k v) Kt) -∗ wpc c (.op (.load M r hl) k) Kt) := by
  unfold own
  iintro ⟨%f, Hf, %hv⟩ Hk
  subst hv
  iapply (wp_load_rect 𝒱₀ (c : Thread nD τ) none Set.univ (m := M) (r := r) (f := f) (Finset.Subset.refl _)) $$ [Hf]
  · iexact Hf
  iintro Hf
  iapply Hk
  iexists f
  isplitl [Hf]; · iexact Hf
  ipureintro; rfl

/-- Load a slice whose value is not used. -/
theorem ownA_loadS (Kt : PUnit.{1} → sProp 𝕄) (M : Memref sig .tc .vmem s .f32) (q : PosShare TreeShare) (r : Rect s) (hr : ∀ a, r.stride a = 1) (hl : M.view.LoadsAt r) (k : PK F) :
    ownA (F := F) c (M.slice r hr) q ⊢ iprop((ownA (F := F) c (M.slice r hr) q -∗ wpc c k Kt) -∗ wpc c (.op (.load M r hl) fun _ => k) Kt) := by
  unfold ownA
  iintro ⟨%f, Hf⟩ Hk
  iapply (wp_load_rect 𝒱₀ (c : Thread nD τ) none Set.univ (m := M) (r := r) (f := f) (k := fun _ => k) (Finset.Subset.refl _)) $$ [Hf]
  · iexact Hf
  iintro Hf
  iapply Hk
  iexists f
  iexact Hf

/-- Store over a slice. -/
theorem own_storeS (Kt : PUnit.{1} → sProp 𝕄) (M : Memref sig .tc .vmem s .f32) (r : Rect s) (hr : ∀ a, r.stride a = 1) (w : r.shape.Idx → Elt F .f32) (hx : (M.access r).Stores Finset.univ)
    (hm : (Finset.univ : Finset r.shape.Idx) = Finset.univ ∨ ∀ a, r.stride a = 1) (k : PK F) :
    ownA (F := F) c (M.slice r hr) fullShare
      ⊢ iprop((own c (M.slice r hr) fullShare w -∗ wpc c k Kt) -∗ wpc c (.op (.store M r w Finset.univ hx hm) fun _ => k) Kt) := by
  unfold own ownA
  iintro ⟨%f, Hf⟩ Hk
  iapply (wp_store 𝒱₀ (c : Thread nD τ) none Set.univ (m := M) (r := r) (f := f) (k := fun _ => k) (Finset.Subset.refl _)) $$ [Hf]
  · iexact Hf
  iintro Hf
  iapply Hk
  iexists _
  isplitl [Hf]; · iexact Hf
  ipureintro; exact View.read_write_univ _ _
end

/-- Load a slice that is held with its axes of size one dropped. -/
theorem own_loadQ {s s' : Shape} (c : Dev nD) (Kt : PUnit.{1} → sProp 𝕄) (M : Memref sig .tc .vmem s .f32) (q : PosShare TreeShare) (r : Rect s) (hr : ∀ a, r.stride a = 1)
    (hs : r.shape.Squeezes s') (v : s'.Idx → Elt F .f32) (hl : M.view.LoadsAt r) (k : (r.shape.Idx → Elt F .f32) → PK F) :
    own c ((M.slice r hr).squeeze s' hs) q v
      ⊢ iprop((own c ((M.slice r hr).squeeze s' hs) q v -∗ wpc c (k fun i => v (Shape.reshapeEquiv hs.numel_eq.symm i)) Kt) -∗ wpc c (.op (.load M r hl) k) Kt) := by
  unfold own
  iintro ⟨%f, Hf, %hv⟩ Hk
  iapply (wp_load_rect 𝒱₀ (c : Thread nD τ) none Set.univ (m := M) (r := r) (f := f) (S := ((M.slice r hr).squeeze s' hs).view.set)
    (subset_of_eq (View.set_reshape (v := M.access r) hs.numel_eq).symm)) $$ [Hf]
  · iexact Hf
  iintro Hf
  have e : (M.access r).read (Elt F) f = fun i => v (Shape.reshapeEquiv hs.numel_eq.symm i) := by
    subst hv; funext i
    show _ = (M.access r).read (Elt F) f (Shape.reshapeEquiv _ (Shape.reshapeEquiv _ i))
    rw [Shape.reshapeEquiv_reshapeEquiv, Shape.reshapeEquiv_self]
  rw [e]
  iapply Hk
  iexists f
  isplitl [Hf]; · iexact Hf
  ipureintro; exact hv

/-- A received half, as the load of its slot reads it. -/
theorem comm_load (c : Dev nD) (Kt : PUnit.{1} → sProp 𝕄) (d σ u : Bool) (q : PosShare TreeShare) (v : S256x1024.Idx → Elt F .f32) (hl : (comm d).view.LoadsAt (slotR σ u).toLoadRect)
    (k : (S1x256x1024.Idx → Elt F .f32) → PK F) :
    own c (commM d σ u) q v ⊢ iprop((own c (commM d σ u) q v -∗ wpc c (k (up3 v)) Kt) -∗ wpc c (.op (.load (comm d) (slotR σ u).toLoadRect hl) k) Kt) :=
  own_loadQ c Kt (comm d) q (slotR σ u) (fun _ => rfl) squeezes_S1x256x1024_S256x1024 v hl k

/-! ## The whole of a buffer and its halves -/

theorem halfR_disj : Disjoint (halfR false).set (halfR true).set := by
  refine Finset.disjoint_left.mpr fun i h1 h2 => ?_
  have h1 := (Rect.mem_set_unit.mp h1 1).2
  have h2 := (Rect.mem_set_unit.mp h2 1).1
  exact absurd (lt_of_le_of_lt h2 h1) (by decide)
theorem halfR_union : (halfR false).set ∪ (halfR true).set = Finset.univ := by
  ext i
  simp only [Finset.mem_union, Finset.mem_univ, iff_true]
  by_cases h : (i 1).val < 1024
  · left; refine Rect.mem_set_unit.mpr fun a => ?_
    fin_cases a
    · exact ⟨Nat.zero_le _, (i 0).isLt⟩
    · exact ⟨Nat.zero_le _, h⟩
  · right; refine Rect.mem_set_unit.mpr fun a => ?_
    fin_cases a
    · exact ⟨Nat.zero_le _, (i 0).isLt⟩
    · exact ⟨Nat.le_of_not_lt h, (i 1).isLt⟩

abbrev half {sp : Space} (M : Memref sig .tc sp S256x2048 .f32) (u : Bool) : Memref sig .tc sp S256x1024 .f32 := M.slice (halfR u) (fun _ => rfl)

section
variable {sp : Space} (c : Dev nD) (M : Memref sig .tc sp S256x2048 .f32) (q : PosShare TreeShare)
theorem half_set (u : Bool) : (half M u).view.set = (halfR u).set.map M.view.emb := View.set_slice _ _
theorem half_disj : Disjoint (half M false).view.set (half M true).view.set := by
  rw [half_set, half_set]
  exact (Finset.disjoint_map _).mpr halfR_disj
theorem half_union : M.view.set = (half M false).view.set ∪ (half M true).view.set := by
  rw [half_set, half_set, ← Finset.map_union, halfR_union]; rfl
theorem half_split (f : Buf (Elt F) (M.view.loc (c : Thread nD τ))) :
    (M.view.loc (c : Thread nD τ) ↦[M.view.set]{q} f : sProp 𝕄)
      ⊢ iprop(((half M false).view.loc (c : Thread nD τ) ↦[(half M false).view.set]{q} f) ∗ ((half M true).view.loc (c : Thread nD τ) ↦[(half M true).view.set]{q} f)) := by
  refine (Entails.of_eq (congrArg (fun S => (M.view.loc (c : Thread nD τ) ↦[S]{q} f : sProp 𝕄)) (half_union M))).trans ?_
  exact (pointsTo_union (half_disj M)).1
theorem own_split (v : S256x2048.Idx → Elt F .f32) : own c M q v ⊢ iprop(own c (half M false) q (hf false v) ∗ own c (half M true) q (hf true v)) := by
  unfold own
  iintro ⟨%f, Hf, %hv⟩
  ihave H := half_split c M q f $$ Hf
  icases H with ⟨H1, H2⟩
  subst hv
  isplitl [H1]
  · iexists f; isplitl [H1]; · iexact H1
    ipureintro; rfl
  · iexists f; isplitl [H2]; · iexact H2
    ipureintro; rfl
theorem ownA_split : ownA (F := F) c M q ⊢ iprop(ownA (F := F) c (half M false) q ∗ ownA (F := F) c (half M true) q) := by
  unfold ownA
  iintro ⟨%f, Hf⟩
  ihave H := half_split c M q f $$ Hf
  icases H with ⟨H1, H2⟩
  isplitl [H1]
  · iexists f; iexact H1
  · iexists f; iexact H2
theorem own_join (v₀ v₁ : S256x1024.Idx → Elt F .f32) :
    iprop(own c (half M false) q v₀ ∗ own c (half M true) q v₁) ⊢ (iprop(∃ v, ⌜hf false v = v₀ ∧ hf true v = v₁⌝ ∗ own c M q v) : sProp 𝕄) := by
  unfold own
  iintro ⟨⟨%f, Hf, %hf⟩, ⟨%g, Hg, %hg⟩⟩
  iexists M.view.read (Elt F) ((half M true).view.set.piecewise g f)
  isplitr
  · ipureintro
    refine ⟨?_, ?_⟩
    · rw [← hf]; funext i
      show _root_.cast _ ((half M true).view.set.piecewise g f ((half M false).view.emb i)) = _root_.cast _ (f ((half M false).view.emb i))
      rw [Finset.piecewise_eq_of_notMem _ _ _ (Finset.disjoint_left.mp (half_disj M) (View.emb_mem_set _ i))]
    · rw [← hg]; funext i
      show _root_.cast _ ((half M true).view.set.piecewise g f ((half M true).view.emb i)) = _root_.cast _ (g ((half M true).view.emb i))
      rw [Finset.piecewise_eq_of_mem _ _ _ (View.emb_mem_set _ i)]
  iexists ((half M true).view.set.piecewise g f)
  isplitl
  · iapply (Entails.of_eq (congrArg (fun S => (M.view.loc (c : Thread nD τ) ↦[S]{q} ((half M true).view.set.piecewise g f) : sProp 𝕄)) (half_union M).symm))
    iapply (pointsTo_join (half_disj M))
    isplitl [Hf]; · iexact Hf
    iexact Hg
  ipureintro; rfl
theorem ownA_own : ownA (F := F) c M q ⊢ (iprop(∃ v, own c M q v) : sProp 𝕄) := by
  unfold own ownA
  iintro ⟨%f, Hf⟩
  iexists M.view.read (Elt F) f
  iexists f
  isplitl [Hf]; · iexact Hf
  ipureintro; rfl
end
theorem ownA_ex {sp : Space} {s : Shape} (c : Dev nD) (M : Memref sig .tc sp s .f32) (q : PosShare TreeShare) : ownA (F := F) c M q ⊢ (iprop(∃ v, own c M q v) : sProp 𝕄) := by
  unfold own ownA
  iintro ⟨%f, Hf⟩
  iexists M.view.read (Elt F) f
  iexists f
  isplitl [Hf]; · iexact Hf
  ipureintro; rfl
theorem ownA_join {sp : Space} (c : Dev nD) (M : Memref sig .tc sp S256x2048 .f32) (q : PosShare TreeShare) :
    iprop(ownA (F := F) c (half M false) q ∗ ownA (F := F) c (half M true) q) ⊢ ownA (F := F) c M q := by
  iintro ⟨H1, H2⟩
  ihave H1 := ownA_ex c _ q $$ H1
  ihave H2 := ownA_ex c _ q $$ H2
  icases H1 with ⟨%v1, H1⟩
  icases H2 with ⟨%v2, H2⟩
  ihave H := own_join c M q v1 v2 $$ [H1 H2]
  · isplitl [H1]; · iexact H1
    iexact H2
  icases H with ⟨%v, -, H⟩
  iapply own_weaken; iexact H

/-! ## A whole buffer stored over, and a partial product -/

theorem emb_zero {s : Shape} (off : Fin s.rank → ℕ) (h : off = fun _ => 0) (inb : ∀ a, off a + s.size a ≤ s.size a) (i : s.Idx) :
    (Rect.unit (s := s) off s.size inb).emb i = i := by
  subst h; funext a; apply Fin.ext; show 0 + 1 * (i a : ℕ) = i a; omega

/-- A load of a whole buffer that is not used. -/
theorem ownA_loadZ {s : Shape} (c : Dev nD) (Kt : PUnit.{1} → sProp 𝕄) (M : Memref sig .tc .vmem s .f32) (q : PosShare TreeShare) (r : Rect s) (hl : M.view.LoadsAt r.toLoadRect) (k : PK F) :
    ownA (F := F) c M q ⊢ iprop((ownA (F := F) c M q -∗ wpc c k Kt) -∗ wpc c (.op (.load M r.toLoadRect hl) fun _ => k) Kt) := by
  unfold ownA
  iintro ⟨%f, Hf⟩ Hk
  iapply (wp_load_rect 𝒱₀ (c : Thread nD τ) none Set.univ (m := M) (r := r) (f := f) (k := fun _ => k) (View.set_slice_subset _ r)) $$ [Hf]
  · iexact Hf
  iintro Hf
  iapply Hk
  iexists f; iexact Hf

/-- Store over a whole buffer. -/
theorem own_storeZ {s : Shape} (c : Dev nD) (Kt : PUnit.{1} → sProp 𝕄) (M : Memref sig .tc .vmem s .f32) (off : Fin s.rank → ℕ) (h : off = fun _ => 0)
    (inb : ∀ a, off a + s.size a ≤ s.size a) (w : s.Idx → Elt F .f32)
    (hx : (M.access (Rect.unit (s := s) off s.size inb)).Stores Finset.univ)
    (hm : (Finset.univ : Finset (Rect.unit (s := s) off s.size inb).shape.Idx) = Finset.univ ∨ ∀ a, (Rect.unit (s := s) off s.size inb).stride a = 1) (k : PK F) :
    ownA (F := F) c M fullShare
      ⊢ iprop((own c M fullShare w -∗ wpc c k Kt) -∗ wpc c (.op (.store M (Rect.unit (s := s) off s.size inb) w Finset.univ hx hm) fun _ => k) Kt) := by
  unfold own ownA
  iintro ⟨%f, Hf⟩ Hk
  iapply (wp_store 𝒱₀ (c : Thread nD τ) none Set.univ (m := M) (r := Rect.unit (s := s) off s.size inb) (f := f) (k := fun _ => k) (S := M.view.set) (View.set_slice_subset _ _)) $$ [Hf]
  · iexact Hf
  iintro Hf
  iapply Hk
  iexists _
  isplitl [Hf]; · iexact Hf
  ipureintro
  refine Eq.trans ?_ (View.read_write_univ (v := M.access (Rect.unit (s := s) off s.size inb)) f w)
  funext i
  exact congrArg (fun j => M.view.read (Elt F) ((M.access (Rect.unit (s := s) off s.size inb)).write (Elt F) f w Finset.univ) j) (emb_zero off h inb i).symm

section
variable (a1 : Memref sig .tc .vmem S8192x256 .f32) (a2 : Memref sig .tc .vmem S256x4096 .f32)
theorem zero2 : (![0, 0] : Fin 2 → ℕ) = fun _ => 0 := by decide

/-- Compute row block `b`'s own product into a buffer. -/
theorem wp_mm (X : XT F) (Wt : WT F) (c : Dev nD) (Kt : PUnit.{1} → sProp 𝕄) (t : Memref sig .tc .vmem S256x2048 .f32) (d : Bool) (b : Fin 32) (off : Fin 2 → ℕ)
    (h : ∀ a, off a + S256x256.size a ≤ S8192x256.size a) (hoff : off = ![256 * b.val, 0]) (k : PK F) :
    iprop(own c a1 fullShare (X c) ∗ own c a2 fullShare (Wt c) ∗ ownA (F := F) c t fullShare)
      ⊢ iprop(((own c a1 fullShare (X c) ∗ own c a2 fullShare (Wt c) ∗ own c t fullShare (part X Wt d c b)) -∗ wpc c k Kt) -∗ wpc c (mm a1 a2 t d off h k) Kt) := by
  subst hoff
  unfold mm
  iintro ⟨H1, H2, H3⟩ Hk
  iapply (own_load c Kt a1 fullShare (X c) (Rect.unit (s := S8192x256) ![256 * b.val, 0] S256x256.size h)) $$ H1
  iintro H1
  iapply (own_load c Kt a2 fullShare (Wt c) (wR d)) $$ H2
  iintro H2
  iapply (ownA_loadZ c Kt t fullShare fullR) $$ H3
  iintro H3
  iapply (own_storeZ c Kt t ![0, 0] zero2 inb_S256x2048_S256x2048_0_0) $$ H3
  iintro H3
  iapply Hk
  isplitl [H1]; · iexact H1
  isplitl [H2]; · iexact H2
  iexact H3
end

end Cert.KernelIdeal.AR
-- ==== Proof.Steps.lean ====
/- The communication steps over the protocol: waiting for a pair of copies, sending, acknowledgements, the barrier. -/
module

public import proofs.«01_k».proof.Proof.Rules
public import Idealize.ShloMosaic.Lib.SparseCore.Launch

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

/-! ## The cells -/

/-- The kernel's own semaphores: eighteen of copies, two of acknowledgements. -/
def osem (i : Fin 20) : SemLoc sig := if h : i.val < 18 then .dma ⟨i.val + 3, by have := h; show i.val + 3 < 21; omega⟩ else .reg ⟨i.val - 18, by have := i.isLt; show i.val - 18 < 3; omega⟩

theorem osem_inj : Function.Injective osem := by decide
def oC : Dev nD × Fin 20 ↪ GSem nD τ sig := ⟨fun x => ((x.1 : Thread nD τ), osem x.2), fun x y h => by
  have h1 := congrArg (fun g : GSem nD τ sig => g.1.1) h
  have h2 := congrArg (fun g : GSem nD τ sig => g.2) h
  exact Prod.ext h1 (osem_inj h2)⟩
def bCe : Dev nD ↪ GSem nD τ sig := ⟨bC, fun x y h => congrArg (fun g : GSem nD τ sig => g.1.1) h⟩

def barCells : Finset (GSem nD τ sig) := Finset.univ.map bCe
def ownCells : Finset (GSem nD τ sig) := Finset.univ.map oC
def cells : Finset (GSem nD τ sig) := barCells ∪ ownCells

def aIx (d : Bool) : Fin 20 := ⟨18 + sl d, by cases d <;> decide⟩
def tIx (d : Bool) : Fin 20 := ⟨16 + sl d, by cases d <;> decide⟩
def sIx (d σ u : Bool) : Fin 20 := ⟨8 * sl d + six σ u, by cases d <;> cases σ <;> cases u <;> decide⟩
def rIx (d σ u : Bool) : Fin 20 := ⟨8 * sl d + 4 + six σ u, by cases d <;> cases σ <;> cases u <;> decide⟩
theorem osem_a (d : Bool) : osem (aIx d) = .reg (aS d) := by cases d <;> decide
theorem osem_t (d : Bool) : osem (tIx d) = .dma (stS d) := by cases d <;> decide
theorem osem_s (d σ u : Bool) : osem (sIx d σ u) = .dma (sS d σ u) := by cases d <;> cases σ <;> cases u <;> decide
theorem osem_r (d σ u : Bool) : osem (rIx d σ u) = .dma (rS d σ u) := by cases d <;> cases σ <;> cases u <;> decide

theorem own_mem (c : Dev nD) (i : Fin 20) (sm : SemLoc sig) (h : osem i = sm) : ((c : Thread nD τ), sm) ∈ cells :=
  Finset.mem_union_right _ (Finset.mem_map.mpr ⟨(c, i), Finset.mem_univ _, by rw [← h]; rfl⟩)
theorem bC_mem (c : Dev nD) : bC c ∈ cells := Finset.mem_union_left _ (Finset.mem_map.mpr ⟨c, Finset.mem_univ _, rfl⟩)
theorem aC_mem (c : Dev nD) (d : Bool) : aC c d ∈ cells := own_mem c _ _ (osem_a d)
theorem tC_mem (c : Dev nD) (d : Bool) : tC c d ∈ cells := own_mem c _ _ (osem_t d)
theorem sC_mem (c : Dev nD) (d σ u : Bool) : sC c d σ u ∈ cells := own_mem c _ _ (osem_s d σ u)
theorem rC_mem (c : Dev nD) (d σ u : Bool) : rC c d σ u ∈ cells := own_mem c _ _ (osem_r d σ u)

/-! ## What is always there -/

section
variable (X : XT F) (Wt : WT F) (K : GSem nD τ sig → ℕ) (Kι : RKey → ℕ)

/-- The levels. -/
def levs : sProp 𝕄 := levAts L lv
instance levs_persistent : BI.Persistent (levs (F := F)) := by unfold levs; infer_instance

/-- Every cell's invariant, every slot's, and the levels. -/
def env : sProp 𝕄 :=
  iprop(bigSep cells (fun g => cellInv ER (Rd X Wt) (K g) g) ∗ bigSep Finset.univ (fun k : RKey => slotInv ES (Kι k) k (slotP (F := F) k)) ∗ levs)
instance env_persistent : BI.Persistent (env X Wt K Kι) := by unfold env; infer_instance

theorem env_cell {g : GSem nD τ sig} (h : g ∈ cells) : env X Wt K Kι ⊢ cellInv ER (Rd X Wt) (K g) g := by
  unfold env
  rw [bigSep_erase' h]
  iintro ⟨⟨H, -⟩, -, -⟩; iexact H
theorem env_slot (k : RKey) : env X Wt K Kι ⊢ slotInv ES (Kι k) k (slotP (F := F) k) := by
  unfold env
  rw [bigSep_erase' (Finset.mem_univ k)]
  iintro ⟨-, ⟨H, -⟩, -⟩; iexact H
theorem env_lev : env X Wt K Kι ⊢ levs (F := F) := by
  unfold env
  iintro ⟨-, -, H⟩; iexact H
theorem levs_wait {O : CellTallies nD τ sig ℕ} {n : ℕ} (h : Above O n) (c : Dev nD) (sm : SemLoc sig) (i : ℕ) (hi : i < 64) (hl : kLv i (knd sm) ≤ n) :
    levs (F := F) ⊢ MayWait (c : Thread nD τ) sm i O := Above.wait h c sm i hi hl
set_option maxRecDepth 100000 in
theorem env_wait {O : CellTallies nD τ sig ℕ} {n : ℕ} (h : Above O n) (c : Dev nD) (sm : SemLoc sig) (i : ℕ) (hi : i < 64) (hl : kLv i (knd sm) ≤ n) :
    env X Wt K Kι ⊢ MayWait (c : Thread nD τ) sm i O := (env_lev X Wt K Kι).trans (levs_wait h c sm i hi hl)
end

theorem lv_send (d σ u : Bool) (i n : ℕ) : kLv i (knd (.dma (sS d σ u))) ≤ n := by rw [knd_send]; exact Nat.zero_le n
theorem lv_recv (d σ u : Bool) (i : ℕ) : kLv i (knd (.dma (rS d σ u))) ≤ 2 * i + 10 := by rw [knd_recv]; exact Nat.le_refl (2 * i + 10)
theorem lv_ack (d : Bool) (i : ℕ) : kLv i (knd (.reg (aS d))) ≤ 2 * i + 11 := by rw [knd_ack]; exact Nat.le_refl (2 * i + 11)
theorem lv_bar (i : ℕ) : kLv i (knd (.reg bS)) ≤ 1 := by rw [knd_bar]; exact Nat.le_refl 1

/-- What the device owes, whatever it has waited for. -/
def owe (c : Dev nD) (O : CellTallies nD τ sig ℕ) : sProp 𝕄 := iprop(∃ W, owes (c : Thread nD τ) O W)

/-! ## Positions -/

def at4 (c : Dev nD) (d σ u : Bool) (r : ℕ) : sProp 𝕄 :=
  iprop(atPos ER (sC c d σ u) r ∅ 0 ∗ reached ER (sC c d σ u) r ∗ atPos ER (rC c d σ u) r ∅ 0 ∗ reached ER (rC c d σ u) r)
/-- Where the device stands on the cells of a direction's half before step `s`. -/
def posn (c : Dev nD) (d u : Bool) (s : ℕ) : sProp 𝕄 := iprop(at4 (F := F) c d false u (cnt false s) ∗ at4 (F := F) c d true u (cnt true s))

theorem posn_step (c : Dev nD) (d u : Bool) (s : ℕ) :
    posn (F := F) c d u s ⊢ iprop(at4 (F := F) c d (bit s) u (s / 2) ∗ (at4 (F := F) c d (bit s) u (s / 2 + 1) -∗ posn (F := F) c d u (s + 1))) := by
  have h1 := cnt_bit s; have h2 := cnt_bit_succ s; have h3 := cnt_not s
  unfold posn
  cases hb : bit s <;> rw [hb] at h1 h2 h3 <;> simp only [Bool.not_true, Bool.not_false] at h3 <;> rw [h1, h2, h3]
  · iintro ⟨H1, H2⟩
    isplitl [H1]; · iexact H1
    iintro H
    isplitl [H]; · iexact H
    iexact H2
  · iintro ⟨H1, H2⟩
    isplitl [H2]; · iexact H2
    iintro H
    isplitl [H1]; · iexact H1
    iexact H

def cS (c : Dev nD) (d u : Bool) (s : ℕ) : sProp 𝕄 := cred (tallyAt (sC c d (bit s) u) s NB)
def cR (c : Dev nD) (d u : Bool) (s : ℕ) : sProp 𝕄 := cred (tallyAt (rC c d (bit s) u) s NB)
def tokS (c : Dev nD) (d u : Bool) (n : ℕ) : sProp 𝕄 :=
  iprop(dutyTok ER (sC c d (bit n) u) (n / 2) 0 ∗ dutyTok ER (rC (nxt d c) d (bit n) u) (n / 2) 0)
/-- What a send of step `n` and an acknowledgement of step `n` pay off. -/
def oS (c : Dev nD) (d u : Bool) (n : ℕ) : CellTallies nD τ sig ℕ := tallyAt (rC (nxt d c) d (bit n) u) n NB
def oA (c : Dev nD) (d : Bool) (n : ℕ) : CellTallies nD τ sig ℕ := tallyAt (aC (prv d c) d) n 1

theorem oS_above (c : Dev nD) (d u : Bool) {n m : ℕ} (hn : n < 62) (h : m < 2 * n + 10) : Above (oS c d u n) m :=
  Above.at (by omega) (by rw [knd_recv]; exact h)
theorem oA_above (c : Dev nD) (d : Bool) {n m : ℕ} (hn : n < 62) (h : m < 2 * n + 11) : Above (oA c d n) m :=
  Above.at (by omega) (by rw [knd_ack]; exact h)

section
variable (X : XT F) (Wt : WT F) (K : GSem nD τ sig → ℕ) (Kι : RKey → ℕ) (c : Dev nD)

theorem rest_send (d σ u : Bool) {r : ℕ} (h : r < 31) :
    bigSep ((Rd X Wt).duties (sC c d σ u) r \ ∅) (fun i => (Rd X Wt).payload (sC c d σ u) r i) = srcB X Wt d u (2 * r + sl σ) c := by
  rw [Finset.sdiff_empty, duties_send X Wt c d σ u h, bigSep_singleton, payload_send]
theorem rest_recv (d σ u : Bool) {r : ℕ} (h : r < 31) :
    bigSep ((Rd X Wt).duties (rC c d σ u) r \ ∅) (fun i => (Rd X Wt).payload (rC c d σ u) r i) = rcvB X Wt d σ u (2 * r + sl σ) c := by
  rw [Finset.sdiff_empty, duties_recv X Wt c d σ u h, bigSep_singleton, payload_recv]

/-- Wait for the copy sent and the copy received at step `s`. -/
theorem wp_pair (Kt : PUnit.{1} → sProp 𝕄) {sp1 sp2 sp3 sp4 : Space} {s1 s2 s3 s4 : Shape} (d u σ : Bool) (s : ℕ) (hσ : σ = bit s) (hs : s < 62)
    (src1 : Memref sig .tc sp1 s1 .f32) (dst1 : Memref sig .tc sp2 s2 .f32) (src2 : Memref sig .tc sp3 s3 .f32) (dst2 : Memref sig .tc sp4 s4 .f32)
    (h1 : src1.view.WordExact) (h2 : dst1.view.WordExact) (h3 : src2.view.WordExact) (h4 : dst2.view.WordExact)
    (hN1 : dst1.view.dmaCredit = NB) (hN2 : dst2.view.dmaCredit = NB) (O : CellTallies nD τ sig ℕ) (hO : Above O (2 * s + 10)) (k : PK F) :
    iprop(env X Wt K Kι ∗ posn (F := F) c d u s ∗ cS (F := F) c d u s ∗ cR (F := F) c d u s ∗ owe (F := F) c O)
      ⊢ iprop(((posn (F := F) c d u (s + 1) ∗ srcB X Wt d u s c ∗ rcvB X Wt d σ u s c ∗ owe (F := F) c O) -∗ wpc c k Kt)
        -∗ wpc c (.op (.waitDma2 (sS d σ u) src1 dst1 h1 h2) fun _ => .op (.waitDma2 (rS d σ u) src2 dst2 h3 h4) fun _ => k) Kt) := by
  have hr : s / 2 < 31 := by omega
  have hb := sl_bit s
  subst hσ
  unfold cS cR owe
  iintro ⟨#HE, Hp, Hc1, Hc2, ⟨%W, HO⟩⟩ Hk
  ihave Hp := (posn_step c d u s) $$ Hp
  icases Hp with ⟨Hp, Hback⟩
  unfold at4
  icases Hp with ⟨Ha1, -, Ha2, -⟩
  iapply (Rounds.wp_wait_rest_token 𝒱₀ ER (Rd X Wt) (c : Thread nD τ) none (κ := K (sC c d (bit s) u))
      ((wpE_waitDma2_eq (src := src1) (dst := dst1) (hsrc := h1) (hdst := h2) 𝒱₀ (c : Thread nD τ) none Set.univ)) (Set.mem_univ _) s (O := O) (W := W) (R := s / 2) (m := 0) (T := ∅)
      (by rw [hN1, Nat.zero_add]; exact (expect_send X Wt c d (bit s) u hr).symm)) $$ [Hc1 HO Ha1]
  · isplitr; · iapply (env_cell X Wt K Kι (sC_mem c d (bit s) u)); iexact HE
    isplitl [Hc1]; · rw [hN1]; iexact Hc1
    isplitl [HO]; · iexact HO
    isplitr
    · iapply (env_wait X Wt K Kι hO c (.dma (sS d (bit s) u)) s (by omega) (lv_send d (bit s) u s _))
      iexact HE
    iexact Ha1
  iintro ⟨HO, Ha1, #Hr1, Hpay1⟩
  ihave Hpay1 := (Entails.of_eq (rest_send X Wt c d (bit s) u hr)) $$ Hpay1
  rw [hb]
  iapply (Rounds.wp_wait_rest_token 𝒱₀ ER (Rd X Wt) (c : Thread nD τ) none (κ := K (rC c d (bit s) u))
      ((wpE_waitDma2_eq (src := src2) (dst := dst2) (hsrc := h3) (hdst := h4) 𝒱₀ (c : Thread nD τ) none Set.univ)) (Set.mem_univ _) s (O := O) (R := s / 2) (m := 0) (T := ∅)
      (by rw [hN2, Nat.zero_add]; exact (expect_recv X Wt c d (bit s) u hr).symm)) $$ [Hc2 HO Ha2]
  · isplitr; · iapply (env_cell X Wt K Kι (rC_mem c d (bit s) u)); iexact HE
    isplitl [Hc2]; · rw [hN2]; iexact Hc2
    isplitl [HO]; · iexact HO
    isplitr
    · iapply (env_wait X Wt K Kι hO c (.dma (rS d (bit s) u)) s (by omega) (lv_recv d (bit s) u s))
      iexact HE
    iexact Ha2
  iintro ⟨HO, Ha2, #Hr2, Hpay2⟩
  ihave Hpay2 := (Entails.of_eq (rest_recv X Wt c d (bit s) u hr)) $$ Hpay2
  rw [hb]
  iapply Hk
  isplitl [Hback Ha1 Ha2]
  · iapply Hback
    isplitl [Ha1]; · iexact Ha1
    isplitr; · iexact Hr1
    isplitl [Ha2]; · iexact Ha2
    iexact Hr2
  isplitl [Hpay1]; · iexact Hpay1
  isplitl [Hpay2]; · iexact Hpay2
  iexists _; iexact HO

omit [FloatOps F] in
theorem own_intro (c : Dev nD) {sp : Space} {s : Shape} (M : Memref sig .tc sp s .f32) (q : PosShare TreeShare) (f : Buf (Elt F) (M.view.loc (c : Thread nD τ)))
    (v : s.Idx → Elt F .f32) (h : M.view.read (Elt F) f = v) : iprop(M.view.loc (c : Thread nD τ) ↦[M.view.set]{q} f) ⊢ own c M q v := by
  unfold own
  iintro H; iexists f; isplitl [H]; · iexact H
  ipureintro; exact h

/-- Send at step `n`. -/
theorem wp_snd (Kt : PUnit.{1} → sProp 𝕄) {sp1 sp2 : Space} (d u σ : Bool) (n : ℕ) (hσ : σ = bit n) (hn : n < 62) (dev : Dev nD) (hdev : dev = nxt d c)
    (src : Memref sig .tc sp1 S256x1024 .f32) (dst : Memref sig .tc sp2 S256x1024 .f32) {hsc : dst.view.ref.isScScratch = false}
    (h1 : src.view.WordExact) (h2 : dst.view.WordExact) (h3 : DmaTarget.Typed (nD := nD) (τ := τ) sp1 (.dma (rS d σ u)) (.remote (Dev.tc dev) dst (.dma (sS d σ u)) hsc))
    (hN : dst.view.dmaCredit = NB) (q : PosShare TreeShare) (v : S256x1024.Idx → Elt F .f32)
    (hsrc : own c src q v ⊢ srcB X Wt d u n c) (hdst : own (nxt d c) dst fullShare v ⊢ rcvB X Wt d σ u n (nxt d c))
    (O : CellTallies nD τ sig ℕ) (k : PK F) :
    iprop(env X Wt K Kι ∗ reached ER (sC c d σ u) (n / 2) ∗ reached ER (rC (nxt d c) d σ u) (n / 2) ∗ tokS (F := F) c d u n
        ∗ own c src q v ∗ ownA (F := F) (nxt d c) dst fullShare ∗ owe (F := F) c (O + oS c d u n))
      ⊢ iprop(((cS (F := F) c d u n ∗ owe (F := F) c O) -∗ wpc c k Kt)
        -∗ wpc c (.op (.enqueueDma src (.remote (Dev.tc dev) dst (.dma (sS d σ u)) hsc) (.dma (rS d σ u)) h1 h2 h3) fun _ => k) Kt) := by
  have hr : n / 2 < 31 := by omega
  have hb := sl_bit n
  subst hdev
  subst hσ
  unfold cS owe tokS own ownA
  iintro ⟨#HE, #Hr1, #Hr2, ⟨Ht1, Ht2⟩, ⟨%f, Hf, %hv⟩, ⟨%g, Hg⟩, ⟨%W, HO⟩⟩ Hk
  iapply (Rounds.wp_send_pointsTo 𝒱₀ ER (Rd X Wt) (c : Thread nD τ) none (c' := (nxt d c : Thread nD τ)) (src := src) (dst := dst)
      (sS := .dma (sS d (bit n) u)) (sem := .dma (rS d (bit n) u)) (q := q) (fs := f) (κ₁ := K (sC c d (bit n) u)) (κ₂ := K (rC (nxt d c) d (bit n) u))
      (r₁ := n / 2) (r₂ := n / 2) (d₁ := 0) (d₂ := 0) (fd := g)
      (by rw [duties_send X Wt c d (bit n) u hr]; exact Finset.mem_singleton_self _) (by rw [duties_recv X Wt (nxt d c) d (bit n) u hr]; exact Finset.mem_singleton_self _)
      n n NB hN (amount_send X Wt c d (bit n) u _ _) (amount_recv X Wt (nxt d c) d (bit n) u _ _) O rfl (W := W)
      (by
        rw [payload_send, hb]
        exact (own_intro c src q f v hv).trans hsrc)
      (by
        rw [payload_recv, hb]
        exact (own_intro (nxt d c) dst fullShare _ v ((View.read_write_univ _ _).trans hv)).trans hdst)) $$ [Hf Hg HO Ht1 Ht2]
  · isplitr; · iapply (env_cell X Wt K Kι (sC_mem c d (bit n) u)); iexact HE
    isplitr; · iapply (env_cell X Wt K Kι (rC_mem (nxt d c) d (bit n) u)); iexact HE
    isplitl [Hf]; · iexact Hf
    isplitl [Hg]; · iexact Hg
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

/-! ## Acknowledgements -/

/-- After `m` units of acknowledgement: at least `m` steps' acknowledgements are in, and all they say. -/
def ackSt (d : Bool) (m : ℕ) : sProp 𝕄 :=
  iprop(∃ T : Finset ℕ, ⌜m ≤ T.card ∧ T ⊆ Finset.range 62⌝ ∗ atPos ER (aC c d) 0 T m ∗ bigSep T (fun j => upto (F := F) d (nxt d c) (j + 1)))

theorem upto_mono (d : Bool) (p : Dev nD) {n n' : ℕ} (h : n ≤ n') : upto (F := F) d p n' ⊢ upto (F := F) d p n := by
  have h0 := cnt_mono false h; have h1 := cnt_mono true h
  have hm : min n 29 ≤ min n' 29 := by omega
  have h2 := cnt_mono false hm; have h3 := cnt_mono true hm
  unfold upto
  iintro ⟨H1, H2, H3, H4, H5, H6⟩
  isplitl [H1]; · iapply (reached_mono ER h0); iexact H1
  isplitl [H2]; · iapply (reached_mono ER h0); iexact H2
  isplitl [H3]; · iapply (reached_mono ER h1); iexact H3
  isplitl [H4]; · iapply (reached_mono ER h1); iexact H4
  isplitl [H5]; · iapply (Release.released_mono ES (Nat.add_le_add_left h2 1)); iexact H5
  iapply (Release.released_mono ES (Nat.add_le_add_left h3 1)); iexact H6

theorem upto_pick (d : Bool) (p : Dev nD) (m : ℕ) (T : Finset ℕ) (h : m + 1 ≤ T.card) :
    bigSep T (fun j => upto (F := F) d p (j + 1)) ⊢ upto (F := F) d p (m + 1) := by
  have : ∃ j ∈ T, m ≤ j := by
    by_contra hn
    push Not at hn
    have : T ⊆ Finset.range m := fun j hj => Finset.mem_range.mpr (hn j hj)
    have := Finset.card_le_card this
    rw [Finset.card_range] at this
    omega
  obtain ⟨j, hj, hm⟩ := this
  rw [bigSep_erase' hj]
  iintro ⟨H, -⟩
  iapply (upto_mono d p (show m + 1 ≤ j + 1 by omega)); iexact H

/-- Wait for one acknowledgement. -/
theorem wp_ackW (Kt : PUnit.{1} → sProp 𝕄) (d : Bool) (n : ℕ) (hn : n < 61) (O : CellTallies nD τ sig ℕ) (hO : Above O (2 * n + 11)) (k : PK F) :
    iprop(env X Wt K Kι ∗ ackSt (F := F) c d n ∗ cred (tallyAt (aC c d) n 1) ∗ owe (F := F) c O)
      ⊢ iprop(((ackSt (F := F) c d (n + 1) ∗ upto (F := F) d (nxt d c) (n + 1) ∗ owe (F := F) c O) -∗ wpc c k Kt) -∗ wpc c (ackW d 1#32 k) Kt) := by
  unfold ackSt owe
  iintro ⟨#HE, ⟨%T, %hT, Ha, #HT⟩, Hc, ⟨%W, HO⟩⟩ Hk
  iapply (Rounds.wp_wait 𝒱₀ ER (Rd X Wt) (c : Thread nD τ) none (κ := K (aC c d)) (k' := 1) (k := fun _ => k)
      (wpE_semWait_eq 𝒱₀ (c : Thread nD τ) none Set.univ) (Set.mem_univ _) (cr := Finsupp.single n 1) (O := O) (W := W) {((.reg (aS d) : SemLoc sig), n)} (R := 0) (m := n) (T := T)
      (by simp [Util.total]) (by
        intro x hx
        obtain ⟨i, hi, rfl⟩ := Finset.mem_image.mp hx
        have := Finsupp.support_single_subset hi
        rw [Finset.mem_singleton.mp this]; exact Finset.mem_singleton_self _)) $$ [Hc HO Ha]
  · isplitr; · iapply (env_cell X Wt K Kι (aC_mem c d)); iexact HE
    isplitl [Hc]; · iexact Hc
    isplitl [HO]; · iexact HO
    isplitr
    · iapply (env_wait X Wt K Kι hO c (.reg (aS d)) n (by omega) (lv_ack d n))
      iexact HE
    iexact Ha
  iintro %S ⟨%hS, HO, Ha, Hpay⟩
  obtain ⟨hTS, hSd, hcard⟩ := hS
  have hdu := duties_ack X Wt c d
  have hex := expect_ack X Wt c d
  rw [hdu] at hSd hcard
  rw [hex, Finset.card_sdiff_of_subset hSd, Finset.card_range] at hcard
  have hSc := Finset.card_le_card hSd
  rw [Finset.card_range] at hSc
  simp only [payload_ack]
  ihave #HS : bigSep S (fun j => upto (F := F) d (nxt d c) (j + 1)) $$ [Hpay]
  · rw [bigSep_sdiff_split' hTS]
    isplitr; · iexact HT
    iexact Hpay
  iapply Hk
  isplitl [Ha]
  · iexists S
    isplitr; · ipureintro; exact ⟨by omega, hSd⟩
    isplitl [Ha]; · iexact Ha
    iexact HS
  isplitr; · iapply (upto_pick d (nxt d c) n S (by omega)); iexact HS
  iexists _; iexact HO

set_option maxRecDepth 100000 in
/-- The last two acknowledgements. -/
theorem wp_ackLast (Kt : PUnit.{1} → sProp 𝕄) (d : Bool) (O : CellTallies nD τ sig ℕ) (hO : Above O 133) (k : PK F) :
    iprop(env X Wt K Kι ∗ ackSt (F := F) c d 60 ∗ cred (tallyAt (aC c d) 60 1) ∗ cred (tallyAt (aC c d) 61 1) ∗ owe (F := F) c O)
      ⊢ iprop(((atPos ER (aC c d) 1 ∅ 0 ∗ owe (F := F) c O) -∗ wpc c k Kt) -∗ wpc c (ackW d 2#32 k) Kt) := by
  unfold ackSt owe
  iintro ⟨#HE, ⟨%T, %hT, Ha, #HT⟩, Hc, Hc', ⟨%W, HO⟩⟩ Hk
  iapply (Rounds.wp_wait_rest 𝒱₀ ER (Rd X Wt) (c : Thread nD τ) none (κ := K (aC c d)) (k' := 2) (k := fun _ => k)
      (wpE_semWait_eq 𝒱₀ (c : Thread nD τ) none Set.univ) (Set.mem_univ _) (cr := Finsupp.single 60 1 + Finsupp.single 61 1) (O := O) (W := W)
      {((.reg (aS d) : SemLoc sig), 60), ((.reg (aS d) : SemLoc sig), 61)} (R := 0) (m := 60) (T := T)
      (by rw [expect_ack]) (by rw [Util.total_add, Util.total_single, Util.total_single]) (by
        intro x hx
        obtain ⟨i, hi, rfl⟩ := Finset.mem_image.mp hx
        rcases Finset.mem_union.mp (Finsupp.support_add hi) with hi | hi
        · rw [Finset.mem_singleton.mp (Finsupp.support_single_subset hi)]; exact Finset.mem_insert_self _ _
        · rw [Finset.mem_singleton.mp (Finsupp.support_single_subset hi)]; exact Finset.mem_insert_of_mem (Finset.mem_singleton_self _))) $$ [Hc Hc' HO Ha]
  · isplitr; · iapply (env_cell X Wt K Kι (aC_mem c d)); iexact HE
    isplitl [Hc Hc']
    · rw [tallyOn_add]; iapply (cred_add _ _).2
      isplitl [Hc]; · iexact Hc
      iexact Hc'
    isplitl [HO]; · iexact HO
    isplitr
    · iapply (MayOwe.of_cut (L := L) (lev := lv) 133
        (fun p hp => by
          rcases Finset.mem_insert.mp hp with rfl | hp
          · unfold L; rw [if_pos rfl]; exact Finset.mem_range.mpr (by omega)
          · rw [Finset.mem_singleton.mp hp]; unfold L; rw [if_pos rfl]; exact Finset.mem_range.mpr (by omega))
        (fun g u hg => (hO g u hg).1)
        (fun p hp => by
          rcases Finset.mem_insert.mp hp with rfl | hp
          · show kLv 60 (knd _) ≤ 133; rw [knd_ack]; exact Nat.le_of_ble_eq_true rfl
          · rw [Finset.mem_singleton.mp hp]; show kLv 61 (knd _) ≤ 133; rw [knd_ack]; exact Nat.le_of_ble_eq_true rfl)
        (fun g u hg => (hO g u hg).2))
      ihave HL := (env_lev X Wt K Kι) $$ HE
      unfold levs
      iexact HL
    iexact Ha
  iintro ⟨HO, Ha, -, -⟩
  iapply Hk
  isplitl [Ha]; · iexact Ha
  iexists _; iexact HO

/-- Acknowledge step `s`. -/
theorem wp_ackS (Kt : PUnit.{1} → sProp 𝕄) (d : Bool) (dev : Dev nD) (hdev : dev = prv d c) (s : ℕ) (hs : s < 62) (O : CellTallies nD τ sig ℕ) (k : PK F) :
    iprop(env X Wt K Kι ∗ reached ER (aC (prv d c) d) 0 ∗ dutyTok ER (aC (prv d c) d) 0 s ∗ upto (F := F) d c (s + 1) ∗ owe (F := F) c (O + oA c d s))
      ⊢ iprop((owe (F := F) c O -∗ wpc c k Kt) -∗ wpc c (ackS d dev k) Kt) := by
  subst hdev
  unfold owe
  iintro ⟨#HE, #Hr, Ht, #Hu, ⟨%W, HO⟩⟩ Hk
  iapply (Rounds.wp_signal 𝒱₀ ER (Rd X Wt) (c : Thread nD τ) none (dst := (prv d c : Thread nD τ)) (sem := aS d) (r := 0) (d := s) (k' := 1) (k := fun _ => k) (κ := K (aC (prv d c) d))
      (by rw [duties_ack]; exact Finset.mem_range.mpr hs) (amount_ack X Wt (prv d c) d _ _) s O rfl) $$ [HO Ht]
  · isplitr; · iapply (env_cell X Wt K Kι (aC_mem (prv d c) d)); iexact HE
    isplitl [HO]; · iexact HO
    isplitl [Ht]; · iexact Ht
    isplitr
    · rw [payload_ack, nxt_prv]; iexact Hu
    iexact Hr
  iintro HO
  iapply Hk
  iexists _; iexact HO

/-! ## The barrier -/

/-- Signal the neighbour in direction `d`: grant it what it may write here for the other direction. -/
theorem wp_barS (Kt : PUnit.{1} → sProp 𝕄) (d : Bool) (dev : Dev nD) (hdev : dev = nxt d c) (O : CellTallies nD τ sig ℕ) (k : PK F) :
    iprop(env X Wt K Kι ∗ reached ER (bC (nxt d c)) 0 ∗ dutyTok ER (bC (nxt d c)) 0 (sl (!d)) ∗ grant (F := F) (!d) c ∗ owe (F := F) c (O + tallyAt (bC (nxt d c)) 0 1))
      ⊢ iprop((owe (F := F) c O -∗ wpc c k Kt) -∗ wpc c (barS dev k) Kt) := by
  subst hdev
  unfold owe
  iintro ⟨#HE, #Hr, Ht, Hu, ⟨%W, HO⟩⟩ Hk
  iapply (Rounds.wp_signal 𝒱₀ ER (Rd X Wt) (c : Thread nD τ) none (dst := (nxt d c : Thread nD τ)) (sem := bS) (r := 0) (d := sl (!d)) (k' := 1) (k := fun _ => k) (κ := K (bC (nxt d c)))
      (by rw [duties_bar]; cases d <;> decide) (amount_bar X Wt (nxt d c) _ _) 0 O rfl) $$ [HO Ht Hu]
  · isplitr; · iapply (env_cell X Wt K Kι (bC_mem (nxt d c))); iexact HE
    isplitl [HO]; · iexact HO
    isplitl [Ht]; · iexact Ht
    isplitl [Hu]
    · rw [payload_bar, show decide (sl (!d) = 1) = !d by cases d <;> decide, show nxt (!d) (nxt d c) = c from prv_nxt d c]; iexact Hu
    iexact Hr
  iintro HO
  iapply Hk
  iexists _; iexact HO

theorem wp_barW (Kt : PUnit.{1} → sProp 𝕄) (O : CellTallies nD τ sig ℕ) (hO : Above O 1) (k : PK F) :
    iprop(env X Wt K Kι ∗ atPos ER (bC c) 0 ∅ 0 ∗ cred (tallyAt (bC c) 0 2) ∗ owe (F := F) c O)
      ⊢ iprop(((atPos ER (bC c) 1 ∅ 0 ∗ grant (F := F) false (nxt false c) ∗ grant (F := F) true (nxt true c) ∗ owe (F := F) c O) -∗ wpc c k Kt) -∗ wpc c (barW k) Kt) := by
  unfold owe
  iintro ⟨#HE, Ha, Hc, ⟨%W, HO⟩⟩ Hk
  iapply (Rounds.wp_wait_rest_token 𝒱₀ ER (Rd X Wt) (c : Thread nD τ) none (κ := K (bC c)) (k' := 2) (k := fun _ => k)
      (wpE_semWait_eq 𝒱₀ (c : Thread nD τ) none Set.univ) (Set.mem_univ _) 0 (O := O) (W := W) (R := 0) (m := 0) (T := ∅)
      (by rw [expect_bar])) $$ [Hc HO Ha]
  · isplitr; · iapply (env_cell X Wt K Kι (bC_mem c)); iexact HE
    isplitl [Hc]; · iexact Hc
    isplitl [HO]; · iexact HO
    isplitr
    · iapply (env_wait X Wt K Kι hO c (.reg bS) 0 (by omega) (lv_bar 0))
      iexact HE
    iexact Ha
  iintro ⟨HO, Ha, -, Hpay⟩
  ihave Hpay := (Entails.of_eq (show bigSep ((Rd X Wt).duties (bC c) 0 \ ∅) (fun i => (Rd X Wt).payload (bC c) 0 i) = iprop(grant (F := F) false (nxt false c) ∗ grant (F := F) true (nxt true c)) by
    rw [Finset.sdiff_empty, duties_bar, bigSep_insert' (by decide), bigSep_singleton, payload_bar, payload_bar]; rfl)) $$ Hpay
  icases Hpay with ⟨H0, H1⟩
  iapply Hk
  isplitl [Ha]; · iexact Ha
  isplitl [H0]; · iexact H0
  isplitl [H1]; · iexact H1
  iexists _; iexact HO
end

end Cert.KernelIdeal.AR
-- ==== Proof.Blocks.lean ====
/- The pieces of an iteration: waiting and adding, sending from the accumulator or the result, handing slots over. -/
module

public import proofs.«01_k».proof.Proof.Steps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

theorem cred_acc (d u : Bool) : (accM d u).view.dmaCredit = NB := by cases d <;> cases u <;> rfl
theorem cred_comm (d σ u : Bool) : (commM d σ u).view.dmaCredit = NB := by cases d <;> cases σ <;> cases u <;> rfl
theorem cred_tile (off : Fin 2 → ℕ) (h : ∀ a, off a + S256x1024.size a ≤ S8192x4096.size a) : (outM off h).view.dmaCredit = NB := rfl

section
variable (X : XT F) (Wt : WT F) (c : Dev nD)

theorem posn_sent (d u : Bool) (n : ℕ) : posn (F := F) c d u n ⊢ reached ER (sC c d (bit n) u) (n / 2) := by
  iintro H
  ihave H := posn_step c d u n $$ H
  icases H with ⟨H, -⟩
  unfold at4
  icases H with ⟨-, H, -⟩
  iexact H
theorem upto_recv (d u : Bool) (p : Dev nD) (n : ℕ) : upto (F := F) d p (n - 1) ⊢ reached ER (rC p d (bit n) u) (n / 2) := by
  have h : ∀ σ, bit n = σ → n / 2 ≤ cnt σ (n - 1) := by
    intro σ hσ; have := sl_bit n; rw [hσ] at this; unfold cnt; omega
  unfold upto
  iintro ⟨H1, H2, H3, H4, -⟩
  cases hb : bit n <;> cases u
  · iapply (reached_mono ER (h _ hb)); iexact H1
  · iapply (reached_mono ER (h _ hb)); iexact H2
  · iapply (reached_mono ER (h _ hb)); iexact H3
  · iapply (reached_mono ER (h _ hb)); iexact H4
theorem upto_slot (d : Bool) (p : Dev nD) (n : ℕ) (hn : n < 31) : upto (F := F) d p (n - 1) ⊢ released ES (p, d, bit n) (n / 2 + 1) := by
  have h : ∀ σ, bit n = σ → n / 2 + 1 ≤ 1 + cnt σ (min (n - 1) 29) := by
    intro σ hσ; have := sl_bit n; rw [hσ] at this; unfold cnt; omega
  unfold upto
  iintro ⟨-, -, -, -, H5, H6⟩
  cases hb : bit n
  · iapply (Release.released_mono ES (h _ hb)); iexact H5
  · iapply (Release.released_mono ES (h _ hb)); iexact H6
end

section
variable (X : XT F) (Wt : WT F) (K : GSem nD τ sig → ℕ) (Kι : RKey → ℕ) (c : Dev nD)

/-- Take the neighbour's slot for step `n`. -/
theorem slot_open (d : Bool) (n : ℕ) (hn : n < 31) :
    iprop(env X Wt K Kι ∗ upto (F := F) d (nxt d c) (n - 1) ∗ writeTok ES (nxt d c, d, bit n) (n / 2 + 1))
      ⊢ iprop(|={Set.univ}=> (ownA (F := F) (nxt d c) (commM d (bit n) false) fullShare ∗ ownA (F := F) (nxt d c) (commM d (bit n) true) fullShare)) := by
  iintro ⟨#HE, #Hu, Hw⟩
  iapply (Release.slot_take ES (Set.mem_univ (Kι (nxt d c, d, bit n))) (n / 2 + 1) (S := slotP (F := F) (nxt d c, d, bit n)))
  isplitr; · iapply (env_slot X Wt K Kι); iexact HE
  isplitr; · iapply (upto_slot d (nxt d c) n hn); iexact Hu
  iexact Hw

theorem ownA_excl {sp : Space} {s : Shape} (c : Dev nD) (M : Memref sig .tc sp s .f32) (i : s.Idx) :
    iprop(ownA (F := F) c M fullShare ∗ ownA (F := F) c M fullShare) ⊢ (iprop(False) : sProp 𝕄) := by
  unfold ownA
  iintro ⟨⟨%f, Hf⟩, ⟨%g, Hg⟩⟩
  iapply (pointsTo_overlap_false (ℓ := M.view.loc (c : Thread nD τ)) (I := M.view.set) (J := M.view.set) (i := M.view.emb i) (Finset.mem_map_of_mem _ (Finset.mem_univ i)) (Finset.mem_map_of_mem _ (Finset.mem_univ i)))
  isplitl [Hf]; · iexact Hf
  iexact Hg
theorem slotP_excl (k : RKey) : iprop(slotP (F := F) k ∗ slotP (F := F) k) ⊢ (iprop(False) : sProp 𝕄) := by
  unfold slotP
  iintro ⟨⟨H1, -⟩, ⟨H2, -⟩⟩
  iapply (ownA_excl k.1 (commM k.2.1 k.2.2 false) (Shape.Idx.first (by decide)))
  isplitl [H1]; · iexact H1
  iexact H2

/-- The device's own two slots before step `s`, as their reader. -/
def slots (d : Bool) (s : ℕ) : sProp 𝕄 :=
  iprop(readerAt ES (c, d, false) (1 + cnt false (min s 29)) ∗ readerAt ES (c, d, true) (1 + cnt true (min s 29))
    ∗ released ES (c, d, false) (1 + cnt false (min s 29)) ∗ released ES (c, d, true) (1 + cnt true (min s 29))
    ∗ (if 30 ≤ s then slotP (F := F) (c, d, true) else iprop(emp)) ∗ (if 31 ≤ s then slotP (F := F) (c, d, false) else iprop(emp)))

/-- After step `s` its slot is released to the writer, or kept when it was the last. -/
theorem slots_step (d : Bool) (s : ℕ) (hs : s < 31) :
    iprop(env X Wt K Kι ∗ slots (F := F) c d s ∗ ownA (F := F) c (commM d (bit s) false) fullShare ∗ ownA (F := F) c (commM d (bit s) true) fullShare)
      ⊢ iprop(|={Set.univ}=> slots (F := F) c d (s + 1)) := by
  unfold slots
  by_cases h29 : s < 29
  · have e1 : min s 29 = s := by omega
    have e2 : min (s + 1) 29 = s + 1 := by omega
    have h1 := cnt_bit s; have h2 := cnt_bit_succ s; have h3 := cnt_not s
    rw [e1, e2, if_neg (show ¬ 30 ≤ s by omega), if_neg (show ¬ 31 ≤ s by omega), if_neg (show ¬ 30 ≤ s + 1 by omega), if_neg (show ¬ 31 ≤ s + 1 by omega)]
    cases hb : bit s <;> rw [hb] at h1 h2 h3 <;> simp only [Bool.not_true, Bool.not_false] at h3 <;> rw [h1, h2, h3, show 1 + (s / 2 + 1) = 1 + s / 2 + 1 by omega]
    · iintro ⟨#HE, ⟨Hr0, Hr1, -, #H1, -, -⟩, Hs0, Hs1⟩
      imod (Release.slot_release ES (Set.mem_univ (Kι (c, d, false))) (slotP_excl (c, d, false)) (1 + s / 2)) $$ [Hr0 Hs0 Hs1] with ⟨Hr0, #H0⟩
      · isplitr; · iapply (env_slot X Wt K Kι); iexact HE
        isplitl [Hr0]; · iexact Hr0
        unfold slotP
        isplitl [Hs0]; · iexact Hs0
        iexact Hs1
      imodintro
      isplitl [Hr0]; · iexact Hr0
      isplitl [Hr1]; · iexact Hr1
      isplitr; · iexact H0
      isplitr; · iexact H1
      isplitr <;> iempintro
    · iintro ⟨#HE, ⟨Hr0, Hr1, #H0, -, -, -⟩, Hs0, Hs1⟩
      imod (Release.slot_release ES (Set.mem_univ (Kι (c, d, true))) (slotP_excl (c, d, true)) (1 + s / 2)) $$ [Hr1 Hs0 Hs1] with ⟨Hr1, #H1⟩
      · isplitr; · iapply (env_slot X Wt K Kι); iexact HE
        isplitl [Hr1]; · iexact Hr1
        unfold slotP
        isplitl [Hs0]; · iexact Hs0
        iexact Hs1
      imodintro
      isplitl [Hr0]; · iexact Hr0
      isplitl [Hr1]; · iexact Hr1
      isplitr; · iexact H0
      isplitr; · iexact H1
      isplitr <;> iempintro
  · have e1 : min s 29 = 29 := by omega
    have e2 : min (s + 1) 29 = 29 := by omega
    rw [e1, e2]
    rcases (by omega : s = 29 ∨ s = 30) with rfl | rfl
    · rw [if_neg (by decide), if_neg (by decide), if_pos (by decide), if_neg (by decide), show bit 29 = true by decide]
      iintro ⟨-, ⟨Hr0, Hr1, H0, H1, -, -⟩, Hs0, Hs1⟩
      imodintro
      isplitl [Hr0]; · iexact Hr0
      isplitl [Hr1]; · iexact Hr1
      isplitl [H0]; · iexact H0
      isplitl [H1]; · iexact H1
      isplitl; · unfold slotP; isplitl [Hs0]; · iexact Hs0
                 iexact Hs1
      iempintro
    · rw [if_pos (by decide), if_neg (by decide), if_pos (by decide), if_pos (by decide), show bit 30 = false by decide]
      iintro ⟨-, ⟨Hr0, Hr1, H0, H1, Hk, -⟩, Hs0, Hs1⟩
      imodintro
      isplitl [Hr0]; · iexact Hr0
      isplitl [Hr1]; · iexact Hr1
      isplitl [H0]; · iexact H0
      isplitl [H1]; · iexact H1
      isplitl [Hk]; · iexact Hk
      unfold slotP
      isplitl [Hs0]; · iexact Hs0
      iexact Hs1

/-- How far the device's own receiving side is. -/
theorem upto_own (d : Bool) (s : ℕ) :
    iprop(posn (F := F) c d false s ∗ posn (F := F) c d true s ∗ slots (F := F) c d (min s 31)) ⊢ upto (F := F) d c s := by
  unfold posn slots upto at4
  rw [show min (min s 31) 29 = min s 29 by omega]
  iintro ⟨⟨⟨-, -, -, H1⟩, -, -, -, H3⟩, ⟨⟨-, -, -, H2⟩, -, -, -, H4⟩, -, -, H5, H6, -⟩
  isplitl [H1]; · iexact H1
  isplitl [H2]; · iexact H2
  isplitl [H3]; · iexact H3
  isplitl [H4]; · iexact H4
  isplitl [H5]; · iexact H5
  iexact H6

/-- A reduce-scatter block of step `s`. -/
theorem wp_rsBlk (Kt : PUnit.{1} → sProp 𝕄) (d u σ : Bool) (s : ℕ) (hσ : σ = bit s) (hs : s < 31) (O : CellTallies nD τ sig ℕ) (hO : Above O (2 * s + 10)) (k : PK F) :
    iprop(env X Wt K Kι ∗ posn (F := F) c d u s ∗ cS (F := F) c d u s ∗ cR (F := F) c d u s ∗ owe (F := F) c O
        ∗ own c (half (tmp d) u) fullShare (hf u (part X Wt d c (blk d c (s + 1)))))
      ⊢ iprop(((posn (F := F) c d u (s + 1) ∗ own c (accM d u) fullShare (sv X Wt d u (s + 1) c) ∗ ownA (F := F) c (commM d σ u) fullShare
          ∗ ownA (F := F) c (half (tmp d) u) fullShare ∗ owe (F := F) c O) -∗ wpc c k Kt)
        -∗ wpc c (rsBlk d u σ k) Kt) := by
  unfold rsBlk
  iintro ⟨#HE, Hp, Hc1, Hc2, HO, Ht⟩ Hk
  iapply (wp_pair X Wt K Kι c Kt d u σ s hσ (by omega) (commM d σ u) (accM d u) (accM d u) (commM d σ u) _ _ _ _ (cred_acc d u) (cred_comm d σ u) O hO) $$ [Hp Hc1 Hc2 HO]
  · isplitr; · iexact HE
    isplitl [Hp]; · iexact Hp
    isplitl [Hc1]; · iexact Hc1
    isplitl [Hc2]; · iexact Hc2
    iexact HO
  unfold srcB rcvB
  rw [if_pos hs, if_pos hs]
  iintro ⟨Hp, Ha, Hr, HO⟩
  iapply (comm_load c Kt d σ u fullShare (sv X Wt d u s (prv d c))) $$ Hr
  iintro Hr
  iapply (own_loadS c Kt (tmp d) fullShare (halfR u) (fun _ => rfl) (hf u (part X Wt d c (blk d c (s + 1))))) $$ Ht
  iintro Ht
  iapply (ownA_loadS c Kt (acc d) fullShare (halfR u) (fun _ => rfl)) $$ Ha
  iintro Ha
  iapply (own_storeS c Kt (acc d) (halfR u) (fun _ => rfl)) $$ Ha
  iintro Ha
  iapply Hk
  isplitl [Hp]; · iexact Hp
  isplitl [Ha]
  · rw [sv, if_pos hs]; iexact Ha
  isplitl [Hr]; · iapply (own_weaken c (commM d σ u) fullShare _); iexact Hr
  isplitl [Ht]; · iapply (own_weaken c (half (tmp d) u) fullShare _); iexact Ht
  iexact HO

/-- A send of step `n` from the accumulator into a slot. -/
theorem wp_rsSend (Kt : PUnit.{1} → sProp 𝕄) (d u σ : Bool) (n : ℕ) (hσ : σ = bit n) (hn : n < 31) (dev : Dev nD) (hdev : dev = nxt d c) (O : CellTallies nD τ sig ℕ) (k : PK F) :
    iprop(env X Wt K Kι ∗ posn (F := F) c d u n ∗ upto (F := F) d (nxt d c) (n - 1) ∗ tokS (F := F) c d u n
        ∗ own c (accM d u) fullShare (sv X Wt d u n c) ∗ ownA (F := F) (nxt d c) (commM d (bit n) u) fullShare ∗ owe (F := F) c (O + oS c d u n))
      ⊢ iprop(((posn (F := F) c d u n ∗ cS (F := F) c d u n ∗ owe (F := F) c O) -∗ wpc c k Kt) -∗ wpc c (rsSend d u σ dev k) Kt) := by
  unfold rsSend
  iintro ⟨#HE, Hp, #Hu, Ht, Ha, Hs, HO⟩ Hk
  ihave #Hr := posn_sent c d u n $$ Hp
  iapply (wp_snd X Wt K Kι c Kt d u σ n hσ (by omega) dev hdev (accM d u) (commM d σ u) _ _ _ (cred_comm d σ u) fullShare (sv X Wt d u n c)
      (by unfold srcB; rw [if_pos hn]; exact own_weaken c (accM d u) fullShare _)
      (by unfold rcvB; rw [if_pos hn, prv_nxt]) O k) $$ [Ht Ha Hs HO]
  · isplitr; · iexact HE
    rw [hσ]
    isplitr; · iexact Hr
    isplitr; · iapply (upto_recv d u (nxt d c) n); iexact Hu
    isplitl [Ht]; · iexact Ht
    isplitl [Ha]; · iexact Ha
    isplitl [Hs]; · iexact Hs
    iexact HO
  iintro ⟨Hc, HO⟩
  iapply Hk
  isplitl [Hp]; · iexact Hp
  isplitl [Hc]; · iexact Hc
  iexact HO

/-- The waits of a gather step; the first step's sent copy is named by the accumulator. -/
def agBlkG (z d u σ : Bool) (off : Fin 2 → ℕ) (h : ∀ a, off a + S256x1024.size a ≤ S8192x4096.size a) (k : PK F) : PK F := match z with
  | true => agBlk0 d u σ off h k
  | false => agBlk d u σ off h k

theorem wp_agBlk (Kt : PUnit.{1} → sProp 𝕄) (z d u σ : Bool) (s : ℕ) (hσ : σ = bit s) (hs : 31 ≤ s) (hs' : s < 62) (off : Fin 2 → ℕ) (h : ∀ a, off a + S256x1024.size a ≤ S8192x4096.size a)
    (O : CellTallies nD τ sig ℕ) (hO : Above O (2 * s + 10)) (k : PK F) :
    iprop(env X Wt K Kι ∗ posn (F := F) c d u s ∗ cS (F := F) c d u s ∗ cR (F := F) c d u s ∗ owe (F := F) c O)
      ⊢ iprop(((posn (F := F) c d u (s + 1) ∗ srcB X Wt d u s c ∗ own c (tile d u (blk d c (s + 1))) fullShare (sv X Wt d u (s + 1) c) ∗ owe (F := F) c O) -∗ wpc c k Kt)
        -∗ wpc c (agBlkG z d u σ off h k) Kt) := by
  have e : rcvB X Wt d σ u s c = own c (tile d u (blk d c (s + 1))) fullShare (sv X Wt d u (s + 1) c) := by
    unfold rcvB; rw [if_neg (by omega), sv, if_neg (by omega)]
  rw [← e]
  cases z
  · exact wp_pair X Wt K Kι c Kt d u σ s hσ hs' (outM off h) (outM off h) (outM off h) (outM off h) _ _ _ _ (cred_tile off h) (cred_tile off h) O hO k
  · exact wp_pair X Wt K Kι c Kt d u σ s hσ hs' (outM off h) (accM d u) (accM d u) (outM off h) _ _ _ _ (cred_acc d u) (cred_tile off h) O hO k

/-- A send of the gather's step `n` after its first: a tile of the result to the same tile of the neighbour's. -/
theorem wp_agSend (Kt : PUnit.{1} → sProp 𝕄) (d u σ : Bool) (n : ℕ) (hσ : σ = bit n) (hn : 32 ≤ n) (hn' : n < 62) (dev : Dev nD) (hdev : dev = nxt d c) (off : Fin 2 → ℕ)
    (h : ∀ a, off a + S256x1024.size a ≤ S8192x4096.size a) (hoff : off = tOff d u (blk d c n)) (O : CellTallies nD τ sig ℕ) (k : PK F) :
    iprop(env X Wt K Kι ∗ posn (F := F) c d u n ∗ upto (F := F) d (nxt d c) (n - 1) ∗ tokS (F := F) c d u n
        ∗ own c (tile d u (blk d c n)) fullShare (sv X Wt d u n c) ∗ ownA (F := F) (nxt d c) (tile d u (blk d (nxt d c) (n + 1))) fullShare ∗ owe (F := F) c (O + oS c d u n))
      ⊢ iprop(((posn (F := F) c d u n ∗ cS (F := F) c d u n ∗ owe (F := F) c O) -∗ wpc c k Kt) -∗ wpc c (agSend d u σ dev off h k) Kt) := by
  subst hoff
  unfold agSend
  rw [blk_nxt]
  iintro ⟨#HE, Hp, #Hu, Ht, Ha, Hs, HO⟩ Hk
  ihave #Hr := posn_sent c d u n $$ Hp
  iapply (wp_snd X Wt K Kι c Kt d u σ n hσ (by omega) dev hdev (tile d u (blk d c n)) (tile d u (blk d c n)) _ _ _ (cred_tile _ _) fullShare (sv X Wt d u n c)
      (by unfold srcB; rw [if_neg (by omega), if_neg (by omega)])
      (by unfold rcvB; rw [if_neg (by omega), prv_nxt, blk_nxt]) O k) $$ [Ht Ha Hs HO]
  · isplitr; · iexact HE
    rw [hσ]
    isplitr; · iexact Hr
    isplitr; · iapply (upto_recv d u (nxt d c) n); iexact Hu
    isplitl [Ht]; · iexact Ht
    isplitl [Ha]; · iexact Ha
    isplitl [Hs]; · iexact Hs
    iexact HO
  iintro ⟨Hc, HO⟩
  iapply Hk
  isplitl [Hp]; · iexact Hp
  isplitl [Hc]; · iexact Hc
  iexact HO

/-- The gather's first send, from the accumulator. -/
theorem wp_agSend0 (Kt : PUnit.{1} → sProp 𝕄) (d u : Bool) (dev : Dev nD) (hdev : dev = nxt d c) (off : Fin 2 → ℕ)
    (h : ∀ a, off a + S256x1024.size a ≤ S8192x4096.size a) (hoff : off = tOff d u (blk d c 31)) (O : CellTallies nD τ sig ℕ) (k : PK F) :
    iprop(env X Wt K Kι ∗ posn (F := F) c d u 31 ∗ upto (F := F) d (nxt d c) 30 ∗ tokS (F := F) c d u 31
        ∗ own c (accM d u) fullShare.left (sv X Wt d u 31 c) ∗ ownA (F := F) (nxt d c) (tile d u (blk d (nxt d c) 32)) fullShare ∗ owe (F := F) c (O + oS c d u 31))
      ⊢ iprop(((posn (F := F) c d u 31 ∗ cS (F := F) c d u 31 ∗ owe (F := F) c O) -∗ wpc c k Kt) -∗ wpc c (agSend0 d u true dev off h k) Kt) := by
  subst hoff
  unfold agSend0
  rw [show blk d (nxt d c) 32 = blk d c 31 from blk_nxt d c 31]
  iintro ⟨#HE, Hp, #Hu, Ht, Ha, Hs, HO⟩ Hk
  ihave #Hr := posn_sent c d u 31 $$ Hp
  iapply (wp_snd X Wt K Kι c Kt d u true 31 rfl (by omega) dev hdev (accM d u) (tile d u (blk d c 31)) _ _ _ (cred_tile _ _) fullShare.left (sv X Wt d u 31 c)
      (by unfold srcB; rw [if_neg (by omega), if_pos rfl]; exact own_weaken c (accM d u) _ _)
      (by unfold rcvB; rw [if_neg (by omega), prv_nxt, show blk d (nxt d c) (31 + 1) = blk d c 31 from blk_nxt d c 31]) O k) $$ [Ht Ha Hs HO]
  · isplitr; · iexact HE
    isplitr; · iexact Hr
    isplitr; · iapply (upto_recv d u (nxt d c) 31); iexact Hu
    isplitl [Ht]; · iexact Ht
    isplitl [Ha]; · iexact Ha
    isplitl [Hs]; · iexact Hs
    iexact HO
  iintro ⟨Hc, HO⟩
  iapply Hk
  isplitl [Hp]; · iexact Hp
  isplitl [Hc]; · iexact Hc
  iexact HO

/-- The credit an iteration's acknowledgement wait spends; before the first wait, what the barrier said. -/
def ackCr (d : Bool) (s : ℕ) : sProp 𝕄 := if s = 0 then upto (F := F) d (nxt d c) 0 else cred (tallyAt (aC c d) (s - 1) 1)

theorem wp_ackIf (Kt : PUnit.{1} → sProp 𝕄) (wt d : Bool) (s : ℕ) (hwt : wt = decide (0 < s)) (hs : s < 62) (O : CellTallies nD τ sig ℕ) (hO : Above O (2 * s + 10)) (k : PK F) :
    iprop(env X Wt K Kι ∗ ackSt (F := F) c d (s - 1) ∗ ackCr (F := F) c d s ∗ owe (F := F) c O)
      ⊢ iprop(((ackSt (F := F) c d s ∗ upto (F := F) d (nxt d c) s ∗ owe (F := F) c O) -∗ wpc c k Kt) -∗ wpc c (ackIf wt d k) Kt) := by
  unfold ackCr
  rcases Nat.eq_zero_or_pos s with rfl | h
  · rw [if_pos rfl, show wt = false from hwt]
    show _ ⊢ iprop(_ -∗ wpc c k Kt)
    iintro ⟨-, Ha, Hu, HO⟩ Hk
    iapply Hk
    isplitl [Ha]; · iexact Ha
    isplitl [Hu]; · iexact Hu
    iexact HO
  · obtain ⟨n, rfl⟩ : ∃ n, s = n + 1 := ⟨s - 1, by omega⟩
    rw [if_neg (by omega), hwt, decide_eq_true h, show n + 1 - 1 = n by omega]
    exact wp_ackW X Wt K Kι c Kt d n (by omega) O (hO.mono (by omega)) k
end

end Cert.KernelIdeal.AR
-- ==== Proof.Iter.lean ====
/- The iterations of the two phases. -/
module

public import proofs.«01_k».proof.Proof.Blocks

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

/-! ## What is owed -/

/-- What iteration `s` pays, last paid innermost. -/
def peel (c : Dev nD) (O : CellTallies nD τ sig ℕ) (s : ℕ) : CellTallies nD τ sig ℕ :=
  O + oA c true s + oA c false s + oS c true true (s + 1) + oS c false true (s + 1) + oS c true false (s + 1) + oS c false false (s + 1)
/-- What the last `m + 1` iterations pay. -/
def OR (c : Dev nD) : ℕ → CellTallies nD τ sig ℕ
  | 0 => 0 + oA c true 61 + oA c false 61
  | m + 1 => peel c (OR c m) (60 - m)
theorem OR_above (c : Dev nD) (m : ℕ) (hm : m ≤ 61) : Above (OR c m) (2 * (61 - m) + 9) := by
  induction m with
  | zero => exact ((Above.zero _).add (oA_above c true (by decide) (by decide))).add (oA_above c false (by decide) (by decide))
  | succ m ih =>
    have := (ih (by omega)).mono (show 2 * (61 - (m + 1)) + 9 ≤ 2 * (61 - m) + 9 by omega)
    exact ((((((this.add (oA_above c true (by omega) (by omega))).add (oA_above c false (by omega) (by omega))).add (oS_above c true true (by omega) (by omega))).add
      (oS_above c false true (by omega) (by omega))).add (oS_above c true false (by omega) (by omega))).add (oS_above c false false (by omega) (by omega)))
/-- What is owed before iteration `s`. -/
def OS (c : Dev nD) (s : ℕ) : CellTallies nD τ sig ℕ := OR c (61 - s)
theorem OS_above (c : Dev nD) (s : ℕ) (hs : s ≤ 61) : Above (OS c s) (2 * s + 9) :=
  (OR_above c (61 - s) (by omega)).mono (by omega)
theorem OS_succ (c : Dev nD) (s : ℕ) (hs : s < 61) : OS c s = peel c (OS c (s + 1)) s := by
  unfold OS
  rw [show 61 - s = (61 - (s + 1)) + 1 by omega, OR, show 60 - (61 - (s + 1)) = s by omega]

section
variable (X : XT F) (Wt : WT F) (K : GSem nD τ sig → ℕ) (Kι : RKey → ℕ) (c : Dev nD)

/-- The acknowledgement cells signalled are open. -/
def opA : sProp 𝕄 := iprop(reached ER (aC (prv false c) false) 0 ∗ reached ER (aC (prv true c) true) 0)
instance opA_persistent : BI.Persistent (opA (F := F) c) := by unfold opA; infer_instance
theorem opA_at (d : Bool) : opA (F := F) c ⊢ reached ER (aC (prv d c) d) 0 := by
  unfold opA
  iintro ⟨H1, H2⟩
  cases d
  · iexact H1
  · iexact H2

/-- A direction before reduce-scatter step `s`. -/
def rsS (d : Bool) (s : ℕ) : sProp 𝕄 :=
  iprop(posn (F := F) c d false s ∗ posn (F := F) c d true s ∗ cS (F := F) c d false s ∗ cS (F := F) c d true s
    ∗ own c (tmp d) fullShare (part X Wt d c (blk d c (s + 1))) ∗ slots (F := F) c d s ∗ ackSt (F := F) c d (s - 1))
/-- What an iteration spends. -/
def it (d : Bool) (s : ℕ) : sProp 𝕄 :=
  iprop(tokS (F := F) c d false (s + 1) ∗ tokS (F := F) c d true (s + 1) ∗ cR (F := F) c d false s ∗ cR (F := F) c d true s
    ∗ dutyTok ER (aC (prv d c) d) 0 s ∗ (if s + 1 < 31 then writeTok ES (nxt d c, d, bit (s + 1)) ((s + 1) / 2 + 1) else iprop(emp)))

/-- The first half's block of an iteration that sends on. -/
theorem wp_rsA (Kt : PUnit.{1} → sProp 𝕄) (d σ wt : Bool) (s : ℕ) (hσ : σ = bit s) (hwt : wt = decide (0 < s)) (hs : s < 30) (dev : Dev nD) (hdev : dev = nxt d c)
    (O : CellTallies nD τ sig ℕ) (hO : Above (O + oS c d false (s + 1)) (2 * s + 10)) (k : PK F) :
    iprop(env X Wt K Kι ∗ posn (F := F) c d false s ∗ cS (F := F) c d false s ∗ cR (F := F) c d false s
        ∗ own c (half (tmp d) false) fullShare (hf false (part X Wt d c (blk d c (s + 1)))) ∗ ackSt (F := F) c d (s - 1) ∗ ackCr (F := F) c d s
        ∗ tokS (F := F) c d false (s + 1) ∗ (if s + 1 < 31 then writeTok ES (nxt d c, d, bit (s + 1)) ((s + 1) / 2 + 1) else iprop(emp)) ∗ owe (F := F) c (O + oS c d false (s + 1)))
      ⊢ iprop(((posn (F := F) c d false (s + 1) ∗ cS (F := F) c d false (s + 1) ∗ ownA (F := F) c (commM d (bit s) false) fullShare ∗ ownA (F := F) c (half (tmp d) false) fullShare
          ∗ ackSt (F := F) c d s ∗ upto (F := F) d (nxt d c) s ∗ ownA (F := F) (nxt d c) (commM d (bit (s + 1)) true) fullShare ∗ owe (F := F) c O) -∗ wpc c k Kt)
        -∗ wpc c (rsBlk d false σ <| ackIf wt d <| rsSend d false (!σ) dev k) Kt) := by
  rw [if_pos (show s + 1 < 31 by omega)]
  iintro ⟨#HE, Hp, HcS, HcR, Ht, Ha, Hac, Htok, Hw, HO⟩ Hk
  iapply (wp_rsBlk X Wt K Kι c Kt d false σ s hσ (by omega) _ hO) $$ [Hp HcS HcR HO Ht]
  · isplitr; · iexact HE
    isplitl [Hp]; · iexact Hp
    isplitl [HcS]; · iexact HcS
    isplitl [HcR]; · iexact HcR
    isplitl [HO]; · iexact HO
    iexact Ht
  iintro ⟨Hp, Hacc, Hcm, Ht, HO⟩
  iapply (wp_ackIf X Wt K Kι c Kt wt d s hwt (by omega) _ hO) $$ [Ha Hac HO]
  · isplitr; · iexact HE
    isplitl [Ha]; · iexact Ha
    isplitl [Hac]; · iexact Hac
    iexact HO
  iintro ⟨Ha, #Hu, HO⟩
  imod (slot_open X Wt K Kι c d (s + 1) (by omega)) $$ [Hw] with ⟨Hs0, Hs1⟩
  · isplitr; · iexact HE
    isplitr; · iexact Hu
    iexact Hw
  iapply (wp_rsSend X Wt K Kι c Kt d false (!σ) (s + 1) (by rw [hσ, bit_succ]) (by omega) dev hdev O k) $$ [Hp Htok Hacc Hs0 HO]
  · isplitr; · iexact HE
    isplitl [Hp]; · iexact Hp
    isplitr; · iexact Hu
    isplitl [Htok]; · iexact Htok
    isplitl [Hacc]; · iexact Hacc
    isplitl [Hs0]; · iexact Hs0
    iexact HO
  iintro ⟨Hp, Hc, HO⟩
  iapply Hk
  isplitl [Hp]; · iexact Hp
  isplitl [Hc]; · iexact Hc
  isplitl [Hcm]; · rw [hσ]; iexact Hcm
  isplitl [Ht]; · iexact Ht
  isplitl [Ha]; · iexact Ha
  isplitr; · iexact Hu
  isplitl [Hs1]; · iexact Hs1
  iexact HO

/-- The second half's. -/
theorem wp_rsB (Kt : PUnit.{1} → sProp 𝕄) (d σ : Bool) (s : ℕ) (hσ : σ = bit s) (hs : s < 30) (dev : Dev nD) (hdev : dev = nxt d c)
    (O : CellTallies nD τ sig ℕ) (hO : Above (O + oS c d true (s + 1)) (2 * s + 10)) (k : PK F) :
    iprop(env X Wt K Kι ∗ posn (F := F) c d true s ∗ cS (F := F) c d true s ∗ cR (F := F) c d true s
        ∗ own c (half (tmp d) true) fullShare (hf true (part X Wt d c (blk d c (s + 1))))
        ∗ tokS (F := F) c d true (s + 1) ∗ upto (F := F) d (nxt d c) s ∗ ownA (F := F) (nxt d c) (commM d (bit (s + 1)) true) fullShare ∗ owe (F := F) c (O + oS c d true (s + 1)))
      ⊢ iprop(((posn (F := F) c d true (s + 1) ∗ cS (F := F) c d true (s + 1) ∗ ownA (F := F) c (commM d (bit s) true) fullShare ∗ ownA (F := F) c (half (tmp d) true) fullShare
          ∗ owe (F := F) c O) -∗ wpc c k Kt)
        -∗ wpc c (rsBlk d true σ <| rsSend d true (!σ) dev k) Kt) := by
  iintro ⟨#HE, Hp, HcS, HcR, Ht, Htok, #Hu, Hs, HO⟩ Hk
  iapply (wp_rsBlk X Wt K Kι c Kt d true σ s hσ (by omega) _ hO) $$ [Hp HcS HcR HO Ht]
  · isplitr; · iexact HE
    isplitl [Hp]; · iexact Hp
    isplitl [HcS]; · iexact HcS
    isplitl [HcR]; · iexact HcR
    isplitl [HO]; · iexact HO
    iexact Ht
  iintro ⟨Hp, Hacc, Hcm, Ht, HO⟩
  iapply (wp_rsSend X Wt K Kι c Kt d true (!σ) (s + 1) (by rw [hσ, bit_succ]) (by omega) dev hdev O k) $$ [Hp Htok Hacc Hs HO]
  · isplitr; · iexact HE
    isplitl [Hp]; · iexact Hp
    isplitr; · iexact Hu
    isplitl [Htok]; · iexact Htok
    isplitl [Hacc]; · iexact Hacc
    isplitl [Hs]; · iexact Hs
    iexact HO
  iintro ⟨Hp, Hc, HO⟩
  iapply Hk
  isplitl [Hp]; · iexact Hp
  isplitl [Hc]; · iexact Hc
  isplitl [Hcm]; · rw [hσ]; iexact Hcm
  isplitl [Ht]; · iexact Ht
  iexact HO

/-- Acknowledge step `s` when its copies are in and its slot is given on. -/
theorem wp_ackT (Kt : PUnit.{1} → sProp 𝕄) (d : Bool) (dev : Dev nD) (hdev : dev = prv d c) (s s' : ℕ) (hs : s < 62) (hs' : s' = min (s + 1) 31) (O : CellTallies nD τ sig ℕ) (k : PK F) :
    iprop(env X Wt K Kι ∗ opA (F := F) c ∗ posn (F := F) c d false (s + 1) ∗ posn (F := F) c d true (s + 1) ∗ slots (F := F) c d s'
        ∗ dutyTok ER (aC (prv d c) d) 0 s ∗ owe (F := F) c (O + oA c d s))
      ⊢ iprop(((posn (F := F) c d false (s + 1) ∗ posn (F := F) c d true (s + 1) ∗ slots (F := F) c d s' ∗ owe (F := F) c O) -∗ wpc c k Kt) -∗ wpc c (ackS d dev k) Kt) := by
  subst hs'
  iintro ⟨#HE, #Hop, Hp0, Hp1, Hs, Ht, HO⟩ Hk
  ihave #Hu : upto (F := F) d c (s + 1) $$ [Hp0 Hp1 Hs]
  · iapply (upto_own c d (s + 1))
    isplitl [Hp0]; · iexact Hp0
    isplitl [Hp1]; · iexact Hp1
    iexact Hs
  iapply (wp_ackS X Wt K Kι c Kt d dev hdev s hs O k) $$ [Ht HO]
  · isplitr; · iexact HE
    isplitr; · iapply (opA_at c d); iexact Hop
    isplitl [Ht]; · iexact Ht
    isplitr; · iexact Hu
    iexact HO
  iintro HO
  iapply Hk
  isplitl [Hp0]; · iexact Hp0
  isplitl [Hp1]; · iexact Hp1
  isplitl [Hs]; · iexact Hs
  iexact HO

/-- One reduce-scatter iteration that sends on. -/
theorem wp_rsIter (Kt : PUnit.{1} → sProp 𝕄) (a1 : Memref sig .tc .vmem S8192x256 .f32) (a2 : Memref sig .tc .vmem S256x4096 .f32)
    (wt σ : Bool) (s : ℕ) (hs : s < 30) (hwt : wt = decide (0 < s)) (hσ : σ = bit s) (R L : Dev nD) (hR : R = nxt false c) (hL : L = nxt true c)
    (off off' : Fin 2 → ℕ) (h : ∀ a, off a + S256x256.size a ≤ S8192x256.size a) (h' : ∀ a, off' a + S256x256.size a ≤ S8192x256.size a)
    (hoff : off = ![256 * (blk false c (s + 2)).val, 0]) (hoff' : off' = ![256 * (blk true c (s + 2)).val, 0])
    (O : CellTallies nD τ sig ℕ) (hO : Above O (2 * s + 11)) (k : PK F) :
    iprop(env X Wt K Kι ∗ opA (F := F) c ∗ own c a1 fullShare (X c) ∗ own c a2 fullShare (Wt c) ∗ rsS X Wt c false s ∗ rsS X Wt c true s
        ∗ it (F := F) c false s ∗ it (F := F) c true s ∗ ackCr (F := F) c false s ∗ ackCr (F := F) c true s ∗ owe (F := F) c (peel c O s))
      ⊢ iprop(((own c a1 fullShare (X c) ∗ own c a2 fullShare (Wt c) ∗ rsS X Wt c false (s + 1) ∗ rsS X Wt c true (s + 1) ∗ owe (F := F) c O) -∗ wpc c k Kt)
        -∗ wpc c (rsIter a1 a2 wt σ R L off off' h h' k) Kt) := by
  have o1 := (hO.mono (show 2 * s + 10 ≤ 2 * s + 11 by omega)).add (oA_above c true (n := s) (by omega) (by omega))
  have o2 := o1.add (oA_above c false (n := s) (by omega) (by omega))
  have o3 := o2.add (oS_above c true true (n := s + 1) (by omega) (by omega))
  have o4 := o3.add (oS_above c false true (n := s + 1) (by omega) (by omega))
  have o5 := o4.add (oS_above c true false (n := s + 1) (by omega) (by omega))
  have o6 := o5.add (oS_above c false false (n := s + 1) (by omega) (by omega))
  have em : min (s + 1) 31 = s + 1 := by omega
  unfold rsS it peel rsIter
  rw [show s + 1 - 1 = s by omega]
  iintro ⟨#HE, #Hop, Hx, Hw, ⟨Hp0, Hp1, HS0, HS1, Ht, Hsl, Ha⟩, ⟨Hp0', Hp1', HS0', HS1', Ht', Hsl', Ha'⟩, ⟨Hk0, Hk1, HR0, HR1, Hat, Hwt⟩, ⟨Hk0', Hk1', HR0', HR1', Hat', Hwt'⟩, Hac, Hac', HO⟩ Hk
  ihave Ht := own_split c (tmp false) fullShare _ $$ Ht
  icases Ht with ⟨Ht0, Ht1⟩
  ihave Ht' := own_split c (tmp true) fullShare _ $$ Ht'
  icases Ht' with ⟨Ht0', Ht1'⟩
  iapply (wp_rsA X Wt K Kι c Kt false σ wt s hσ hwt hs R hR _ o6) $$ [Hp0 HS0 HR0 Ht0 Ha Hac Hk0 Hwt HO]
  · isplitr; · iexact HE
    isplitl [Hp0]; · iexact Hp0
    isplitl [HS0]; · iexact HS0
    isplitl [HR0]; · iexact HR0
    isplitl [Ht0]; · iexact Ht0
    isplitl [Ha]; · iexact Ha
    isplitl [Hac]; · iexact Hac
    isplitl [Hk0]; · iexact Hk0
    isplitl [Hwt]; · iexact Hwt
    iexact HO
  iintro ⟨Hp0, HS0, Hc0, Ht0, Ha, #Hu, Hn, HO⟩
  iapply (wp_rsA X Wt K Kι c Kt true σ wt s hσ hwt hs L hL _ o5) $$ [Hp0' HS0' HR0' Ht0' Ha' Hac' Hk0' Hwt' HO]
  · isplitr; · iexact HE
    isplitl [Hp0']; · iexact Hp0'
    isplitl [HS0']; · iexact HS0'
    isplitl [HR0']; · iexact HR0'
    isplitl [Ht0']; · iexact Ht0'
    isplitl [Ha']; · iexact Ha'
    isplitl [Hac']; · iexact Hac'
    isplitl [Hk0']; · iexact Hk0'
    isplitl [Hwt']; · iexact Hwt'
    iexact HO
  iintro ⟨Hp0', HS0', Hc0', Ht0', Ha', #Hu', Hn', HO⟩
  iapply (wp_rsB X Wt K Kι c Kt false σ s hσ hs R hR _ o4) $$ [Hp1 HS1 HR1 Ht1 Hk1 Hn HO]
  · isplitr; · iexact HE
    isplitl [Hp1]; · iexact Hp1
    isplitl [HS1]; · iexact HS1
    isplitl [HR1]; · iexact HR1
    isplitl [Ht1]; · iexact Ht1
    isplitl [Hk1]; · iexact Hk1
    isplitr; · iexact Hu
    isplitl [Hn]; · iexact Hn
    iexact HO
  iintro ⟨Hp1, HS1, Hc1, Ht1, HO⟩
  iapply (wp_rsB X Wt K Kι c Kt true σ s hσ hs L hL _ o3) $$ [Hp1' HS1' HR1' Ht1' Hk1' Hn' HO]
  · isplitr; · iexact HE
    isplitl [Hp1']; · iexact Hp1'
    isplitl [HS1']; · iexact HS1'
    isplitl [HR1']; · iexact HR1'
    isplitl [Ht1']; · iexact Ht1'
    isplitl [Hk1']; · iexact Hk1'
    isplitr; · iexact Hu'
    isplitl [Hn']; · iexact Hn'
    iexact HO
  iintro ⟨Hp1', HS1', Hc1', Ht1', HO⟩
  ihave Ht : ownA (F := F) c (tmp false) fullShare $$ [Ht0 Ht1]
  · iapply (ownA_join c (tmp false) fullShare)
    isplitl [Ht0]; · iexact Ht0
    iexact Ht1
  iapply (wp_mm a1 a2 X Wt c Kt (tmp false) false (blk false c (s + 2)) off h hoff) $$ [Hx Hw Ht]
  · isplitl [Hx]; · iexact Hx
    isplitl [Hw]; · iexact Hw
    iexact Ht
  iintro ⟨Hx, Hw, Ht⟩
  ihave Ht' : ownA (F := F) c (tmp true) fullShare $$ [Ht0' Ht1']
  · iapply (ownA_join c (tmp true) fullShare)
    isplitl [Ht0']; · iexact Ht0'
    iexact Ht1'
  iapply (wp_mm a1 a2 X Wt c Kt (tmp true) true (blk true c (s + 2)) off' h' hoff') $$ [Hx Hw Ht']
  · isplitl [Hx]; · iexact Hx
    isplitl [Hw]; · iexact Hw
    iexact Ht'
  iintro ⟨Hx, Hw, Ht'⟩
  imod (slots_step X Wt K Kι c false s (by omega)) $$ [Hsl Hc0 Hc1] with Hsl
  · isplitr; · iexact HE
    isplitl [Hsl]; · iexact Hsl
    isplitl [Hc0]; · iexact Hc0
    iexact Hc1
  imod (slots_step X Wt K Kι c true s (by omega)) $$ [Hsl' Hc0' Hc1'] with Hsl'
  · isplitr; · iexact HE
    isplitl [Hsl']; · iexact Hsl'
    isplitl [Hc0']; · iexact Hc0'
    iexact Hc1'
  iapply (wp_ackT X Wt K Kι c Kt false L hL s (s + 1) (by omega) em.symm) $$ [Hp0 Hp1 Hsl Hat HO]
  · isplitr; · iexact HE
    isplitr; · iexact Hop
    isplitl [Hp0]; · iexact Hp0
    isplitl [Hp1]; · iexact Hp1
    isplitl [Hsl]; · iexact Hsl
    isplitl [Hat]; · iexact Hat
    iexact HO
  iintro ⟨Hp0, Hp1, Hsl, HO⟩
  iapply (wp_ackT X Wt K Kι c Kt true R hR s (s + 1) (by omega) em.symm) $$ [Hp0' Hp1' Hsl' Hat' HO]
  · isplitr; · iexact HE
    isplitr; · iexact Hop
    isplitl [Hp0']; · iexact Hp0'
    isplitl [Hp1']; · iexact Hp1'
    isplitl [Hsl']; · iexact Hsl'
    isplitl [Hat']; · iexact Hat'
    iexact HO
  iintro ⟨Hp0', Hp1', Hsl', HO⟩
  iapply Hk
  isplitl [Hx]; · iexact Hx
  isplitl [Hw]; · iexact Hw
  isplitl [Hp0 Hp1 HS0 HS1 Ht Hsl Ha]
  · isplitl [Hp0]; · iexact Hp0
    isplitl [Hp1]; · iexact Hp1
    isplitl [HS0]; · iexact HS0
    isplitl [HS1]; · iexact HS1
    isplitl [Ht]; · iexact Ht
    isplitl [Hsl]; · iexact Hsl
    iexact Ha
  isplitl [Hp0' Hp1' HS0' HS1' Ht' Hsl' Ha']
  · isplitl [Hp0']; · iexact Hp0'
    isplitl [Hp1']; · iexact Hp1'
    isplitl [HS0']; · iexact HS0'
    isplitl [HS1']; · iexact HS1'
    isplitl [Ht']; · iexact Ht'
    isplitl [Hsl']; · iexact Hsl'
    iexact Ha'
  iexact HO
end

end Cert.KernelIdeal.AR
-- ==== Proof.Gather.lean ====
/- The end of the reduce-scatter, the copies to the result, and the iterations of the gather. -/
module

public import proofs.«01_k».proof.Proof.Iter

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

/-! ## The two halves of a wide tile -/

theorem wtile_emb (d u : Bool) (b : Fin 32) (i : S256x1024.Idx) : (half (wtile d b) u).view.emb i = (tile d u b).view.emb i := by
  funext a
  apply Fin.ext
  fin_cases a
  · show 256 * b.val + 1 * (0 + 1 * (i 0 : ℕ)) = 256 * b.val + 1 * (i 0 : ℕ); omega
  · show base d + 1 * (col u + 1 * (i 1 : ℕ)) = base d + col u + 1 * (i 1 : ℕ); omega
theorem wtile_set (d u : Bool) (b : Fin 32) : (half (wtile d b) u).view.set = (tile d u b).view.set :=
  congrArg (fun e => Finset.map e Finset.univ) (Function.Embedding.ext (wtile_emb d u b))

section
variable (c : Dev nD)
theorem own_wtile (d u : Bool) (b : Fin 32) (q : PosShare TreeShare) (v : S256x1024.Idx → Elt F .f32) :
    own c (half (wtile d b) u) q v ⊢ own c (tile d u b) q v := by
  unfold own
  iintro ⟨%f, Hf, %hv⟩
  iexists f
  isplitl [Hf]
  · iapply (Entails.of_eq (congrArg (fun S => ((tile d u b).view.loc (c : Thread nD τ) ↦[S]{q} f : sProp 𝕄)) (wtile_set d u b)))
    iexact Hf
  ipureintro
  rw [← hv]
  funext i
  exact congrArg f (wtile_emb d u b i).symm
theorem tile_wtile (d u : Bool) (b : Fin 32) (q : PosShare TreeShare) (v : S256x1024.Idx → Elt F .f32) :
    own c (tile d u b) q v ⊢ own c (half (wtile d b) u) q v := by
  unfold own
  iintro ⟨%f, Hf, %hv⟩
  iexists f
  isplitl [Hf]
  · iapply (Entails.of_eq (congrArg (fun S => ((tile d u b).view.loc (c : Thread nD τ) ↦[S]{q} f : sProp 𝕄)) (wtile_set d u b).symm))
    iexact Hf
  ipureintro
  rw [← hv]
  funext i
  exact congrArg f (wtile_emb d u b i)
end

section
variable (X : XT F) (Wt : WT F) (K : GSem nD τ sig → ℕ) (Kι : RKey → ℕ) (c : Dev nD)

/-! ## The copies to the result -/

/-- The store cell of a direction before its copy. -/
def stI (d : Bool) : sProp 𝕄 :=
  iprop(atPos ER (tC c d) 0 ∅ 0 ∗ reached ER (tC c d) 0 ∗ dutyTok ER (tC c d) 0 0 ∗ ownA (F := F) c (wtile d (blk d c 31)) fullShare)
/-- And with the copy under way. -/
def stF (d : Bool) : sProp 𝕄 := iprop(atPos ER (tC c d) 0 ∅ 0 ∗ cred (tallyAt (tC c d) 0 NS))

theorem stB_mk (d : Bool) (v : S256x2048.Idx → Elt F .f32) (hv : hf false v = sv X Wt d false 31 c ∧ hf true v = sv X Wt d true 31 c)
    (f : Buf (Elt F) ((acc d).view.loc (c : Thread nD τ))) (g : Buf (Elt F) ((wtile d (blk d c 31)).view.loc (c : Thread nD τ))) (hf' : (acc d).view.read (Elt F) f = v) :
    iprop(((wtile d (blk d c 31)).view.loc (c : Thread nD τ) ↦[(wtile d (blk d c 31)).view.set]{fullShare}
        ((wtile d (blk d c 31)).view.write (Elt F) g ((acc d).view.read (Elt F) f) Finset.univ))
      ∗ ((acc d).view.loc (c : Thread nD τ) ↦[(acc d).view.set]{fullShare.right} f)) ⊢ stB X Wt d c := by
  unfold stB
  iintro ⟨Hg, Hf⟩
  ihave H : own c (wtile d (blk d c 31)) fullShare v $$ [Hg]
  · iapply (own_intro c (wtile d (blk d c 31)) fullShare _ v ((View.read_write_univ _ _).trans hf')); iexact Hg
  ihave H := own_split c (wtile d (blk d c 31)) fullShare v $$ H
  icases H with ⟨H0, H1⟩
  rw [← hv.1, ← hv.2]
  isplitl [H0]; · iapply (own_wtile c d false); iexact H0
  isplitl [H1]; · iapply (own_wtile c d true); iexact H1
  unfold ownA
  iexists f; iexact Hf

theorem amt_store (d : Bool) (off : Fin 2 → ℕ) (h : ∀ a, off a + S256x2048.size a ≤ S8192x4096.size a) : (outW off h).view.dmaCredit = NS := rfl

theorem wp_stCopy (Kt : PUnit.{1} → sProp 𝕄) (d : Bool) (off : Fin 2 → ℕ) (h : ∀ a, off a + S256x2048.size a ≤ S8192x4096.size a) (hoff : off = wOff d (blk d c 31))
    (k : PK F) :
    iprop(env X Wt K Kι ∗ stI (F := F) c d ∗ own c (accM d false) fullShare (sv X Wt d false 31 c) ∗ own c (accM d true) fullShare (sv X Wt d true 31 c))
      ⊢ iprop(((stF (F := F) c d ∗ own c (accM d false) fullShare.left (sv X Wt d false 31 c) ∗ own c (accM d true) fullShare.left (sv X Wt d true 31 c)) -∗ wpc c k Kt)
        -∗ wpc c (stCopy d off h k) Kt) := by
  subst hoff
  unfold stCopy stI stF
  iintro ⟨#HE, ⟨Hat, #Hr, Ht, Hd⟩, H0, H1⟩ Hk
  ihave H := own_join c (acc d) fullShare _ _ $$ [H0 H1]
  · isplitl [H0]; · iexact H0
    iexact H1
  icases H with ⟨%v, %hv, H⟩
  ihave H := own_share c (acc d) fullShare fullShare.left fullShare.right (PosShare.mem_left_op_right fullShare) v $$ H
  icases H with ⟨Hl, Hr'⟩
  unfold own ownA
  icases Hr' with ⟨%f, Hf, %hf⟩
  icases Hd with ⟨%g, Hg⟩
  iapply (Rounds.wp_copy_pointsTo 𝒱₀ ER (Rd X Wt) (c : Thread nD τ) none (src := acc d) (dst := wtile d (blk d c 31)) (sem := .dma (stS d)) (q := fullShare.right)
      (fs := f) (fd := g) (r := 0) (d := 0) (κ := K (tC c d)) (by rw [duties_store]; exact Finset.mem_singleton_self _) 0 NS rfl (amount_store X Wt c d 0 0)
      (by
        rw [payload_store]
        exact stB_mk X Wt c d v hv f g hf)) $$ [Hf Hg Ht]
  · isplitr; · iapply (env_cell X Wt K Kι (tC_mem c d)); iexact HE
    isplitl [Hf]; · iexact Hf
    isplitl [Hg]; · iexact Hg
    isplitl [Ht]; · iexact Ht
    iexact Hr
  iintro Hc
  iapply Hk
  isplitl [Hat Hc]
  · isplitl [Hat]; · iexact Hat
    iexact Hc
  have h2 : own c (acc d) fullShare.left v ⊢ iprop(own c (accM d false) fullShare.left (sv X Wt d false 31 c) ∗ own c (accM d true) fullShare.left (sv X Wt d true 31 c)) := by
    have := own_split c (acc d) fullShare.left v
    rw [hv.1, hv.2] at this; exact this
  iapply h2
  unfold own
  iexact Hl

theorem lv_store (d : Bool) (i n : ℕ) : kLv i (knd (.dma (stS d))) ≤ n := by rw [knd_store]; exact Nat.zero_le n

theorem wp_stWait (Kt : PUnit.{1} → sProp 𝕄) (d : Bool) (off : Fin 2 → ℕ) (h : ∀ a, off a + S256x2048.size a ≤ S8192x4096.size a)
    (k : PK F) :
    iprop(env X Wt K Kι ∗ stF (F := F) c d ∗ owe (F := F) c 0)
      ⊢ iprop(((atPos ER (tC c d) 1 ∅ 0 ∗ stB X Wt d c ∗ owe (F := F) c 0) -∗ wpc c k Kt) -∗ wpc c (stWait d off h k) Kt) := by
  unfold stWait stF owe
  iintro ⟨#HE, ⟨Ha, Hc⟩, ⟨%W, HO⟩⟩ Hk
  iapply (Rounds.wp_wait_rest_token 𝒱₀ ER (Rd X Wt) (c : Thread nD τ) none (κ := K (tC c d))
      (wpE_waitDma2_eq (src := acc d) (dst := outW off h) 𝒱₀ (c : Thread nD τ) none Set.univ) (Set.mem_univ _) 0 (O := 0) (W := W) (R := 0) (m := 0) (T := ∅)
      (by rw [Nat.zero_add]; exact (expect_store X Wt c d).symm)) $$ [Hc HO Ha]
  · isplitr; · iapply (env_cell X Wt K Kι (tC_mem c d)); iexact HE
    isplitl [Hc]; · iexact Hc
    isplitl [HO]; · iexact HO
    isplitr
    · iapply (env_wait X Wt K Kι (Above.zero 0) c (.dma (stS d)) 0 (by omega) (lv_store d 0 _))
      iexact HE
    iexact Ha
  iintro ⟨HO, Ha, -, Hpay⟩
  ihave Hpay := (Entails.of_eq (show bigSep ((Rd X Wt).duties (tC c d) 0 \ ∅) (fun i => (Rd X Wt).payload (tC c d) 0 i) = stB X Wt d c by
    rw [Finset.sdiff_empty, duties_store, bigSep_singleton, payload_store])) $$ Hpay
  iapply Hk
  isplitl [Ha]; · iexact Ha
  isplitl [Hpay]; · iexact Hpay
  iexists _; iexact HO

/-! ## The gather -/

/-- A direction before the gather's step `s`. -/
def agS (d : Bool) (s : ℕ) : sProp 𝕄 :=
  iprop(posn (F := F) c d false s ∗ posn (F := F) c d true s ∗ cS (F := F) c d false s ∗ cS (F := F) c d true s
    ∗ bigSep (Finset.Ico 31 s) (fun n => iprop(srcB X Wt d false n c ∗ srcB X Wt d true n c))
    ∗ bigSep (Finset.Ico (s + 1) 62) (dst (F := F) d (nxt d c)) ∗ slots (F := F) c d 31 ∗ ackSt (F := F) c d (s - 1))

/-- One iteration of the gather that sends on. -/
def agIterG (z σ : Bool) (R L : Dev nD) (A B : Bool → Bool → Blk) (k : PK F) : PK F :=
  agBlkG z false false σ (A false false).1 (A false false).2 <| ackIf true false <| agSend false false (!σ) R (B false false).1 (B false false).2 <|
  agBlkG z true false σ (A true false).1 (A true false).2 <| ackIf true true <| agSend true false (!σ) L (B true false).1 (B true false).2 <|
  agBlkG z false true σ (A false true).1 (A false true).2 <| agSend false true (!σ) R (B false true).1 (B false true).2 <|
  agBlkG z true true σ (A true true).1 (A true true).2 <| agSend true true (!σ) L (B true true).1 (B true true).2 <|
  ackS false L <| ackS true R k

theorem wp_agA (Kt : PUnit.{1} → sProp 𝕄) (z d σ : Bool) (s : ℕ) (hσ : σ = bit s) (hs : 31 ≤ s) (hs' : s < 61) (dev : Dev nD) (hdev : dev = nxt d c)
    (A B : Blk) (hB : B.1 = tOff d false (blk d c (s + 1))) (O : CellTallies nD τ sig ℕ) (hO : Above (O + oS c d false (s + 1)) (2 * s + 10)) (k : PK F) :
    iprop(env X Wt K Kι ∗ posn (F := F) c d false s ∗ cS (F := F) c d false s ∗ cR (F := F) c d false s ∗ ackSt (F := F) c d (s - 1) ∗ ackCr (F := F) c d s
        ∗ tokS (F := F) c d false (s + 1) ∗ ownA (F := F) (nxt d c) (tile d false (blk d (nxt d c) (s + 1 + 1))) fullShare ∗ owe (F := F) c (O + oS c d false (s + 1)))
      ⊢ iprop(((posn (F := F) c d false (s + 1) ∗ cS (F := F) c d false (s + 1) ∗ srcB X Wt d false s c ∗ ackSt (F := F) c d s ∗ upto (F := F) d (nxt d c) s ∗ owe (F := F) c O) -∗ wpc c k Kt)
        -∗ wpc c (agBlkG z d false σ A.1 A.2 <| ackIf true d <| agSend d false (!σ) dev B.1 B.2 k) Kt) := by
  iintro ⟨#HE, Hp, HcS, HcR, Ha, Hac, Htok, Hd, HO⟩ Hk
  iapply (wp_agBlk X Wt K Kι c Kt z d false σ s hσ hs (by omega) A.1 A.2 _ hO) $$ [Hp HcS HcR HO]
  · isplitr; · iexact HE
    isplitl [Hp]; · iexact Hp
    isplitl [HcS]; · iexact HcS
    isplitl [HcR]; · iexact HcR
    iexact HO
  iintro ⟨Hp, Hsrc, Ht, HO⟩
  iapply (wp_ackIf X Wt K Kι c Kt true d s (by rw [decide_eq_true (by omega)]) (by omega) _ hO) $$ [Ha Hac HO]
  · isplitr; · iexact HE
    isplitl [Ha]; · iexact Ha
    isplitl [Hac]; · iexact Hac
    iexact HO
  iintro ⟨Ha, #Hu, HO⟩
  iapply (wp_agSend X Wt K Kι c Kt d false (!σ) (s + 1) (by rw [hσ, bit_succ]) (by omega) (by omega) dev hdev B.1 B.2 hB O k) $$ [Hp Htok Ht Hd HO]
  · isplitr; · iexact HE
    isplitl [Hp]; · iexact Hp
    isplitr; · iexact Hu
    isplitl [Htok]; · iexact Htok
    isplitl [Ht]; · iexact Ht
    isplitl [Hd]; · iexact Hd
    iexact HO
  iintro ⟨Hp, Hc, HO⟩
  iapply Hk
  isplitl [Hp]; · iexact Hp
  isplitl [Hc]; · iexact Hc
  isplitl [Hsrc]; · iexact Hsrc
  isplitl [Ha]; · iexact Ha
  isplitr; · iexact Hu
  iexact HO

theorem wp_agB (Kt : PUnit.{1} → sProp 𝕄) (z d σ : Bool) (s : ℕ) (hσ : σ = bit s) (hs : 31 ≤ s) (hs' : s < 61) (dev : Dev nD) (hdev : dev = nxt d c)
    (A B : Blk) (hB : B.1 = tOff d true (blk d c (s + 1))) (O : CellTallies nD τ sig ℕ) (hO : Above (O + oS c d true (s + 1)) (2 * s + 10)) (k : PK F) :
    iprop(env X Wt K Kι ∗ posn (F := F) c d true s ∗ cS (F := F) c d true s ∗ cR (F := F) c d true s ∗ upto (F := F) d (nxt d c) s
        ∗ tokS (F := F) c d true (s + 1) ∗ ownA (F := F) (nxt d c) (tile d true (blk d (nxt d c) (s + 1 + 1))) fullShare ∗ owe (F := F) c (O + oS c d true (s + 1)))
      ⊢ iprop(((posn (F := F) c d true (s + 1) ∗ cS (F := F) c d true (s + 1) ∗ srcB X Wt d true s c ∗ owe (F := F) c O) -∗ wpc c k Kt)
        -∗ wpc c (agBlkG z d true σ A.1 A.2 <| agSend d true (!σ) dev B.1 B.2 k) Kt) := by
  iintro ⟨#HE, Hp, HcS, HcR, #Hu, Htok, Hd, HO⟩ Hk
  iapply (wp_agBlk X Wt K Kι c Kt z d true σ s hσ hs (by omega) A.1 A.2 _ hO) $$ [Hp HcS HcR HO]
  · isplitr; · iexact HE
    isplitl [Hp]; · iexact Hp
    isplitl [HcS]; · iexact HcS
    isplitl [HcR]; · iexact HcR
    iexact HO
  iintro ⟨Hp, Hsrc, Ht, HO⟩
  iapply (wp_agSend X Wt K Kι c Kt d true (!σ) (s + 1) (by rw [hσ, bit_succ]) (by omega) (by omega) dev hdev B.1 B.2 hB O k) $$ [Hp Htok Ht Hd HO]
  · isplitr; · iexact HE
    isplitl [Hp]; · iexact Hp
    isplitr; · iexact Hu
    isplitl [Htok]; · iexact Htok
    isplitl [Ht]; · iexact Ht
    isplitl [Hd]; · iexact Hd
    iexact HO
  iintro ⟨Hp, Hc, HO⟩
  iapply Hk
  isplitl [Hp]; · iexact Hp
  isplitl [Hc]; · iexact Hc
  isplitl [Hsrc]; · iexact Hsrc
  iexact HO

theorem ico_snoc (Φ : ℕ → sProp 𝕄) {a b : ℕ} (h : a ≤ b) : bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega]
  exact bigSep_insert' (by simp)
theorem ico_cons (Φ : ℕ → sProp 𝕄) {a b : ℕ} (h : a < b) : bigSep (Finset.Ico a b) Φ = iprop(Φ a ∗ bigSep (Finset.Ico (a + 1) b) Φ) := by
  rw [show Finset.Ico a b = insert a (Finset.Ico (a + 1) b) by ext x; simp only [Finset.mem_Ico, Finset.mem_insert]; omega]
  exact bigSep_insert' (by simp)

theorem wp_agIter (Kt : PUnit.{1} → sProp 𝕄) (z σ : Bool) (s : ℕ) (hs : 31 ≤ s) (hs' : s < 61) (hσ : σ = bit s) (R L : Dev nD) (hR : R = nxt false c) (hL : L = nxt true c)
    (A B : Bool → Bool → Blk) (hB : ∀ d u, (B d u).1 = tOff d u (blk d c (s + 1))) (O : CellTallies nD τ sig ℕ) (hO : Above O (2 * s + 11)) (k : PK F) :
    iprop(env X Wt K Kι ∗ opA (F := F) c ∗ agS X Wt c false s ∗ agS X Wt c true s
        ∗ it (F := F) c false s ∗ it (F := F) c true s ∗ ackCr (F := F) c false s ∗ ackCr (F := F) c true s ∗ owe (F := F) c (peel c O s))
      ⊢ iprop(((agS X Wt c false (s + 1) ∗ agS X Wt c true (s + 1) ∗ owe (F := F) c O) -∗ wpc c k Kt)
        -∗ wpc c (agIterG z σ R L A B k) Kt) := by
  have o1 := (hO.mono (show 2 * s + 10 ≤ 2 * s + 11 by omega)).add (oA_above c true (n := s) (by omega) (by omega))
  have o2 := o1.add (oA_above c false (n := s) (by omega) (by omega))
  have o3 := o2.add (oS_above c true true (n := s + 1) (by omega) (by omega))
  have o4 := o3.add (oS_above c false true (n := s + 1) (by omega) (by omega))
  have o5 := o4.add (oS_above c true false (n := s + 1) (by omega) (by omega))
  have o6 := o5.add (oS_above c false false (n := s + 1) (by omega) (by omega))
  have em : (31 : ℕ) = min (s + 1) 31 := by omega
  unfold agS it peel agIterG
  rw [show s + 1 - 1 = s by omega, ico_cons _ (show s + 1 < 62 by omega), ico_cons _ (show s + 1 < 62 by omega), ico_snoc _ hs, ico_snoc _ hs]
  unfold dst
  iintro ⟨#HE, #Hop, ⟨Hp0, Hp1, HS0, HS1, Hdn, ⟨⟨Hd0, Hd1⟩, Hds⟩, Hsl, Ha⟩, ⟨Hp0', Hp1', HS0', HS1', Hdn', ⟨⟨Hd0', Hd1'⟩, Hds'⟩, Hsl', Ha'⟩, ⟨Hk0, Hk1, HR0, HR1, Hat, -⟩, ⟨Hk0', Hk1', HR0', HR1', Hat', -⟩, Hac, Hac', HO⟩ Hk
  iapply (wp_agA X Wt K Kι c Kt z false σ s hσ hs hs' R hR _ _ (hB false false) _ o6) $$ [Hp0 HS0 HR0 Ha Hac Hk0 Hd0 HO]
  · isplitr; · iexact HE
    isplitl [Hp0]; · iexact Hp0
    isplitl [HS0]; · iexact HS0
    isplitl [HR0]; · iexact HR0
    isplitl [Ha]; · iexact Ha
    isplitl [Hac]; · iexact Hac
    isplitl [Hk0]; · iexact Hk0
    isplitl [Hd0]; · iexact Hd0
    iexact HO
  iintro ⟨Hp0, HS0, Hb0, Ha, #Hu, HO⟩
  iapply (wp_agA X Wt K Kι c Kt z true σ s hσ hs hs' L hL _ _ (hB true false) _ o5) $$ [Hp0' HS0' HR0' Ha' Hac' Hk0' Hd0' HO]
  · isplitr; · iexact HE
    isplitl [Hp0']; · iexact Hp0'
    isplitl [HS0']; · iexact HS0'
    isplitl [HR0']; · iexact HR0'
    isplitl [Ha']; · iexact Ha'
    isplitl [Hac']; · iexact Hac'
    isplitl [Hk0']; · iexact Hk0'
    isplitl [Hd0']; · iexact Hd0'
    iexact HO
  iintro ⟨Hp0', HS0', Hb0', Ha', #Hu', HO⟩
  iapply (wp_agB X Wt K Kι c Kt z false σ s hσ hs hs' R hR _ _ (hB false true) _ o4) $$ [Hp1 HS1 HR1 Hk1 Hd1 HO]
  · isplitr; · iexact HE
    isplitl [Hp1]; · iexact Hp1
    isplitl [HS1]; · iexact HS1
    isplitl [HR1]; · iexact HR1
    isplitr; · iexact Hu
    isplitl [Hk1]; · iexact Hk1
    isplitl [Hd1]; · iexact Hd1
    iexact HO
  iintro ⟨Hp1, HS1, Hb1, HO⟩
  iapply (wp_agB X Wt K Kι c Kt z true σ s hσ hs hs' L hL _ _ (hB true true) _ o3) $$ [Hp1' HS1' HR1' Hk1' Hd1' HO]
  · isplitr; · iexact HE
    isplitl [Hp1']; · iexact Hp1'
    isplitl [HS1']; · iexact HS1'
    isplitl [HR1']; · iexact HR1'
    isplitr; · iexact Hu'
    isplitl [Hk1']; · iexact Hk1'
    isplitl [Hd1']; · iexact Hd1'
    iexact HO
  iintro ⟨Hp1', HS1', Hb1', HO⟩
  iapply (wp_ackT X Wt K Kι c Kt false L hL s 31 (by omega) em) $$ [Hp0 Hp1 Hsl Hat HO]
  · isplitr; · iexact HE
    isplitr; · iexact Hop
    isplitl [Hp0]; · iexact Hp0
    isplitl [Hp1]; · iexact Hp1
    isplitl [Hsl]; · iexact Hsl
    isplitl [Hat]; · iexact Hat
    iexact HO
  iintro ⟨Hp0, Hp1, Hsl, HO⟩
  iapply (wp_ackT X Wt K Kι c Kt true R hR s 31 (by omega) em) $$ [Hp0' Hp1' Hsl' Hat' HO]
  · isplitr; · iexact HE
    isplitr; · iexact Hop
    isplitl [Hp0']; · iexact Hp0'
    isplitl [Hp1']; · iexact Hp1'
    isplitl [Hsl']; · iexact Hsl'
    isplitl [Hat']; · iexact Hat'
    iexact HO
  iintro ⟨Hp0', Hp1', Hsl', HO⟩
  iapply Hk
  isplitl [Hp0 Hp1 HS0 HS1 Hdn Hb0 Hb1 Hds Hsl Ha]
  · isplitl [Hp0]; · iexact Hp0
    isplitl [Hp1]; · iexact Hp1
    isplitl [HS0]; · iexact HS0
    isplitl [HS1]; · iexact HS1
    isplitl [Hdn Hb0 Hb1]
    · isplitl [Hb0 Hb1]
      · isplitl [Hb0]; · iexact Hb0
        iexact Hb1
      iexact Hdn
    isplitl [Hds]; · iexact Hds
    isplitl [Hsl]; · iexact Hsl
    iexact Ha
  isplitl [Hp0' Hp1' HS0' HS1' Hdn' Hb0' Hb1' Hds' Hsl' Ha']
  · isplitl [Hp0']; · iexact Hp0'
    isplitl [Hp1']; · iexact Hp1'
    isplitl [HS0']; · iexact HS0'
    isplitl [HS1']; · iexact HS1'
    isplitl [Hdn' Hb0' Hb1']
    · isplitl [Hb0' Hb1']
      · isplitl [Hb0']; · iexact Hb0'
        iexact Hb1'
      iexact Hdn'
    isplitl [Hds']; · iexact Hds'
    isplitl [Hsl']; · iexact Hsl'
    iexact Ha'
  iexact HO
end

end Cert.KernelIdeal.AR
-- ==== Proof.Turn.lean ====
/- The reduce-scatter's last step, the turn to the gather, and the end of the gather. -/
module

public import proofs.«01_k».proof.Proof.Gather

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

section
variable (X : XT F) (Wt : WT F) (K : GSem nD τ sig → ℕ) (Kι : RKey → ℕ) (c : Dev nD)

/-- A direction when the last addition is made. -/
def rsE (d : Bool) : sProp 𝕄 :=
  iprop(posn (F := F) c d false 31 ∗ posn (F := F) c d true 31 ∗ own c (accM d false) fullShare (sv X Wt d false 31 c) ∗ own c (accM d true) fullShare (sv X Wt d true 31 c)
    ∗ ownA (F := F) c (tmp d) fullShare ∗ slots (F := F) c d 31 ∗ ackSt (F := F) c d 29)

/-- The first send of the gather, all four copies. -/
def peelT (c : Dev nD) (O : CellTallies nD τ sig ℕ) : CellTallies nD τ sig ℕ :=
  O + oS c true true 31 + oS c false true 31 + oS c true false 31 + oS c false false 31

theorem add_turn {M : Type} [AddCommMonoid M] (o a b t u v w : M) : o + a + b + t + u + v + w = o + t + u + v + w + a + b := by
  simp only [add_assoc, add_left_comm, add_comm]
theorem peel_turn (O : CellTallies nD τ sig ℕ) : peel c O 30 = peelT c O + oA c true 30 + oA c false 30 := by
  unfold peel peelT
  exact add_turn _ _ _ _ _ _ _

theorem peelT_above {O : CellTallies nD τ sig ℕ} (hO : Above O 71) : Above (peelT c O) 71 :=
  (((hO.add (oS_above c true true (by omega) (by omega))).add (oS_above c false true (by omega) (by omega))).add (oS_above c true false (by omega) (by omega))).add
    (oS_above c false false (by omega) (by omega))

theorem wp_rsLast (Kt : PUnit.{1} → sProp 𝕄) (R L : Dev nD) (hR : R = nxt false c) (hL : L = nxt true c) (O : CellTallies nD τ sig ℕ) (hO : Above O 71) (k : PK F) :
    iprop(env X Wt K Kι ∗ opA (F := F) c ∗ rsS X Wt c false 30 ∗ rsS X Wt c true 30 ∗ cR (F := F) c false false 30 ∗ cR (F := F) c false true 30
        ∗ cR (F := F) c true false 30 ∗ cR (F := F) c true true 30 ∗ dutyTok ER (aC (prv false c) false) 0 30 ∗ dutyTok ER (aC (prv true c) true) 0 30
        ∗ owe (F := F) c (O + oA c true 30 + oA c false 30))
      ⊢ iprop(((rsE X Wt c false ∗ rsE X Wt c true ∗ owe (F := F) c O) -∗ wpc c k Kt) -∗ wpc c (rsLast false R L k) Kt) := by
  have o1 := (hO.mono (show 70 ≤ 71 by omega)).add (oA_above c true (n := 30) (by omega) (by omega))
  have o2 := o1.add (oA_above c false (n := 30) (by omega) (by omega))
  unfold rsS rsE rsLast
  iintro ⟨#HE, #Hop, ⟨Hp0, Hp1, HS0, HS1, Ht, Hsl, Ha⟩, ⟨Hp0', Hp1', HS0', HS1', Ht', Hsl', Ha'⟩, HR0, HR1, HR0', HR1', Hat, Hat', HO⟩ Hk
  ihave Ht := own_split c (tmp false) fullShare _ $$ Ht
  icases Ht with ⟨Ht0, Ht1⟩
  ihave Ht' := own_split c (tmp true) fullShare _ $$ Ht'
  icases Ht' with ⟨Ht0', Ht1'⟩
  iapply (wp_rsBlk X Wt K Kι c Kt false false false 30 rfl (by omega) _ o2) $$ [Hp0 HS0 HR0 HO Ht0]
  · isplitr; · iexact HE
    iframe Hp0 HS0 HR0 HO
    iexact Ht0
  iintro ⟨Hp0, Hacc0, Hcm0, Ht0, HO⟩
  iapply (wp_rsBlk X Wt K Kι c Kt true false false 30 rfl (by omega) _ o2) $$ [Hp0' HS0' HR0' HO Ht0']
  · isplitr; · iexact HE
    iframe Hp0' HS0' HR0' HO
    iexact Ht0'
  iintro ⟨Hp0', Hacc0', Hcm0', Ht0', HO⟩
  iapply (wp_rsBlk X Wt K Kι c Kt false true false 30 rfl (by omega) _ o2) $$ [Hp1 HS1 HR1 HO Ht1]
  · isplitr; · iexact HE
    iframe Hp1 HS1 HR1 HO
    iexact Ht1
  iintro ⟨Hp1, Hacc1, Hcm1, Ht1, HO⟩
  iapply (wp_rsBlk X Wt K Kι c Kt true true false 30 rfl (by omega) _ o2) $$ [Hp1' HS1' HR1' HO Ht1']
  · isplitr; · iexact HE
    iframe Hp1' HS1' HR1' HO
    iexact Ht1'
  iintro ⟨Hp1', Hacc1', Hcm1', Ht1', HO⟩
  imod (slots_step X Wt K Kι c false 30 (by omega)) $$ [Hsl Hcm0 Hcm1] with Hsl
  · isplitr; · iexact HE
    isplitl [Hsl]; · iexact Hsl
    isplitl [Hcm0]; · iexact Hcm0
    iexact Hcm1
  imod (slots_step X Wt K Kι c true 30 (by omega)) $$ [Hsl' Hcm0' Hcm1'] with Hsl'
  · isplitr; · iexact HE
    isplitl [Hsl']; · iexact Hsl'
    isplitl [Hcm0']; · iexact Hcm0'
    iexact Hcm1'
  iapply (wp_ackT X Wt K Kι c Kt false L hL 30 31 (by omega) (by omega)) $$ [Hp0 Hp1 Hsl Hat HO]
  · isplitr; · iexact HE
    isplitr; · iexact Hop
    iframe Hp0 Hp1 Hsl Hat
    iexact HO
  iintro ⟨Hp0, Hp1, Hsl, HO⟩
  iapply (wp_ackT X Wt K Kι c Kt true R hR 30 31 (by omega) (by omega)) $$ [Hp0' Hp1' Hsl' Hat' HO]
  · isplitr; · iexact HE
    isplitr; · iexact Hop
    iframe Hp0' Hp1' Hsl' Hat'
    iexact HO
  iintro ⟨Hp0', Hp1', Hsl', HO⟩
  iapply Hk
  iframe Hp0 Hp1 Hacc0 Hacc1 Hsl Ha Hp0' Hp1' Hacc0' Hacc1' Hsl' Ha'
  isplitl [Ht0 Ht1]
  · iapply (ownA_join c (tmp false) fullShare)
    iframe Ht0 Ht1
  isplitl [Ht0' Ht1']
  · iapply (ownA_join c (tmp true) fullShare)
    iframe Ht0' Ht1'
  iexact HO

/-- The start of the gather: each direction copies its block to the result and sends it on. -/
theorem wp_turn (Kt : PUnit.{1} → sProp 𝕄) (R L : Dev nD) (hR : R = nxt false c) (hL : L = nxt true c)
    (off off' : Fin 2 → ℕ) (h : ∀ a, off a + S256x2048.size a ≤ S8192x4096.size a) (h' : ∀ a, off' a + S256x2048.size a ≤ S8192x4096.size a)
    (hoff : off = wOff false (blk false c 31)) (hoff' : off' = wOff true (blk true c 31))
    (B : Bool → Bool → Blk) (hB : ∀ d u, (B d u).1 = tOff d u (blk d c 31)) (O : CellTallies nD τ sig ℕ) (hO : Above O 71) (k : PK F) :
    iprop(env X Wt K Kι ∗ rsE X Wt c false ∗ rsE X Wt c true ∗ stI (F := F) c false ∗ stI (F := F) c true
        ∗ ackCr (F := F) c false 30 ∗ ackCr (F := F) c true 30 ∗ tokS (F := F) c false false 31 ∗ tokS (F := F) c false true 31 ∗ tokS (F := F) c true false 31 ∗ tokS (F := F) c true true 31
        ∗ bigSep (Finset.Ico 31 62) (dst (F := F) false (nxt false c)) ∗ bigSep (Finset.Ico 31 62) (dst (F := F) true (nxt true c)) ∗ owe (F := F) c (peelT c O))
      ⊢ iprop(((agS X Wt c false 31 ∗ agS X Wt c true 31 ∗ stF (F := F) c false ∗ stF (F := F) c true ∗ ownA (F := F) c (tmp false) fullShare ∗ ownA (F := F) c (tmp true) fullShare
          ∗ owe (F := F) c O) -∗ wpc c k Kt)
        -∗ wpc c (stCopy false off h <| stCopy true off' h' <| ackW false 1#32 <| ackW true 1#32 <|
            agSend0 false false true R (B false false).1 (B false false).2 <| agSend0 true false true L (B true false).1 (B true false).2 <|
            agSend0 false true true R (B false true).1 (B false true).2 <| agSend0 true true true L (B true true).1 (B true true).2 k) Kt) := by
  have oT := peelT_above c hO
  unfold rsE agS
  rw [ico_cons _ (show 31 < 62 by omega), ico_cons _ (show 31 < 62 by omega)]
  unfold dst
  iintro ⟨#HE, ⟨Hp0, Hp1, Hac0, Hac1, Ht, Hsl, Ha⟩, ⟨Hp0', Hp1', Hac0', Hac1', Ht', Hsl', Ha'⟩, Hst, Hst', Hcr, Hcr', Hk0, Hk1, Hk0', Hk1', ⟨⟨Hd0, Hd1⟩, Hds⟩, ⟨⟨Hd0', Hd1'⟩, Hds'⟩, HO⟩ Hk
  iapply (wp_stCopy X Wt K Kι c Kt false off h hoff) $$ [Hst Hac0 Hac1]
  · isplitr; · iexact HE
    iframe Hst Hac0 Hac1
  iintro ⟨Hst, Hac0, Hac1⟩
  iapply (wp_stCopy X Wt K Kι c Kt true off' h' hoff') $$ [Hst' Hac0' Hac1']
  · isplitr; · iexact HE
    iframe Hst' Hac0' Hac1'
  iintro ⟨Hst', Hac0', Hac1'⟩
  iapply (wp_ackIf X Wt K Kι c Kt true false 30 rfl (by omega) _ (oT.mono (show 70 ≤ 71 by omega))) $$ [Ha Hcr HO]
  · isplitr; · iexact HE
    iframe Ha Hcr
    iexact HO
  iintro ⟨Ha, #Hu, HO⟩
  iapply (wp_ackIf X Wt K Kι c Kt true true 30 rfl (by omega) _ (oT.mono (show 70 ≤ 71 by omega))) $$ [Ha' Hcr' HO]
  · isplitr; · iexact HE
    iframe Ha' Hcr'
    iexact HO
  iintro ⟨Ha', #Hu', HO⟩
  unfold peelT
  iapply (wp_agSend0 X Wt K Kι c Kt false false R hR _ _ (hB false false) _) $$ [Hp0 Hk0 Hac0 Hd0 HO]
  · isplitr; · iexact HE
    isplitl [Hp0]; · iexact Hp0
    isplitr; · iexact Hu
    iframe Hk0 Hac0 HO
    iexact Hd0
  iintro ⟨Hp0, HS0, HO⟩
  iapply (wp_agSend0 X Wt K Kι c Kt true false L hL _ _ (hB true false) _) $$ [Hp0' Hk0' Hac0' Hd0' HO]
  · isplitr; · iexact HE
    isplitl [Hp0']; · iexact Hp0'
    isplitr; · iexact Hu'
    iframe Hk0' Hac0' HO
    iexact Hd0'
  iintro ⟨Hp0', HS0', HO⟩
  iapply (wp_agSend0 X Wt K Kι c Kt false true R hR _ _ (hB false true) _) $$ [Hp1 Hk1 Hac1 Hd1 HO]
  · isplitr; · iexact HE
    isplitl [Hp1]; · iexact Hp1
    isplitr; · iexact Hu
    iframe Hk1 Hac1 HO
    iexact Hd1
  iintro ⟨Hp1, HS1, HO⟩
  iapply (wp_agSend0 X Wt K Kι c Kt true true L hL _ _ (hB true true) _) $$ [Hp1' Hk1' Hac1' Hd1' HO]
  · isplitr; · iexact HE
    isplitl [Hp1']; · iexact Hp1'
    isplitr; · iexact Hu'
    iframe Hk1' Hac1' HO
    iexact Hd1'
  iintro ⟨Hp1', HS1', HO⟩
  iapply Hk
  rw [Finset.Ico_self, bigSep_empty, bigSep_empty]
  iframe Hst Hst' Ht Ht' HO
  isplitl [Hp0 Hp1 HS0 HS1 Hds Hsl Ha]
  · iframe Hp0 Hp1 HS0 HS1 Hsl Ha
    isplitr; · iempintro
    iexact Hds
  iframe Hp0' Hp1' HS0' HS1' Hsl' Ha'
  isplitr; · iempintro
  iexact Hds'

/-- A direction after the gather. -/
def agE (d : Bool) : sProp 𝕄 :=
  iprop(posn (F := F) c d false 62 ∗ posn (F := F) c d true 62
    ∗ bigSep (Finset.Ico 31 62) (fun n => iprop(srcB X Wt d false n c ∗ srcB X Wt d true n c))
    ∗ own c (tile d false (blk d c 62)) fullShare (sv X Wt d false 62 c) ∗ own c (tile d true (blk d c 62)) fullShare (sv X Wt d true 62 c)
    ∗ slots (F := F) c d 31 ∗ ackSt (F := F) c d 60)

theorem wp_agLast (Kt : PUnit.{1} → sProp 𝕄) (R L : Dev nD) (hR : R = nxt false c) (hL : L = nxt true c) (A : Bool → Bool → Blk) (k : PK F) :
    iprop(env X Wt K Kι ∗ opA (F := F) c ∗ agS X Wt c false 61 ∗ agS X Wt c true 61 ∗ cR (F := F) c false false 61 ∗ cR (F := F) c false true 61
        ∗ cR (F := F) c true false 61 ∗ cR (F := F) c true true 61 ∗ dutyTok ER (aC (prv false c) false) 0 61 ∗ dutyTok ER (aC (prv true c) true) 0 61
        ∗ owe (F := F) c (OS c 61))
      ⊢ iprop(((agE X Wt c false ∗ agE X Wt c true ∗ owe (F := F) c 0) -∗ wpc c k Kt) -∗ wpc c (agLast true R L A k) Kt) := by
  have o1 := (Above.zero 132).add (oA_above c true (n := 61) (by omega) (by omega))
  have o2 := o1.add (oA_above c false (n := 61) (by omega) (by omega))
  unfold agS agE agLast
  rw [show OS c 61 = 0 + oA c true 61 + oA c false 61 from rfl, show (62 : ℕ) = 61 + 1 from rfl, ico_snoc _ (show 31 ≤ 61 by omega), ico_snoc _ (show 31 ≤ 61 by omega)]
  iintro ⟨#HE, #Hop, ⟨Hp0, Hp1, HS0, HS1, Hdn, -, Hsl, Ha⟩, ⟨Hp0', Hp1', HS0', HS1', Hdn', -, Hsl', Ha'⟩, HR0, HR1, HR0', HR1', Hat, Hat', HO⟩ Hk
  iapply (wp_agBlk X Wt K Kι c Kt false false false true 61 rfl (by omega) (by omega) (A false false).1 (A false false).2 _ o2) $$ [Hp0 HS0 HR0 HO]
  · isplitr; · iexact HE
    iframe Hp0 HS0 HR0
    iexact HO
  iintro ⟨Hp0, Hb0, Ht0, HO⟩
  iapply (wp_agBlk X Wt K Kι c Kt false true false true 61 rfl (by omega) (by omega) (A true false).1 (A true false).2 _ o2) $$ [Hp0' HS0' HR0' HO]
  · isplitr; · iexact HE
    iframe Hp0' HS0' HR0'
    iexact HO
  iintro ⟨Hp0', Hb0', Ht0', HO⟩
  iapply (wp_agBlk X Wt K Kι c Kt false false true true 61 rfl (by omega) (by omega) (A false true).1 (A false true).2 _ o2) $$ [Hp1 HS1 HR1 HO]
  · isplitr; · iexact HE
    iframe Hp1 HS1 HR1
    iexact HO
  iintro ⟨Hp1, Hb1, Ht1, HO⟩
  iapply (wp_agBlk X Wt K Kι c Kt false true true true 61 rfl (by omega) (by omega) (A true true).1 (A true true).2 _ o2) $$ [Hp1' HS1' HR1' HO]
  · isplitr; · iexact HE
    iframe Hp1' HS1' HR1'
    iexact HO
  iintro ⟨Hp1', Hb1', Ht1', HO⟩
  iapply (wp_ackT X Wt K Kι c Kt false L hL 61 31 (by omega) (by omega)) $$ [Hp0 Hp1 Hsl Hat HO]
  · isplitr; · iexact HE
    isplitr; · iexact Hop
    iframe Hp0 Hp1 Hsl Hat
    iexact HO
  iintro ⟨Hp0, Hp1, Hsl, HO⟩
  iapply (wp_ackT X Wt K Kι c Kt true R hR 61 31 (by omega) (by omega)) $$ [Hp0' Hp1' Hsl' Hat' HO]
  · isplitr; · iexact HE
    isplitr; · iexact Hop
    iframe Hp0' Hp1' Hsl' Hat'
    iexact HO
  iintro ⟨Hp0', Hp1', Hsl', HO⟩
  iapply Hk
  iframe Hp0 Hp1 Hdn Hb0 Hb1 Ht0 Ht1 Hsl Ha Hp0' Hp1' Hdn' Hb0' Hb1' Ht0' Ht1' Hsl' Ha'
  iexact HO
end

end Cert.KernelIdeal.AR
-- ==== Proof.Body.lean ====
/- The kernel's body on one device. -/
module

public import proofs.«01_k».proof.Proof.Turn

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

theorem t1_trips : k0_t1_loop.trips = 14 := by decide
theorem t2_trips : k0_t2_loop.trips = 14 := by decide

/-- The kernel's places, as the ring position `v0` of device `c` gives them. -/
structure Geo (c : Dev nD) (v0 : BitVec 32) : Prop where
  o1 : k0_off1 v0 = ![256 * (posL c).val, 0]
  o2 : k0_off2 v0 = ![256 * (blk false c 1).val, 0]
  o3 : k0_off3 v0 = ![256 * (blk true c 1).val, 0]
  o4 : k0_off4 v0 0#32 = ![256 * (blk false c 2).val, 0]
  o5 : k0_off5 v0 0#32 = ![256 * (blk true c 2).val, 0]
  o4' : k0_off4 v0 29#32 = ![256 * (blk false c 31).val, 0]
  o5' : k0_off5 v0 29#32 = ![256 * (blk true c 31).val, 0]
  o6 : ∀ t : Fin k0_t1_loop.trips, k0_off6 v0 t = ![256 * (blk false c (2 * t.val + 3)).val, 0]
  o7 : ∀ t : Fin k0_t1_loop.trips, k0_off7 v0 t = ![256 * (blk true c (2 * t.val + 3)).val, 0]
  o8 : ∀ t : Fin k0_t1_loop.trips, k0_off8 v0 t = ![256 * (blk false c (2 * t.val + 4)).val, 0]
  o9 : ∀ t : Fin k0_t1_loop.trips, k0_off9 v0 t = ![256 * (blk true c (2 * t.val + 4)).val, 0]
  o10 : k0_off10 v0 = wOff false (blk false c 31)
  o11 : k0_off11 v0 = wOff true (blk true c 31)
  o12 : k0_off12 v0 0#32 = tOff false false (blk false c 31) ∧ k0_off12 v0 1#32 = tOff false false (blk false c 32) ∧ k0_off12 v0 30#32 = tOff false false (blk false c 61)
  o13 : k0_off13 v0 0#32 = tOff true false (blk true c 31) ∧ k0_off13 v0 1#32 = tOff true false (blk true c 32) ∧ k0_off13 v0 30#32 = tOff true false (blk true c 61)
  o14 : k0_off14 v0 0#32 = tOff false true (blk false c 31) ∧ k0_off14 v0 1#32 = tOff false true (blk false c 32) ∧ k0_off14 v0 30#32 = tOff false true (blk false c 61)
  o15 : k0_off15 v0 0#32 = tOff true true (blk true c 31) ∧ k0_off15 v0 1#32 = tOff true true (blk true c 32) ∧ k0_off15 v0 30#32 = tOff true true (blk true c 61)
  o17 : ∀ t : Fin k0_t2_loop.trips, k0_off17 v0 t = tOff false false (blk false c (2 * t.val + 33))
  o19 : ∀ t : Fin k0_t2_loop.trips, k0_off19 v0 t = tOff true false (blk true c (2 * t.val + 33))
  o21 : ∀ t : Fin k0_t2_loop.trips, k0_off21 v0 t = tOff false true (blk false c (2 * t.val + 33))
  o23 : ∀ t : Fin k0_t2_loop.trips, k0_off23 v0 t = tOff true true (blk true c (2 * t.val + 33))
  o24 : ∀ t : Fin k0_t2_loop.trips, k0_off24 v0 t = tOff false false (blk false c (2 * t.val + 34))
  o25 : ∀ t : Fin k0_t2_loop.trips, k0_off25 v0 t = tOff true false (blk true c (2 * t.val + 34))
  o26 : ∀ t : Fin k0_t2_loop.trips, k0_off26 v0 t = tOff false true (blk false c (2 * t.val + 34))
  o27 : ∀ t : Fin k0_t2_loop.trips, k0_off27 v0 t = tOff true true (blk true c (2 * t.val + 34))

theorem ret_wpc (c : Dev nD) (Kt : PUnit.{1} → sProp 𝕄) : Kt ⟨⟩ ⊢ wpc c (.ret ⟨⟩) Kt := le_wp_ret _ _ _ _ _

theorem blk_zero (d : Bool) (c : Dev nD) : blk d c 0 = posL c := by revert d c; decide

section
variable (X : XT F) (Wt : WT F) (K : GSem nD τ sig → ℕ) (Kι : RKey → ℕ) (c : Dev nD)
variable (a1 : Memref sig .tc .vmem S8192x256 .f32) (a2 : Memref sig .tc .vmem S256x4096 .f32)

/-- What the iterations from `s` on spend. -/
def itB (s : ℕ) : sProp 𝕄 := iprop(it (F := F) c false s ∗ it (F := F) c true s ∗ ackCr (F := F) c false s ∗ ackCr (F := F) c true s)
def itR (s : ℕ) : sProp 𝕄 := bigSep (Finset.Ico s 61) (itB (F := F) c)
/-- The state between two iterations of the reduce-scatter, and of the gather. -/
def stR (s : ℕ) : sProp 𝕄 :=
  iprop(own c a1 fullShare (X c) ∗ own c a2 fullShare (Wt c) ∗ rsS X Wt c false s ∗ rsS X Wt c true s ∗ itR (F := F) c s ∗ owe (F := F) c (OS c s))
def stG (s : ℕ) : sProp 𝕄 := iprop(agS X Wt c false s ∗ agS X Wt c true s ∗ itR (F := F) c s ∗ owe (F := F) c (OS c s))

theorem wp_rsN (Kt : PUnit.{1} → sProp 𝕄) (σ : Bool) (s : ℕ) (hs0 : 0 < s) (hs : s < 30) (hσ : σ = bit s) (R L : Dev nD) (hR : R = nxt false c) (hL : L = nxt true c)
    (off off' : Fin 2 → ℕ) (h : ∀ a, off a + S256x256.size a ≤ S8192x256.size a) (h' : ∀ a, off' a + S256x256.size a ≤ S8192x256.size a)
    (hoff : off = ![256 * (blk false c (s + 2)).val, 0]) (hoff' : off' = ![256 * (blk true c (s + 2)).val, 0]) (k : PK F) :
    iprop(env X Wt K Kι ∗ opA (F := F) c ∗ stR X Wt c a1 a2 s) ⊢ iprop((stR X Wt c a1 a2 (s + 1) -∗ wpc c k Kt) -∗ wpc c (rsIter a1 a2 true σ R L off off' h h' k) Kt) := by
  unfold stR itR
  rw [ico_cons _ (show s < 61 by omega), OS_succ c s (by omega)]
  unfold itB
  iintro ⟨#HE, #Hop, Hx, Hw, Hs, Hs', ⟨⟨Hi, Hi', Hc, Hc'⟩, Hit⟩, HO⟩ Hk
  iapply (wp_rsIter X Wt K Kι c Kt a1 a2 true σ s hs (decide_eq_true hs0).symm hσ R L hR hL off off' h h' hoff hoff' _ ((OS_above c (s + 1) (by omega)).mono (by omega)) k) $$ [Hx Hw Hs Hs' Hi Hi' Hc Hc' HO]
  · isplitr; · iexact HE
    isplitr; · iexact Hop
    iframe Hx Hw Hs Hs' Hi Hi' Hc Hc'
    iexact HO
  iintro ⟨Hx, Hw, Hs, Hs', HO⟩
  iapply Hk
  iframe Hx Hw Hs Hs' Hit
  iexact HO

theorem wp_agN (Kt : PUnit.{1} → sProp 𝕄) (z σ : Bool) (s : ℕ) (hs : 31 ≤ s) (hs' : s < 61) (hσ : σ = bit s) (R L : Dev nD) (hR : R = nxt false c) (hL : L = nxt true c)
    (A B : Bool → Bool → Blk) (hB : ∀ d u, (B d u).1 = tOff d u (blk d c (s + 1))) (k : PK F) :
    iprop(env X Wt K Kι ∗ opA (F := F) c ∗ stG X Wt c s) ⊢ iprop((stG X Wt c (s + 1) -∗ wpc c k Kt) -∗ wpc c (agIterG z σ R L A B k) Kt) := by
  unfold stG itR
  rw [ico_cons _ hs', OS_succ c s hs']
  unfold itB
  iintro ⟨#HE, #Hop, Hs, Hs', ⟨⟨Hi, Hi', Hc, Hc'⟩, Hit⟩, HO⟩ Hk
  iapply (wp_agIter X Wt K Kι c Kt z σ s hs hs' hσ R L hR hL A B hB _ ((OS_above c (s + 1) (by omega)).mono (by omega)) k) $$ [Hs Hs' Hi Hi' Hc Hc' HO]
  · isplitr; · iexact HE
    isplitr; · iexact Hop
    iframe Hs Hs' Hi Hi' Hc Hc'
    iexact HO
  iintro ⟨Hs, Hs', HO⟩
  iapply Hk
  iframe Hs Hs' Hit
  iexact HO

variable (v0 : BitVec 32) (hw3 : k0_chk3 v0) (v1 : BitVec 32) (hw1 : k0_chk1 v1) (v2 : BitVec 32) (hw2 : k0_chk2 v2)

/-- The loops. -/
theorem wp_loop1 (Kt : PUnit.{1} → sProp 𝕄) (hg : Geo c v0) (hR : rgt v2 hw2 = nxt false c) (hL : lft v1 hw1 = nxt true c) (k : PK F) :
    iprop(env X Wt K Kι ∗ opA (F := F) c ∗ stR X Wt c a1 a2 1)
      ⊢ iprop((stR X Wt c a1 a2 29 -∗ wpc c k Kt) -∗ wpc c (Prog.bind (loop1 a1 a2 v0 hw3 v1 hw1 v2 hw2) fun _ => k) Kt) := by
  have hb : ∀ (t : Fin k0_t1_loop.trips) (acc : Unit),
      iprop(env X Wt K Kι ∗ opA (F := F) c ∗ stR X Wt c a1 a2 (2 * t.val + 1))
        ⊢ wpc c (rsTrip a1 a2 v0 hw3 v1 hw1 v2 hw2 t (.ret ⟨⟩)) (fun _ => iprop(env X Wt K Kι ∗ opA (F := F) c ∗ stR X Wt c a1 a2 (2 * (t.val + 1) + 1))) := by
    intro t acc
    have ht : t.val < 14 := Nat.lt_of_lt_of_eq t.isLt t1_trips
    have hb1 : true = bit (2 * t.val + 1) := by unfold bit; symm; exact decide_eq_true (by omega)
    have hb2 : false = bit (2 * t.val + 1 + 1) := by rw [bit_succ, ← hb1]; rfl
    unfold rsTrip
    iintro ⟨#HE, #Hop, Hs⟩
    iapply (wp_rsN X Wt K Kι c a1 a2 _ true (2 * t.val + 1) (by omega) (by omega) hb1 _ _ hR hL _ _ _ _ (hg.o6 t) (hg.o7 t)) $$ [Hs]
    · isplitr; · iexact HE
      isplitr; · iexact Hop
      iexact Hs
    iintro Hs
    iapply (wp_rsN X Wt K Kι c a1 a2 _ false (2 * t.val + 1 + 1) (by omega) (by omega) hb2 _ _ hR hL _ _ _ _ (hg.o8 t) (hg.o9 t)) $$ [Hs]
    · isplitr; · iexact HE
      isplitr; · iexact Hop
      iexact Hs
    iintro Hs
    iapply (ret_wpc c)
    isplitr; · iexact HE
    isplitr; · iexact Hop
    iexact Hs
  have := Scf.wp_for_bind frame (wpE (defs₀ (F := F)) 𝒱₀ (c : Thread nD τ) none) Set.univ k0_t1_loop.lb k0_t1_loop.ub k0_t1_loop.st k0_t1_ok ()
    (fun t _ => rsTrip a1 a2 v0 hw3 v1 hw1 v2 hw2 t (.ret ⟨⟩)) (fun n _ => iprop(env X Wt K Kι ∗ opA (F := F) c ∗ stR X Wt c a1 a2 (2 * n + 1))) hb (kk := fun _ => k) (Q := Kt)
  iintro H Hk
  iapply this $$ H
  iintro %acc ⟨-, -, Hs⟩
  iapply Hk
  iexact Hs

theorem wp_loop2 (Kt : PUnit.{1} → sProp 𝕄) (hg : Geo c v0) (hR : rgt v2 hw2 = nxt false c) (hL : lft v1 hw1 = nxt true c) (k : PK F) :
    iprop(env X Wt K Kι ∗ opA (F := F) c ∗ stG X Wt c 32)
      ⊢ iprop((stG X Wt c 60 -∗ wpc c k Kt) -∗ wpc c (Prog.bind (loop2 v0 hw3 v1 hw1 v2 hw2) fun _ => k) Kt) := by
  have hb : ∀ (t : Fin k0_t2_loop.trips) (acc : Unit),
      iprop(env X Wt K Kι ∗ opA (F := F) c ∗ stG X Wt c (2 * t.val + 32))
        ⊢ wpc c (agTrip v0 hw3 v1 hw1 v2 hw2 t (.ret ⟨⟩)) (fun _ => iprop(env X Wt K Kι ∗ opA (F := F) c ∗ stG X Wt c (2 * (t.val + 1) + 32))) := by
    intro t acc
    have ht : t.val < 14 := Nat.lt_of_lt_of_eq t.isLt t2_trips
    have hb1 : false = bit (2 * t.val + 32) := by unfold bit; symm; exact decide_eq_false (by omega)
    have hb2 : true = bit (2 * t.val + 32 + 1) := by rw [bit_succ, ← hb1]; rfl
    unfold agTrip
    iintro ⟨#HE, #Hop, Hs⟩
    iapply (wp_agN X Wt K Kι c _ false false (2 * t.val + 32) (by omega) (by omega) hb1 _ _ hR hL (blkP v0 hw3 t) (blkQ v0 hw3 t)
      (by intro d u; cases d <;> cases u; exacts [hg.o17 t, hg.o21 t, hg.o19 t, hg.o23 t])) $$ [Hs]
    · isplitr; · iexact HE
      isplitr; · iexact Hop
      iexact Hs
    iintro Hs
    iapply (wp_agN X Wt K Kι c _ false true (2 * t.val + 32 + 1) (by omega) (by omega) hb2 _ _ hR hL (blkQ v0 hw3 t) (blkR v0 hw3 t)
      (by intro d u; cases d <;> cases u; exacts [hg.o24 t, hg.o26 t, hg.o25 t, hg.o27 t])) $$ [Hs]
    · isplitr; · iexact HE
      isplitr; · iexact Hop
      iexact Hs
    iintro Hs
    iapply (ret_wpc c)
    isplitr; · iexact HE
    isplitr; · iexact Hop
    iexact Hs
  have := Scf.wp_for_bind frame (wpE (defs₀ (F := F)) 𝒱₀ (c : Thread nD τ) none) Set.univ k0_t2_loop.lb k0_t2_loop.ub k0_t2_loop.st k0_t2_ok ()
    (fun t _ => agTrip v0 hw3 v1 hw1 v2 hw2 t (.ret ⟨⟩)) (fun n _ => iprop(env X Wt K Kι ∗ opA (F := F) c ∗ stG X Wt c (2 * n + 32))) hb (kk := fun _ => k) (Q := Kt)
  iintro H Hk
  iapply this $$ H
  iintro %acc ⟨-, -, Hs⟩
  iapply Hk
  iexact Hs

/-! ## The middle and the end -/

theorem wp_mid (Kt : PUnit.{1} → sProp 𝕄) (hg : Geo c v0) (hR : rgt v2 hw2 = nxt false c) (hL : lft v1 hw1 = nxt true c) (k : PK F) :
    iprop(env X Wt K Kι ∗ opA (F := F) c ∗ stR X Wt c a1 a2 29 ∗ stI (F := F) c false ∗ stI (F := F) c true
        ∗ bigSep (Finset.Ico 31 62) (dst (F := F) false (nxt false c)) ∗ bigSep (Finset.Ico 31 62) (dst (F := F) true (nxt true c)))
      ⊢ iprop(((own c a1 fullShare (X c) ∗ own c a2 fullShare (Wt c) ∗ stG X Wt c 32 ∗ stF (F := F) c false ∗ stF (F := F) c true
          ∗ ownA (F := F) c (tmp false) fullShare ∗ ownA (F := F) c (tmp true) fullShare) -∗ wpc c k Kt)
        -∗ wpc c (mid a1 a2 v0 hw3 v1 hw1 v2 hw2 k) Kt) := by
  unfold mid
  iintro ⟨#HE, #Hop, Hs, Hst, Hst', Hds, Hds'⟩ Hk
  iapply (wp_rsN X Wt K Kι c a1 a2 Kt true 29 (by omega) (by omega) (by decide) _ _ hR hL _ _ _ _ hg.o4' hg.o5') $$ [Hs]
  · isplitr; · iexact HE
    isplitr; · iexact Hop
    iexact Hs
  iintro Hs
  ihave Hs := (Entails.of_eq (show stR X Wt c a1 a2 (29 + 1) = iprop(own c a1 fullShare (X c) ∗ own c a2 fullShare (Wt c) ∗ rsS X Wt c false 30 ∗ rsS X Wt c true 30
      ∗ (itB (F := F) c 30 ∗ itR (F := F) c 31) ∗ owe (F := F) c (peelT c (OS c 31) + oA c true 30 + oA c false 30)) by
    unfold stR itR
    rw [ico_cons _ (show 29 + 1 < 61 by omega), OS_succ c (29 + 1) (by omega), peel_turn])) $$ Hs
  icases Hs with ⟨Hx, Hw, Hs, Hs', ⟨Hi, Hit⟩, HO⟩
  unfold itB it
  icases Hi with ⟨⟨Hk0, Hk1, HR0, HR1, Hat, -⟩, ⟨Hk0', Hk1', HR0', HR1', Hat', -⟩, Hc, Hc'⟩
  iapply (wp_rsLast X Wt K Kι c Kt _ _ hR hL _ (peelT_above c ((OS_above c 31 (by omega)).mono (by omega)))) $$ [Hs Hs' HR0 HR1 HR0' HR1' Hat Hat' HO]
  · isplitr; · iexact HE
    isplitr; · iexact Hop
    iframe Hs Hs' HR0 HR1 HR0' HR1' Hat Hat'
    iexact HO
  iintro ⟨Hs, Hs', HO⟩
  iapply (wp_turn X Wt K Kι c Kt _ _ hR hL _ _ (k0_off10_inb v0 hw3) (k0_off11_inb v0 hw3) hg.o10 hg.o11 (blkC v0 hw3 0)
      (by intro d u; cases d <;> cases u; exacts [hg.o12.1, hg.o14.1, hg.o13.1, hg.o15.1]) _ ((OS_above c 31 (by omega)).mono (by omega))) $$ [Hs Hs' Hst Hst' Hc Hc' Hk0 Hk1 Hk0' Hk1' Hds Hds' HO]
  · isplitr; · iexact HE
    iframe Hs Hs' Hst Hst' Hc Hc' Hk0 Hk1 Hk0' Hk1' Hds Hds'
    iexact HO
  iintro ⟨Hs, Hs', Hst, Hst', Ht, Ht', HO⟩
  iapply (wp_agN X Wt K Kι c Kt true true 31 (by omega) (by omega) (by decide) _ _ hR hL (blkC v0 hw3 0) (blkC v0 hw3 1)
      (by intro d u; cases d <;> cases u; exacts [hg.o12.2.1, hg.o14.2.1, hg.o13.2.1, hg.o15.2.1])) $$ [Hs Hs' Hit HO]
  · isplitr; · iexact HE
    isplitr; · iexact Hop
    unfold stG
    iframe Hs Hs' Hit
    iexact HO
  iintro Hs
  iapply Hk
  iframe Hx Hw Hst Hst' Ht Ht'
  iexact Hs

/-- What the last two steps and the closing waits spend of a direction. -/
def endB (d : Bool) : sProp 𝕄 :=
  iprop(cR (F := F) c d false 61 ∗ cR (F := F) c d true 61 ∗ dutyTok ER (aC (prv d c) d) 0 61 ∗ cred (tallyAt (aC c d) 60 1) ∗ cred (tallyAt (aC c d) 61 1))
/-- A direction at the end. -/
def outE (d : Bool) : sProp 𝕄 :=
  iprop(posn (F := F) c d false 62 ∗ posn (F := F) c d true 62
    ∗ bigSep (Finset.Ico 31 62) (fun n => iprop(srcB X Wt d false n c ∗ srcB X Wt d true n c))
    ∗ own c (tile d false (blk d c 62)) fullShare (sv X Wt d false 62 c) ∗ own c (tile d true (blk d c 62)) fullShare (sv X Wt d true 62 c)
    ∗ slots (F := F) c d 31 ∗ atPos ER (aC c d) 1 ∅ 0 ∗ atPos ER (tC c d) 1 ∅ 0 ∗ stB X Wt d c)

theorem wp_fin (Kt : PUnit.{1} → sProp 𝕄) (hg : Geo c v0) (hR : rgt v2 hw2 = nxt false c) (hL : lft v1 hw1 = nxt true c) :
    iprop(env X Wt K Kι ∗ opA (F := F) c ∗ stG X Wt c 60 ∗ endB (F := F) c false ∗ endB (F := F) c true ∗ stF (F := F) c false ∗ stF (F := F) c true)
      ⊢ iprop(((outE X Wt c false ∗ outE X Wt c true ∗ owe (F := F) c 0) -∗ Kt ⟨⟩) -∗ wpc c (fin v0 hw3 v1 hw1 v2 hw2) Kt) := by
  unfold fin endB
  iintro ⟨#HE, #Hop, Hs, ⟨HR0, HR1, Hat, Hc, Hc1⟩, ⟨HR0', HR1', Hat', Hc', Hc1'⟩, Hst, Hst'⟩ Hk
  iapply (wp_agN X Wt K Kι c Kt false false 60 (by omega) (by omega) (by decide) _ _ hR hL (blkC v0 hw3 2) (blkC v0 hw3 3)
      (by intro d u; cases d <;> cases u; exacts [hg.o12.2.2, hg.o14.2.2, hg.o13.2.2, hg.o15.2.2])) $$ [Hs]
  · isplitr; · iexact HE
    isplitr; · iexact Hop
    iexact Hs
  unfold stG
  iintro ⟨Hs, Hs', -, HO⟩
  iapply (wp_agLast X Wt K Kι c Kt _ _ hR hL (blkC v0 hw3 3)) $$ [Hs Hs' HR0 HR1 HR0' HR1' Hat Hat' HO]
  · isplitr; · iexact HE
    isplitr; · iexact Hop
    iframe Hs Hs' HR0 HR1 HR0' HR1' Hat Hat'
    iexact HO
  unfold agE
  iintro ⟨⟨Hp0, Hp1, Hb, Ht0, Ht1, Hsl, Ha⟩, ⟨Hp0', Hp1', Hb', Ht0', Ht1', Hsl', Ha'⟩, HO⟩
  iapply (wp_stWait X Wt K Kι c Kt false _ (k0_off10_inb v0 hw3)) $$ [Hst HO]
  · isplitr; · iexact HE
    iframe Hst
    iexact HO
  iintro ⟨Hst, Hsb, HO⟩
  iapply (wp_stWait X Wt K Kι c Kt true _ (k0_off11_inb v0 hw3)) $$ [Hst' HO]
  · isplitr; · iexact HE
    iframe Hst'
    iexact HO
  iintro ⟨Hst', Hsb', HO⟩
  iapply (wp_ackLast X Wt K Kι c Kt false _ (Above.zero _)) $$ [Ha Hc Hc1 HO]
  · isplitr; · iexact HE
    iframe Ha Hc Hc1
    iexact HO
  iintro ⟨Ha, HO⟩
  iapply (wp_ackLast X Wt K Kι c Kt true _ (Above.zero _)) $$ [Ha' Hc' Hc1' HO]
  · isplitr; · iexact HE
    iframe Ha' Hc' Hc1'
    iexact HO
  iintro ⟨Ha', HO⟩
  iapply (ret_wpc c)
  iapply Hk
  unfold outE
  iframe Hp0 Hp1 Hb Ht0 Ht1 Hsl Ha Hst Hsb Hp0' Hp1' Hb' Ht0' Ht1' Hsl' Ha' Hst' Hsb'
  iexact HO

/-! ## The start -/

/-- What a device begins with in a direction. -/
def inD (d : Bool) : sProp 𝕄 :=
  iprop(posn (F := F) c d false 0 ∗ posn (F := F) c d true 0 ∗ slots (F := F) c d 0 ∗ ackSt (F := F) c d 0 ∗ ownA (F := F) c (acc d) fullShare ∗ ownA (F := F) c (tmp d) fullShare
    ∗ tokS (F := F) c d false 0 ∗ tokS (F := F) c d true 0 ∗ writeTok ES (nxt d c, d, false) 1 ∗ it (F := F) c d 0
    ∗ reached ER (bC (nxt d c)) 0 ∗ dutyTok ER (bC (nxt d c)) 0 (sl (!d)) ∗ reached ER (aC c (!d)) 0 ∗ bigSep (Finset.Ico 31 62) (dst (F := F) d c))

/-- What the device owes at the start: everything it will pay. -/
def OI (c : Dev nD) : CellTallies nD τ sig ℕ :=
  OS c 0 + oS c true true 0 + oS c false true 0 + oS c true false 0 + oS c false false 0 + tallyAt (bC (nxt false c)) 0 1 + tallyAt (bC (nxt true c)) 0 1

theorem grant_mk (d : Bool) :
    iprop(posn (F := F) c d false 0 ∗ posn (F := F) c d true 0 ∗ slots (F := F) c d 0) ⊢ upto (F := F) d c 0 := upto_own c d 0

theorem ackCr_zero (d : Bool) : upto (F := F) d (nxt d c) 0 ⊢ ackCr (F := F) c d 0 := by
  unfold ackCr
  rw [if_pos rfl]

theorem wp_first (Kt : PUnit.{1} → sProp 𝕄) (d : Bool) (off : Fin 2 → ℕ) (h : ∀ a, off a + S256x256.size a ≤ S8192x256.size a) (hoff : off = ![256 * (posL c).val, 0]) (k : PK F) :
    iprop(own c a1 fullShare (X c) ∗ own c a2 fullShare (Wt c) ∗ ownA (F := F) c (acc d) fullShare)
      ⊢ iprop(((own c a1 fullShare (X c) ∗ own c a2 fullShare (Wt c) ∗ own c (accM d false) fullShare (sv X Wt d false 0 c) ∗ own c (accM d true) fullShare (sv X Wt d true 0 c)) -∗ wpc c k Kt)
        -∗ wpc c (mm a1 a2 (acc d) d off h k) Kt) := by
  iintro ⟨Hx, Hw, Ha⟩ Hk
  iapply (wp_mm a1 a2 X Wt c Kt (acc d) d (blk d c 0) off h (by rw [blk_zero]; exact hoff)) $$ [Hx Hw Ha]
  · iframe Hx Hw Ha
  iintro ⟨Hx, Hw, Ha⟩
  ihave Ha := own_split c (acc d) fullShare _ $$ Ha
  icases Ha with ⟨H0, H1⟩
  iapply Hk
  iframe Hx Hw
  isplitl [H0]; · iexact H0
  iexact H1

theorem wp_pro (Kt : PUnit.{1} → sProp 𝕄) (hg : Geo c v0) (hR : rgt v2 hw2 = nxt false c) (hL : lft v1 hw1 = nxt true c) (k : PK F) :
    iprop(env X Wt K Kι ∗ own c a1 fullShare (X c) ∗ own c a2 fullShare (Wt c) ∗ inD (F := F) c false ∗ inD (F := F) c true ∗ itR (F := F) c 1
        ∗ atPos ER (bC c) 0 ∅ 0 ∗ cred (tallyAt (bC c) 0 2) ∗ owe (F := F) c (OI c))
      ⊢ iprop(((opA (F := F) c ∗ stR X Wt c a1 a2 1 ∗ bigSep (Finset.Ico 31 62) (dst (F := F) false (nxt false c)) ∗ bigSep (Finset.Ico 31 62) (dst (F := F) true (nxt true c))
          ∗ atPos ER (bC c) 1 ∅ 0) -∗ wpc c k Kt)
        -∗ wpc c (pro a1 a2 v0 hw3 v1 hw1 v2 hw2 k) Kt) := by
  have o0 := OS_above c 0 (by omega)
  have o1 := o0.add (oS_above c true true (n := 0) (by omega) (by omega))
  have o2 := o1.add (oS_above c false true (n := 0) (by omega) (by omega))
  have o3 := o2.add (oS_above c true false (n := 0) (by omega) (by omega))
  have o4 := o3.add (oS_above c false false (n := 0) (by omega) (by omega))
  unfold inD pro OI
  iintro ⟨#HE, Hx, Hw, ⟨Hp0, Hp1, Hsl, Ha, Hac, Ht, Hk0, Hk1, Hwt, Hi, #Hbr, Hbt, #Har, Hd⟩,
    ⟨Hp0', Hp1', Hsl', Ha', Hac', Ht', Hk0', Hk1', Hwt', Hi', #Hbr', Hbt', #Har', Hd'⟩, Hit, Hbp, Hbc, HO⟩ Hk
  ihave #Hu : upto (F := F) false c 0 $$ [Hp0 Hp1 Hsl]
  · iapply (grant_mk c false); iframe Hp0 Hp1 Hsl
  ihave #Hu' : upto (F := F) true c 0 $$ [Hp0' Hp1' Hsl']
  · iapply (grant_mk c true); iframe Hp0' Hp1' Hsl'
  iapply (wp_barS X Wt K Kι c Kt true _ hL) $$ [Hbt' Hd HO]
  · isplitr; · iexact HE
    isplitr; · iexact Hbr'
    isplitl [Hbt']; · iexact Hbt'
    isplitl [Hd]
    · unfold grant
      isplitr; · iexact Hu
      isplitr; · iexact Har
      iexact Hd
    iexact HO
  iintro HO
  iapply (wp_barS X Wt K Kι c Kt false _ hR) $$ [Hbt Hd' HO]
  · isplitr; · iexact HE
    isplitr; · iexact Hbr
    isplitl [Hbt]; · iexact Hbt
    isplitl [Hd']
    · unfold grant
      isplitr; · iexact Hu'
      isplitr; · iexact Har'
      iexact Hd'
    iexact HO
  iintro HO
  iapply (wp_barW X Wt K Kι c Kt _ (o4.mono (by omega))) $$ [Hbp Hbc HO]
  · isplitr; · iexact HE
    iframe Hbp Hbc
    iexact HO
  unfold grant
  iintro ⟨Hbp, ⟨#Hn, #Hna, Hds⟩, ⟨#Hn', #Hna', Hds'⟩, HO⟩
  iapply (wp_first X Wt c a1 a2 Kt false _ (k0_off1_inb v0 hw3) hg.o1) $$ [Hx Hw Hac]
  · iframe Hx Hw Hac
  iintro ⟨Hx, Hw, Hc0, Hc1⟩
  iapply (wp_first X Wt c a1 a2 Kt true _ (k0_off1_inb v0 hw3) hg.o1) $$ [Hx Hw Hac']
  · iframe Hx Hw Hac'
  iintro ⟨Hx, Hw, Hc0', Hc1'⟩
  imod (slot_open X Wt K Kι c false 0 (by omega)) $$ [Hwt] with ⟨Hs0, Hs1⟩
  · isplitr; · iexact HE
    isplitr; · iexact Hn
    iexact Hwt
  imod (slot_open X Wt K Kι c true 0 (by omega)) $$ [Hwt'] with ⟨Hs0', Hs1'⟩
  · isplitr; · iexact HE
    isplitr; · iexact Hn'
    iexact Hwt'
  iapply (wp_rsSend X Wt K Kι c Kt false false false 0 rfl (by omega) _ hR) $$ [Hp0 Hk0 Hc0 Hs0 HO]
  · isplitr; · iexact HE
    isplitl [Hp0]; · iexact Hp0
    isplitr; · iexact Hn
    iframe Hk0 Hc0 Hs0
    iexact HO
  iintro ⟨Hp0, HS0, HO⟩
  iapply (wp_rsSend X Wt K Kι c Kt true false false 0 rfl (by omega) _ hL) $$ [Hp0' Hk0' Hc0' Hs0' HO]
  · isplitr; · iexact HE
    isplitl [Hp0']; · iexact Hp0'
    isplitr; · iexact Hn'
    iframe Hk0' Hc0' Hs0'
    iexact HO
  iintro ⟨Hp0', HS0', HO⟩
  iapply (wp_rsSend X Wt K Kι c Kt false true false 0 rfl (by omega) _ hR) $$ [Hp1 Hk1 Hc1 Hs1 HO]
  · isplitr; · iexact HE
    isplitl [Hp1]; · iexact Hp1
    isplitr; · iexact Hn
    iframe Hk1 Hc1 Hs1
    iexact HO
  iintro ⟨Hp1, HS1, HO⟩
  iapply (wp_rsSend X Wt K Kι c Kt true true false 0 rfl (by omega) _ hL) $$ [Hp1' Hk1' Hc1' Hs1' HO]
  · isplitr; · iexact HE
    isplitl [Hp1']; · iexact Hp1'
    isplitr; · iexact Hn'
    iframe Hk1' Hc1' Hs1'
    iexact HO
  iintro ⟨Hp1', HS1', HO⟩
  iapply (wp_mm a1 a2 X Wt c Kt (tmp false) false (blk false c 1) _ (k0_off2_inb v0 hw3) hg.o2) $$ [Hx Hw Ht]
  · iframe Hx Hw Ht
  iintro ⟨Hx, Hw, Ht⟩
  iapply (wp_mm a1 a2 X Wt c Kt (tmp true) true (blk true c 1) _ (k0_off3_inb v0 hw3) hg.o3) $$ [Hx Hw Ht']
  · iframe Hx Hw Ht'
  iintro ⟨Hx, Hw, Ht'⟩
  ihave #Hop : opA (F := F) c $$ []
  · unfold opA
    isplitr; · iexact Hna'
    iexact Hna
  rw [OS_succ c 0 (by omega)]
  iapply (wp_rsIter X Wt K Kι c Kt a1 a2 false false 0 (by omega) rfl rfl _ _ hR hL _ _ (k0_off4_inb v0 hw3 0) (k0_off5_inb v0 hw3 0) hg.o4 hg.o5 _
      ((OS_above c 1 (by omega)).mono (by omega))) $$ [Hx Hw Hp0 Hp1 HS0 HS1 Ht Hsl Ha Hp0' Hp1' HS0' HS1' Ht' Hsl' Ha' Hi Hi' HO]
  · isplitr; · iexact HE
    isplitr; · iexact Hop
    unfold rsS
    iframe Hx Hw Hp0 Hp1 HS0 HS1 Ht Hsl Ha Hp0' Hp1' HS0' HS1' Ht' Hsl' Ha' Hi Hi'
    isplitr; · iapply (ackCr_zero c false); iexact Hn
    isplitr; · iapply (ackCr_zero c true); iexact Hn'
    iexact HO
  iintro ⟨Hx, Hw, Hs, Hs', HO⟩
  iapply Hk
  isplitr; · iexact Hop
  unfold stR
  iframe Hx Hw Hs Hs' Hit HO Hds Hds'
  iexact Hbp

/-- The whole body after the words are read. -/
theorem wp_body (Kt : PUnit.{1} → sProp 𝕄) (hg : Geo c v0) (hR : rgt v2 hw2 = nxt false c) (hL : lft v1 hw1 = nxt true c) :
    iprop(env X Wt K Kι ∗ own c a1 fullShare (X c) ∗ own c a2 fullShare (Wt c) ∗ inD (F := F) c false ∗ inD (F := F) c true ∗ stI (F := F) c false ∗ stI (F := F) c true
        ∗ endB (F := F) c false ∗ endB (F := F) c true ∗ itR (F := F) c 1 ∗ atPos ER (bC c) 0 ∅ 0 ∗ cred (tallyAt (bC c) 0 2) ∗ owe (F := F) c (OI c))
      ⊢ iprop(((own c a1 fullShare (X c) ∗ own c a2 fullShare (Wt c) ∗ outE X Wt c false ∗ outE X Wt c true ∗ ownA (F := F) c (tmp false) fullShare ∗ ownA (F := F) c (tmp true) fullShare
          ∗ atPos ER (bC c) 1 ∅ 0 ∗ owe (F := F) c 0) -∗ Kt ⟨⟩)
        -∗ wpc c (pro a1 a2 v0 hw3 v1 hw1 v2 hw2 (rest a1 a2 v0 hw3 v1 hw1 v2 hw2)) Kt) := by
  unfold rest
  iintro ⟨#HE, Hx, Hw, Hd, Hd', Hst, Hst', He, He', Hit, Hbp, Hbc, HO⟩ Hk
  iapply (wp_pro X Wt K Kι c a1 a2 v0 hw3 v1 hw1 v2 hw2 Kt hg hR hL) $$ [Hx Hw Hd Hd' Hit Hbp Hbc HO]
  · isplitr; · iexact HE
    iframe Hx Hw Hd Hd' Hit Hbp Hbc
    iexact HO
  iintro ⟨#Hop, Hs, Hds, Hds', Hbp⟩
  iapply (wp_loop1 X Wt K Kι c a1 a2 v0 hw3 v1 hw1 v2 hw2 Kt hg hR hL) $$ [Hs]
  · isplitr; · iexact HE
    isplitr; · iexact Hop
    iexact Hs
  iintro Hs
  iapply (wp_mid X Wt K Kι c a1 a2 v0 hw3 v1 hw1 v2 hw2 Kt hg hR hL) $$ [Hs Hst Hst' Hds Hds']
  · isplitr; · iexact HE
    isplitr; · iexact Hop
    iframe Hs Hst Hst' Hds
    iexact Hds'
  iintro ⟨Hx, Hw, Hs, Hst, Hst', Ht, Ht'⟩
  iapply (wp_loop2 X Wt K Kι c v0 hw3 v1 hw1 v2 hw2 Kt hg hR hL) $$ [Hs]
  · isplitr; · iexact HE
    isplitr; · iexact Hop
    iexact Hs
  iintro Hs
  iapply (wp_fin X Wt K Kι c v0 hw3 v1 hw1 v2 hw2 Kt hg hR hL) $$ [Hs He He' Hst Hst']
  · isplitr; · iexact HE
    isplitr; · iexact Hop
    iframe Hs He He' Hst
    iexact Hst'
  iintro ⟨Ho, Ho', HO⟩
  iapply Hk
  iframe Hx Hw Ho Ho' Ht Ht' Hbp
  iexact HO
end

end Cert.KernelIdeal.AR
-- ==== Proof.Geo.lean ====
/- The places the kernel computes, from its place in the ring. -/
module

public import proofs.«01_k».proof.Proof.Body

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

/-- The three words a device reads: its place in the ring, and its neighbours. -/
def pw (c : Dev nD) : BitVec 32 := BitVec.ofNat 32 (posL c).val
def lw (c : Dev nD) : BitVec 32 := BitVec.ofNat 32 (nxt true c).val
def rw' (c : Dev nD) : BitVec 32 := BitVec.ofNat 32 (nxt false c).val

theorem g6 (c : Dev nD) (t : Fin k0_t1_loop.trips) : k0_off6 (pw c) t = ![256 * (blk false c (2 * t.val + 3)).val, 0] := by
  revert c t; decide +kernel
theorem g7 (c : Dev nD) (t : Fin k0_t1_loop.trips) : k0_off7 (pw c) t = ![256 * (blk true c (2 * t.val + 3)).val, 0] := by
  revert c t; decide +kernel
theorem g8 (c : Dev nD) (t : Fin k0_t1_loop.trips) : k0_off8 (pw c) t = ![256 * (blk false c (2 * t.val + 4)).val, 0] := by
  revert c t; decide +kernel
theorem g9 (c : Dev nD) (t : Fin k0_t1_loop.trips) : k0_off9 (pw c) t = ![256 * (blk true c (2 * t.val + 4)).val, 0] := by
  revert c t; decide +kernel
theorem g17 (c : Dev nD) (t : Fin k0_t2_loop.trips) : k0_off17 (pw c) t = tOff false false (blk false c (2 * t.val + 33)) := by
  revert c t; decide +kernel
theorem g19 (c : Dev nD) (t : Fin k0_t2_loop.trips) : k0_off19 (pw c) t = tOff true false (blk true c (2 * t.val + 33)) := by
  revert c t; decide +kernel
theorem g21 (c : Dev nD) (t : Fin k0_t2_loop.trips) : k0_off21 (pw c) t = tOff false true (blk false c (2 * t.val + 33)) := by
  revert c t; decide +kernel
theorem g23 (c : Dev nD) (t : Fin k0_t2_loop.trips) : k0_off23 (pw c) t = tOff true true (blk true c (2 * t.val + 33)) := by
  revert c t; decide +kernel
theorem g24 (c : Dev nD) (t : Fin k0_t2_loop.trips) : k0_off24 (pw c) t = tOff false false (blk false c (2 * t.val + 34)) := by
  revert c t; decide +kernel
theorem g25 (c : Dev nD) (t : Fin k0_t2_loop.trips) : k0_off25 (pw c) t = tOff true false (blk true c (2 * t.val + 34)) := by
  revert c t; decide +kernel
theorem g26 (c : Dev nD) (t : Fin k0_t2_loop.trips) : k0_off26 (pw c) t = tOff false true (blk false c (2 * t.val + 34)) := by
  revert c t; decide +kernel
theorem g27 (c : Dev nD) (t : Fin k0_t2_loop.trips) : k0_off27 (pw c) t = tOff true true (blk true c (2 * t.val + 34)) := by
  revert c t; decide +kernel

theorem geo (c : Dev nD) : Geo c (pw c) where
  o1 := by revert c; decide +kernel
  o2 := by revert c; decide +kernel
  o3 := by revert c; decide +kernel
  o4 := by revert c; decide +kernel
  o5 := by revert c; decide +kernel
  o4' := by revert c; decide +kernel
  o5' := by revert c; decide +kernel
  o6 := g6 c
  o7 := g7 c
  o8 := g8 c
  o9 := g9 c
  o10 := by revert c; decide +kernel
  o11 := by revert c; decide +kernel
  o12 := by revert c; decide +kernel
  o13 := by revert c; decide +kernel
  o14 := by revert c; decide +kernel
  o15 := by revert c; decide +kernel
  o17 := g17 c
  o19 := g19 c
  o21 := g21 c
  o23 := g23 c
  o24 := g24 c
  o25 := g25 c
  o26 := g26 c
  o27 := g27 c

theorem chk3 (c : Dev nD) : k0_chk3 (pw c) := by revert c; decide +kernel
theorem chk1 (c : Dev nD) : k0_chk1 (lw c) := by revert c; decide +kernel
theorem chk2 (c : Dev nD) : k0_chk2 (rw' c) := by revert c; decide +kernel
theorem lft_eq (c : Dev nD) : lft (lw c) (chk1 c) = nxt true c := by
  apply Fin.ext; show k0_dev1 (lw c) = _; revert c; decide +kernel
theorem rgt_eq (c : Dev nD) : rgt (rw' c) (chk2 c) = nxt false c := by
  apply Fin.ext; show k0_dev2 (rw' c) = _; revert c; decide +kernel

end Cert.KernelIdeal.AR
-- ==== Proof.Mem.lean ====
/- The buffers in pieces: the result in tiles, the receiving buffers in slots. -/
module

public import proofs.«01_k».proof.Proof.Geo

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

/-! ## Big separating conjunctions over small index sets -/

theorem bigSep_bool' (Φ : Bool → sProp 𝕄) : bigSep Finset.univ Φ = iprop(Φ false ∗ Φ true) := by
  rw [show (Finset.univ : Finset Bool) = insert false {true} by decide, bigSep_insert' (by decide), BI.bigSep_singleton]
/-- Thirty-two places from the thirty-first on. -/
theorem bigSep_ico32 (Φ : ℕ → sProp 𝕄) : bigSep (Finset.Ico 31 63) Φ = bigSep Finset.univ (fun n : Fin 32 => Φ (31 + n.val)) := by
  rw [show Finset.Ico 31 63 = (Finset.univ : Finset (Fin 32)).map ⟨fun n => 31 + n.val, fun a b h => Fin.ext (Nat.add_left_cancel h)⟩ by decide, BI.bigSep_map]
  rfl
theorem bigSep_first (Φ : ℕ → sProp 𝕄) : bigSep (Finset.Ico 31 63) Φ = iprop(Φ 31 ∗ bigSep (Finset.Ico 31 62) (fun s => Φ (s + 1))) := by
  rw [show Finset.Ico 31 63 = insert 31 ((Finset.Ico 31 62).map ⟨fun n => n + 1, fun a b h => Nat.add_right_cancel h⟩) by decide,
    bigSep_insert' (by decide), BI.bigSep_map]
  rfl
theorem bigSep_ends (Φ : ℕ → sProp 𝕄) : bigSep (Finset.Ico 31 63) Φ = iprop(Φ 31 ∗ Φ 62 ∗ bigSep (Finset.Ico 32 62) Φ) := by
  rw [show Finset.Ico 31 63 = insert 31 (insert 62 (Finset.Ico 32 62)) by decide, bigSep_insert' (by decide), bigSep_insert' (by decide)]
theorem bigSep_head (Φ : ℕ → sProp 𝕄) : bigSep (Finset.Ico 31 62) Φ = iprop(Φ 31 ∗ bigSep (Finset.Ico 32 62) Φ) := by
  rw [show Finset.Ico 31 62 = insert 31 (Finset.Ico 32 62) by decide, bigSep_insert' (by decide)]

/-! ## The tiles of the result -/

/-- When a device holds a row block last. -/
def ixOf (d : Bool) (c : Dev nD) (b : Fin 32) : ℕ := 31 + ((if d then b - posL c else posL c - b) + 1 : Fin 32).val
theorem ixOf_blk (d : Bool) (c : Dev nD) (n : Fin 32) : ixOf d c (blk d c (31 + n.val)) = 31 + n.val := by
  revert d c n; decide +kernel
theorem blk_ixOf (d : Bool) (c : Dev nD) (b : Fin 32) : blk d c (ixOf d c b) = b := by
  revert d c b; decide +kernel
theorem ixOf_ge (d : Bool) (c : Dev nD) (b : Fin 32) : 31 ≤ ixOf d c b := Nat.le_add_right _ _
theorem ixOf_lt (d : Bool) (c : Dev nD) (b : Fin 32) : ixOf d c b < 63 := by unfold ixOf; omega
/-- The row blocks in the order a device comes by them. -/
def blkE (d : Bool) (c : Dev nD) : Fin 32 ≃ Fin 32 where
  toFun n := blk d c (31 + n.val)
  invFun b := ⟨ixOf d c b - 31, by have := ixOf_lt d c b; omega⟩
  left_inv n := by apply Fin.ext; show ixOf d c (blk d c (31 + n.val)) - 31 = n.val; rw [ixOf_blk]; omega
  right_inv b := by
    show blk d c (31 + (ixOf d c b - 31)) = b
    rw [Nat.add_sub_cancel' (ixOf_ge d c b), blk_ixOf]

/-- The tiles' names. -/
abbrev TIx : Type := Bool × Bool × Fin 32
abbrev tset (t : TIx) : Finset S8192x4096.Idx := (tile t.1 t.2.1 t.2.2).view.set
theorem tile_mem (d u : Bool) (b : Fin 32) (i : S8192x4096.Idx) :
    i ∈ tset (d, u, b) ↔ (256 * b.val ≤ (i 0).val ∧ (i 0).val < 256 * b.val + 256) ∧ (base d + col u ≤ (i 1).val ∧ (i 1).val < base d + col u + 1024) := by
  have h : i ∈ tset (d, u, b) ↔ i ∈ (Rect.unit (s := S8192x4096) (tOff d u b) S256x1024.size (tOff_inb d u b)).set := by
    show i ∈ (tile d u b).view.set ↔ _
    rw [show (tile d u b).view.set = _ from View.set_slice _ _]
    exact Finset.mem_map' (Memref.whole main_v28 : Memref sig .tc .hbm S8192x4096 .f32).view.emb (a := i)
  rw [h, Rect.mem_set_unit]
  constructor
  · intro h; exact ⟨h 0, h 1⟩
  · intro h a
    fin_cases a
    · exact h.1
    · exact h.2
theorem tset_disj : ∀ t ∈ (Finset.univ : Finset TIx), ∀ t' ∈ (Finset.univ : Finset TIx), t ≠ t' → Disjoint (tset t) (tset t') := by
  rintro ⟨d, u, b⟩ - ⟨d', u', b'⟩ - hne
  refine Finset.disjoint_left.mpr fun i h1 h2 => hne ?_
  rw [tile_mem] at h1 h2
  have hb : b = b' := Fin.ext (by omega)
  subst hb
  cases d <;> cases d' <;> cases u <;> cases u' <;> first | rfl | (exfalso; simp only [base, col] at h1 h2; omega)
/-- The tile an element lies in. -/
def tAt (i : S8192x4096.Idx) : TIx :=
  (decide (2048 ≤ (i 1).val), decide (1024 ≤ (i 1).val % 2048), ⟨(i 0).val / 256, by have := (i 0).isLt; have : S8192x4096.size 0 = 8192 := rfl; omega⟩)
theorem mem_tset (i : S8192x4096.Idx) : i ∈ tset (tAt i) := by
  have h1 : (i 1).val < 4096 := (i 1).isLt
  unfold tAt
  rw [tile_mem]
  refine ⟨⟨?_, ?_⟩, ?_⟩
  · show 256 * ((i 0).val / 256) ≤ _; omega
  · show _ < 256 * ((i 0).val / 256) + 256; omega
  by_cases ha : 2048 ≤ (i 1).val <;> by_cases hb : 1024 ≤ (i 1).val % 2048 <;> simp only [ha, hb, decide_true, decide_false]
  · show 2048 + 1024 ≤ _ ∧ _ < 2048 + 1024 + 1024; omega
  · show 2048 + 0 ≤ _ ∧ _ < 2048 + 0 + 1024; omega
  · show 0 + 1024 ≤ _ ∧ _ < 0 + 1024 + 1024; omega
  · show 0 + 0 ≤ _ ∧ _ < 0 + 0 + 1024; omega
theorem tset_union : (Finset.univ : Finset TIx).biUnion tset = Finset.univ := by
  ext i
  simp only [Finset.mem_biUnion, Finset.mem_univ, true_and, iff_true]
  exact ⟨tAt i, mem_tset i⟩
theorem tAt_of_mem {t : TIx} {i : S8192x4096.Idx} (h : i ∈ tset t) : tAt i = t := by
  by_contra hne
  exact Finset.disjoint_left.mp (tset_disj _ (Finset.mem_univ _) _ (Finset.mem_univ _) hne) (mem_tset i) h

abbrev outL (c : Dev nD) : Loc nD τ sig := (c : Thread nD τ).loc main_v28

theorem out_tiles (c : Dev nD) (f : Buf (Elt F) (outL c)) :
    ((outL c) ↦{fullShare} f : sProp 𝕄) = bigSep Finset.univ fun t : TIx => ((outL c) ↦[tset t]{fullShare} f) := by
  rw [← pointsTo_biUnion (ℓ := outL c) (q := fullShare) (f := f) Finset.univ tset tset_disj, tset_union]

/-- Every tile, by direction and by the order a device comes by its row block. -/
theorem tiles_order (c : Dev nD) (Φ : TIx → sProp 𝕄) :
    bigSep Finset.univ Φ = iprop(bigSep (Finset.Ico 31 63) (fun n => iprop(Φ (false, false, blk false c n) ∗ Φ (false, true, blk false c n)))
      ∗ bigSep (Finset.Ico 31 63) (fun n => iprop(Φ (true, false, blk true c n) ∗ Φ (true, true, blk true c n)))) := by
  have h (d : Bool) : bigSep Finset.univ (fun x : Bool × Fin 32 => Φ (d, x))
      = bigSep (Finset.Ico 31 63) (fun n => iprop(Φ (d, false, blk d c n) ∗ Φ (d, true, blk d c n))) := by
    rw [bigSep_univ_prod, bigSep_bool', bigSep_ico32, bigSep_sep']
    rw [bigSep_univ_equiv (blkE d c) (fun b => Φ (d, false, b)), bigSep_univ_equiv (blkE d c) (fun b => Φ (d, true, b))]
    rfl
  rw [bigSep_univ_prod, bigSep_bool', h, h]

theorem piece_own {sp : Space} {s : Shape} (c : Dev nD) (M : Memref sig .tc sp s .f32) (f : Buf (Elt F) (M.view.loc (c : Thread nD τ))) :
    (M.view.loc (c : Thread nD τ) ↦[M.view.set]{fullShare} f : sProp 𝕄) ⊢ ownA (F := F) c M fullShare := by
  unfold ownA
  iintro H
  iexists f
  iexact H
/-- The result's buffer in the pieces a direction starts from. -/
theorem out_split (c : Dev nD) :
    (iprop(∃ f, (outL c) ↦{fullShare} f) : sProp 𝕄)
      ⊢ iprop((ownA (F := F) c (wtile false (blk false c 31)) fullShare ∗ bigSep (Finset.Ico 31 62) (dst (F := F) false c))
        ∗ (ownA (F := F) c (wtile true (blk true c 31)) fullShare ∗ bigSep (Finset.Ico 31 62) (dst (F := F) true c))) := by
  have hw (d : Bool) : iprop(ownA (F := F) c (tile d false (blk d c 31)) fullShare ∗ ownA (F := F) c (tile d true (blk d c 31)) fullShare)
      ⊢ ownA (F := F) c (wtile d (blk d c 31)) fullShare := by
    iintro ⟨H1, H2⟩
    ihave H1 := ownA_ex c _ fullShare $$ H1
    ihave H2 := ownA_ex c _ fullShare $$ H2
    icases H1 with ⟨%v1, H1⟩
    icases H2 with ⟨%v2, H2⟩
    ihave H1 := tile_wtile c d false _ fullShare v1 $$ H1
    ihave H2 := tile_wtile c d true _ fullShare v2 $$ H2
    iapply ownA_join
    isplitl [H1]
    · iapply own_weaken; iexact H1
    · iapply own_weaken; iexact H2
  have hd (d : Bool) : bigSep (Finset.Ico 31 63) (fun n => iprop(ownA (F := F) c (tile d false (blk d c n)) fullShare ∗ ownA (F := F) c (tile d true (blk d c n)) fullShare))
      ⊢ iprop(ownA (F := F) c (wtile d (blk d c 31)) fullShare ∗ bigSep (Finset.Ico 31 62) (dst (F := F) d c)) := by
    rw [bigSep_first]
    exact Laws.sep_mono (hw d) (BI.Entails.refl _)
  have ht (f : Buf (Elt F) (outL c)) : bigSep Finset.univ (fun t : TIx => ((outL c) ↦[tset t]{fullShare} f : sProp 𝕄))
      ⊢ bigSep Finset.univ (fun t : TIx => ownA (F := F) c (tile t.1 t.2.1 t.2.2) fullShare) := by
    exact BI.bigSep_mono fun t _ => (piece_own c (tile t.1 t.2.1 t.2.2) f)
  iintro ⟨%f, H⟩
  ihave H := (Entails.of_eq (out_tiles c f)) $$ H
  ihave H := ht f $$ H
  ihave H := (Entails.of_eq (tiles_order c _)) $$ H
  icases H with ⟨H1, H2⟩
  isplitl [H1]
  · iapply hd false; iexact H1
  · iapply hd true; iexact H2

/-! ## The result whole -/

/-- Where an element lies in its tile. -/
def tLoc (i : S8192x4096.Idx) : S256x1024.Idx := fun a => ⟨(i a).val % S256x1024.size a, Nat.mod_lt _ (by fin_cases a <;> decide)⟩
/-- What the result's buffer holds at the end. -/
def res (X : XT F) (Wt : WT F) (c : Dev nD) : Buf (Elt F) (outL c) := fun i : S8192x4096.Idx =>
  sv X Wt (tAt i).1 (tAt i).2.1 (ixOf (tAt i).1 c (tAt i).2.2) c (tLoc i)

theorem tLoc_emb (d u : Bool) (b : Fin 32) (j : S256x1024.Idx) : tLoc ((tile d u b).view.emb j) = j := by
  have h0 : (((tile d u b).view.emb j) 0).val = 256 * b.val + 1 * (j 0).val := rfl
  have h1 : (((tile d u b).view.emb j) 1).val = base d + col u + 1 * (j 1).val := rfl
  have b0 : (j 0).val < 256 := (j 0).isLt
  have b1 : (j 1).val < 1024 := (j 1).isLt
  funext a
  apply Fin.ext
  fin_cases a
  · show (((tile d u b).view.emb j) 0).val % 256 = (j 0).val
    rw [h0]; omega
  · show (((tile d u b).view.emb j) 1).val % 1024 = (j 1).val
    rw [h1]; cases d <;> cases u <;> simp only [base, col] <;> omega

theorem tile_res (X : XT F) (Wt : WT F) (c : Dev nD) (d u : Bool) (n : ℕ) (h1 : 31 ≤ n) (h2 : n < 63) :
    own c (tile d u (blk d c n)) fullShare (sv X Wt d u n c) ⊢ ((outL c) ↦[tset (d, u, blk d c n)]{fullShare} (res X Wt c) : sProp 𝕄) := by
  unfold own
  iintro ⟨%f, H, %hf⟩
  iapply (Entails.of_eq (pointsTo_congr (ℓ := outL c) (q := fullShare) (I := tset (d, u, blk d c n)) (f := f) (g := res X Wt c) ?_)) $$ H
  intro i hi
  obtain ⟨j, -, rfl⟩ := Finset.mem_map.mp hi
  have e := congrFun hf j
  refine Eq.trans (show f ((tile d u (blk d c n)).view.emb j) = sv X Wt d u n c j from e) ?_
  unfold res
  rw [tAt_of_mem hi, tLoc_emb]
  show _ = sv X Wt d u (ixOf d c (blk d c n)) c j
  have hn : ixOf d c (blk d c n) = n := by
    have := ixOf_blk d c ⟨n - 31, by omega⟩
    rw [show 31 + (n - 31) = n by omega] at this
    exact this
  rw [hn]

/-- The tiles at the end, and the result whole. -/
theorem out_join (X : XT F) (Wt : WT F) (c : Dev nD) :
    iprop(bigSep (Finset.Ico 31 63) (fun n => iprop(own c (tile false false (blk false c n)) fullShare (sv X Wt false false n c) ∗ own c (tile false true (blk false c n)) fullShare (sv X Wt false true n c)))
      ∗ bigSep (Finset.Ico 31 63) (fun n => iprop(own c (tile true false (blk true c n)) fullShare (sv X Wt true false n c) ∗ own c (tile true true (blk true c n)) fullShare (sv X Wt true true n c))))
      ⊢ ((outL c) ↦{fullShare} (res X Wt c) : sProp 𝕄) := by
  rw [out_tiles, tiles_order c]
  refine Laws.sep_mono (BI.bigSep_mono fun n hn => ?_) (BI.bigSep_mono fun n hn => ?_)
  all_goals
    rw [Finset.mem_Ico] at hn
    exact Laws.sep_mono (tile_res X Wt c _ _ n hn.1 hn.2) (tile_res X Wt c _ _ n hn.1 hn.2)

/-! ## The receiving buffers in slots -/

abbrev cset (d : Bool) (x : Bool × Bool) : Finset S2x256x2048.Idx := (slotR x.1 x.2).set
theorem cset_mem (d σ u : Bool) (i : S2x256x2048.Idx) : i ∈ cset d (σ, u) ↔ (i 0).val = sl σ ∧ col u ≤ (i 2).val ∧ (i 2).val < col u + 1024 := by
  show i ∈ (slotR σ u).set ↔ _
  rw [Rect.mem_set_unit]
  constructor
  · intro h
    have h0 : sl σ ≤ (i 0).val ∧ (i 0).val < sl σ + 1 := h 0
    exact ⟨by omega, h 2⟩
  · intro h a
    fin_cases a
    · show sl σ ≤ (i 0).val ∧ (i 0).val < sl σ + 1; omega
    · exact ⟨Nat.zero_le _, lt_of_lt_of_eq (i 1).isLt (Nat.zero_add _).symm⟩
    · exact h.2
theorem cset_disj (d : Bool) : ∀ t ∈ (Finset.univ : Finset (Bool × Bool)), ∀ t' ∈ (Finset.univ : Finset (Bool × Bool)), t ≠ t' → Disjoint (cset d t) (cset d t') := by
  rintro ⟨σ, u⟩ - ⟨σ', u'⟩ - hne
  refine Finset.disjoint_left.mpr fun i h1 h2 => hne ?_
  rw [cset_mem] at h1 h2
  cases σ <;> cases σ' <;> cases u <;> cases u' <;> first | rfl | (exfalso; simp only [sl, col] at h1 h2; omega)
theorem cset_union (d : Bool) : (Finset.univ : Finset (Bool × Bool)).biUnion (cset d) = Finset.univ := by
  ext i
  simp only [Finset.mem_biUnion, Finset.mem_univ, true_and, iff_true]
  have h0 : (i 0).val < 2 := (i 0).isLt
  have h2 : (i 2).val < 2048 := (i 2).isLt
  rcases Nat.lt_or_ge (i 0).val 1 with ha | ha <;> rcases Nat.lt_or_ge (i 2).val 1024 with hb | hb
  · exact ⟨(false, false), (cset_mem d _ _ i).mpr ⟨by show _ = 0; omega, by show 0 ≤ _; omega, by show _ < 0 + 1024; omega⟩⟩
  · exact ⟨(false, true), (cset_mem d _ _ i).mpr ⟨by show _ = 0; omega, by show 1024 ≤ _; omega, by show _ < 1024 + 1024; omega⟩⟩
  · exact ⟨(true, false), (cset_mem d _ _ i).mpr ⟨by show _ = 1; omega, by show 0 ≤ _; omega, by show _ < 0 + 1024; omega⟩⟩
  · exact ⟨(true, true), (cset_mem d _ _ i).mpr ⟨by show _ = 1; omega, by show 1024 ≤ _; omega, by show _ < 1024 + 1024; omega⟩⟩

theorem comm_set (d σ u : Bool) : (commM d σ u).view.set = (slotR σ u).set.map (comm d).view.emb :=
  (View.set_reshape (v := (comm d).access (slotR σ u)) (squeezes_S1x256x1024_S256x1024).numel_eq).trans (View.set_slice _ _)

abbrev commL (c : Dev nD) (d : Bool) : Loc nD τ sig := (comm d).view.loc (c : Thread nD τ)

theorem comm_union (d : Bool) : (Finset.univ : Finset (Bool × Bool)).biUnion (fun x => (commM d x.1 x.2).view.set) = (comm d).view.set := by
  have e : (fun x : Bool × Bool => (commM d x.1 x.2).view.set) = fun x => (cset d x).map (comm d).view.emb := funext fun x => comm_set d x.1 x.2
  rw [e]
  ext i
  simp only [Finset.mem_biUnion, Finset.mem_univ, true_and]
  constructor
  · rintro ⟨x, hx⟩
    obtain ⟨j, -, rfl⟩ := Finset.mem_map.mp hx
    exact Finset.mem_map_of_mem _ (Finset.mem_univ j)
  · intro h
    obtain ⟨j, -, rfl⟩ := Finset.mem_map.mp h
    obtain ⟨x, -, hx⟩ := Finset.mem_biUnion.mp ((cset_union d).symm ▸ Finset.mem_univ j)
    exact ⟨x, Finset.mem_map_of_mem _ hx⟩
theorem comm_disj (d : Bool) : ∀ t ∈ (Finset.univ : Finset (Bool × Bool)), ∀ t' ∈ (Finset.univ : Finset (Bool × Bool)), t ≠ t' → Disjoint ((commM d t.1 t.2).view.set) ((commM d t'.1 t'.2).view.set) := by
  intro t ht t' ht' hne
  rw [comm_set, comm_set]
  exact (Finset.disjoint_map _).mpr (cset_disj d t ht t' ht' hne)
theorem comm_pieces (c : Dev nD) (d : Bool) (f : Buf (Elt F) (commL c d)) :
    ((commL c d) ↦[(comm d).view.set]{fullShare} f : sProp 𝕄) = bigSep Finset.univ fun x : Bool × Bool => ((commL c d) ↦[(commM d x.1 x.2).view.set]{fullShare} f) :=
  (congrArg (fun S => ((commL c d) ↦[S]{fullShare} f : sProp 𝕄)) (comm_union d).symm).trans
    (pointsTo_biUnion (ℓ := commL c d) (q := fullShare) (f := f) Finset.univ (fun x : Bool × Bool => (commM d x.1 x.2).view.set) (comm_disj d))

theorem comm_split' (c : Dev nD) (d : Bool) :
    ownA (F := F) c (comm d) fullShare ⊢ bigSep Finset.univ (fun x : Bool × Bool => ownA (F := F) c (commM d x.1 x.2) fullShare) := by
  have h (f : Buf (Elt F) (commL c d)) : bigSep Finset.univ (fun x : Bool × Bool => ((commL c d) ↦[(commM d x.1 x.2).view.set]{fullShare} f : sProp 𝕄))
      ⊢ bigSep Finset.univ (fun x : Bool × Bool => ownA (F := F) c (commM d x.1 x.2) fullShare) :=
    BI.bigSep_mono fun x _ => piece_own c (commM d x.1 x.2) f
  unfold ownA at *
  iintro ⟨%f, H⟩
  ihave H := (Entails.of_eq (comm_pieces c d f)) $$ H
  iapply h f; iexact H
theorem comm_split (c : Dev nD) (d : Bool) :
    ownA (F := F) c (comm d) fullShare ⊢ iprop(slotP (F := F) (c, d, false) ∗ slotP (F := F) (c, d, true)) := by
  unfold slotP
  iintro H
  ihave H := (comm_split' c d) $$ H
  ihave H := (Entails.of_eq ((bigSep_univ_prod (fun x : Bool × Bool => ownA (F := F) c (commM d x.1 x.2) fullShare)).trans
    ((bigSep_bool' _).trans (congrArg₂ _ (bigSep_bool' _) (bigSep_bool' _))))) $$ H
  iexact H

theorem comm_join (c : Dev nD) (d : Bool) :
    iprop(slotP (F := F) (c, d, false) ∗ slotP (F := F) (c, d, true)) ⊢ ownA (F := F) c (comm d) fullShare := by
  unfold slotP ownA
  iintro ⟨⟨⟨%f1, H1⟩, ⟨%f2, H2⟩⟩, ⟨%f3, H3⟩, ⟨%f4, H4⟩⟩
  let fs : Bool × Bool → Buf (Elt F) (commL c d) := fun x => if x.1 then (if x.2 then f4 else f3) else (if x.2 then f2 else f1)
  ihave H := (Entails.of_eq ((bigSep_univ_prod (fun x : Bool × Bool => ((commL c d) ↦[(commM d x.1 x.2).view.set]{fullShare} fs x : sProp 𝕄))).trans
    ((bigSep_bool' _).trans (congrArg₂ _ (bigSep_bool' _) (bigSep_bool' _)))).symm) $$ [H1 H2 H3 H4]
  · isplitl [H1 H2]
    · isplitl [H1]; · iexact H1
      iexact H2
    · isplitl [H3]; · iexact H3
      iexact H4
  ihave H := (pointsTo_biUnion_join (ℓ := commL c d) (q := fullShare) Finset.univ (fun x : Bool × Bool => (commM d x.1 x.2).view.set) fs f1 (comm_disj d)) $$ H
  icases H with ⟨%g, -, H⟩
  iexists g
  iapply (Entails.of_eq (congrArg (fun S => ((commL c d) ↦[S]{fullShare} g : sProp 𝕄)) (comm_union d)))
  iexact H

/-! ## The scratch buffers -/

/-- The scratch buffers, each whole at something. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

theorem ownA_full {sp : Space} {s : Shape} (c : Dev nD) (M : Memref sig .tc sp s .f32) (h : M.view.set = Finset.univ) :
    ownA (F := F) c M fullShare = iprop(∃ f : Buf (Elt F) (M.view.loc (c : Thread nD τ)), (M.view.loc (c : Thread nD τ)) ↦{fullShare} f) := by
  unfold ownA; rw [h]
theorem acc_full (d : Bool) : (acc d).view.set = Finset.univ := by cases d <;> exact View.set_whole _
theorem tmp_full (d : Bool) : (tmp d).view.set = Finset.univ := by cases d <;> exact View.set_whole _
theorem comm_full (d : Bool) : (comm d).view.set = Finset.univ := by cases d <;> exact View.set_whole _

theorem scratch_eq (c : Dev nD) : scratch (F := F) c = iprop(ownA (F := F) c (acc false) fullShare ∗ ownA (F := F) c (acc true) fullShare
    ∗ ownA (F := F) c (tmp false) fullShare ∗ ownA (F := F) c (tmp true) fullShare ∗ ownA (F := F) c (comm false) fullShare ∗ ownA (F := F) c (comm true) fullShare) := by
  rw [ownA_full c (acc false) (acc_full _), ownA_full c (acc true) (acc_full _), ownA_full c (tmp false) (tmp_full _), ownA_full c (tmp true) (tmp_full _),
    ownA_full c (comm false) (comm_full _), ownA_full c (comm true) (comm_full _)]
  rfl
end Cert.KernelIdeal.AR
-- ==== Proof.Enter.lean ====
/- Opening the cells of a device at the start, and closing them at the end. -/
module

public import proofs.«01_k».proof.Proof.Mem

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

section
variable (X : XT F) (Wt : WT F) (K : GSem nD τ sig → ℕ) (Kι : RKey → ℕ) (c : Dev nD)

/-! ## The cells one by one -/

theorem bigSep_fupd' {I : Type} [DecidableEq I] (P : sProp 𝕄) [BI.Persistent P] (S : Finset I) (Φ Ψ : I → sProp 𝕄)
    (h : ∀ i ∈ S, iprop(P ∗ Φ i) ⊢ iprop(|={Set.univ}=> Ψ i)) : iprop(P ∗ bigSep S Φ) ⊢ iprop(|={Set.univ}=> bigSep S Ψ) := by
  induction S using Finset.induction_on with
  | empty => rw [BI.bigSep_empty, BI.bigSep_empty]; iintro ⟨-, H⟩; imodintro; iexact H
  | insert i S hi ih =>
    have h1 := h i (Finset.mem_insert_self _ _)
    have h2 := ih (fun j hj => h j (Finset.mem_insert_of_mem hj))
    rw [bigSep_insert' hi, bigSep_insert' hi]
    iintro ⟨#HP, H1, H2⟩
    imod h1 $$ [H1] with H1
    · isplitr; · iexact HP
      iexact H1
    imod h2 $$ [H2] with H2
    · isplitr; · iexact HP
      iexact H2
    imodintro
    isplitl [H1]; · iexact H1
    iexact H2

theorem fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide]
  rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]; rw [bigSep_insert' (by decide)]
  rw [BI.bigSep_singleton]
theorem own20 (Ψ : GSem nD τ sig → sProp 𝕄) : bigSep Finset.univ (fun i : Fin 20 => Ψ (oC (c, i)))
    = iprop(Ψ (sC c false false false) ∗ Ψ (sC c false false true) ∗ Ψ (sC c false true false) ∗ Ψ (sC c false true true) ∗ Ψ (rC c false false false) ∗ Ψ (rC c false false true) ∗ Ψ (rC c false true false) ∗ Ψ (rC c false true true) ∗ Ψ (sC c true false false) ∗ Ψ (sC c true false true) ∗ Ψ (sC c true true false) ∗ Ψ (sC c true true true) ∗ Ψ (rC c true false false) ∗ Ψ (rC c true false true) ∗ Ψ (rC c true true false) ∗ Ψ (rC c true true true) ∗ Ψ (tC c false) ∗ Ψ (tC c true) ∗ Ψ (aC c false) ∗ Ψ (aC c true)) := by
  rw [fin20]
  show iprop(Ψ ((c : Thread nD τ), osem 0) ∗ Ψ ((c : Thread nD τ), osem 1) ∗ Ψ ((c : Thread nD τ), osem 2) ∗ Ψ ((c : Thread nD τ), osem 3) ∗ Ψ ((c : Thread nD τ), osem 4) ∗ Ψ ((c : Thread nD τ), osem 5) ∗ Ψ ((c : Thread nD τ), osem 6) ∗ Ψ ((c : Thread nD τ), osem 7) ∗ Ψ ((c : Thread nD τ), osem 8) ∗ Ψ ((c : Thread nD τ), osem 9) ∗ Ψ ((c : Thread nD τ), osem 10) ∗ Ψ ((c : Thread nD τ), osem 11) ∗ Ψ ((c : Thread nD τ), osem 12) ∗ Ψ ((c : Thread nD τ), osem 13) ∗ Ψ ((c : Thread nD τ), osem 14) ∗ Ψ ((c : Thread nD τ), osem 15) ∗ Ψ ((c : Thread nD τ), osem 16) ∗ Ψ ((c : Thread nD τ), osem 17) ∗ Ψ ((c : Thread nD τ), osem 18) ∗ Ψ ((c : Thread nD τ), osem 19)) = _
  rw [show osem 0 = .dma (sS false false false) from by decide, show osem 1 = .dma (sS false false true) from by decide, show osem 2 = .dma (sS false true false) from by decide, show osem 3 = .dma (sS false true true) from by decide, show osem 4 = .dma (rS false false false) from by decide, show osem 5 = .dma (rS false false true) from by decide, show osem 6 = .dma (rS false true false) from by decide, show osem 7 = .dma (rS false true true) from by decide, show osem 8 = .dma (sS true false false) from by decide, show osem 9 = .dma (sS true false true) from by decide, show osem 10 = .dma (sS true true false) from by decide, show osem 11 = .dma (sS true true true) from by decide, show osem 12 = .dma (rS true false false) from by decide, show osem 13 = .dma (rS true false true) from by decide, show osem 14 = .dma (rS true true false) from by decide, show osem 15 = .dma (rS true true true) from by decide, show osem 16 = .dma (stS false) from by decide, show osem 17 = .dma (stS true) from by decide, show osem 18 = .reg (aS false) from by decide, show osem 19 = .reg (aS true) from by decide]

theorem oC_mem (i : Fin 20) : oC (c, i) ∈ cells := own_mem c i _ rfl

/-- The device's own cells, opened: at their first round. -/
def ats : sProp 𝕄 := bigSep Finset.univ (fun i : Fin 20 => iprop(atPos ER (oC (c, i)) 0 ∅ 0 ∗ reached ER (oC (c, i)) 0))
theorem open_all : iprop(env X Wt K Kι ∗ bigSep Finset.univ (fun i : Fin 20 => iprop(openTok ER (oC (c, i)) ∗ semVal (oC (c, i)) 0))) ⊢ iprop(|={Set.univ}=> ats (F := F) c) := by
  unfold ats
  refine bigSep_fupd' (env X Wt K Kι) Finset.univ _ _ fun i _ => ?_
  iintro ⟨#HE, Ho, Hs⟩
  ihave Hc := env_cell X Wt K Kι (oC_mem c i) $$ HE
  iapply (cell_open ER (Rd X Wt) (Set.mem_univ (K (oC (c, i)))))
  iframe Hc Ho
  iexact Hs

theorem close1 {g : GSem nD τ sig} (hg : g ∈ cells) (R : ℕ) (hR : ∀ r, R ≤ r → (Rd X Wt).duties g r = ∅) :
    iprop(env X Wt K Kι ∗ atPos ER g R ∅ 0) ⊢ iprop(|={Set.univ}=> semVal g 0) := by
  iintro ⟨#HE, H⟩
  ihave Hc := env_cell X Wt K Kι hg $$ HE
  iapply (cell_close ER (Rd X Wt) (Set.mem_univ (K g)) id hR)
  iframe Hc
  iexact H

theorem no_send (d σ u : Bool) : ∀ r, 31 ≤ r → (Rd X Wt).duties (sC c d σ u) r = ∅ := fun r h => by
  rw [duties_tc, knd_send]; exact if_neg (by omega)
theorem no_recv (d σ u : Bool) : ∀ r, 31 ≤ r → (Rd X Wt).duties (rC c d σ u) r = ∅ := fun r h => by
  rw [duties_tc, knd_recv]; exact if_neg (by omega)
theorem no_store (d : Bool) : ∀ r, 1 ≤ r → (Rd X Wt).duties (tC c d) r = ∅ := fun r h => by
  rw [duties_tc, knd_store]; exact if_neg (by omega)
theorem no_ack (d : Bool) : ∀ r, 1 ≤ r → (Rd X Wt).duties (aC c d) r = ∅ := fun r h => by
  rw [duties_tc, knd_ack]; exact if_neg (by omega)
theorem no_bar : ∀ r, 1 ≤ r → (Rd X Wt).duties (bC c) r = ∅ := fun r h => by
  rw [duties_tc, knd_bar]; exact if_neg (by omega)

theorem close_posn (d u : Bool) : iprop(env X Wt K Kι ∗ posn (F := F) c d u 62)
    ⊢ iprop(|={Set.univ}=> (semVal (sC c d false u) 0 ∗ semVal (rC c d false u) 0 ∗ semVal (sC c d true u) 0 ∗ semVal (rC c d true u) 0)) := by
  unfold posn at4
  iintro ⟨#HE, ⟨H1, -, H2, -⟩, H3, -, H4, -⟩
  imod close1 X Wt K Kι (sC_mem c d false u) 31 (no_send X Wt c d false u) $$ [H1] with H1
  · isplitr; · iexact HE
    iexact H1
  imod close1 X Wt K Kι (rC_mem c d false u) 31 (no_recv X Wt c d false u) $$ [H2] with H2
  · isplitr; · iexact HE
    iexact H2
  imod close1 X Wt K Kι (sC_mem c d true u) 31 (no_send X Wt c d true u) $$ [H3] with H3
  · isplitr; · iexact HE
    iexact H3
  imod close1 X Wt K Kι (rC_mem c d true u) 31 (no_recv X Wt c d true u) $$ [H4] with H4
  · isplitr; · iexact HE
    iexact H4
  imodintro
  iframe H1 H2 H3
  iexact H4

/-! ## The start -/

/-- What a device's direction is dealt at the launch. -/
def tkD (d : Bool) : sProp 𝕄 :=
  iprop(tokS (F := F) c d false 0 ∗ tokS (F := F) c d true 0 ∗ writeTok ES (nxt d c, d, false) 1 ∗ it (F := F) c d 0
    ∗ reached ER (bC (nxt d c)) 0 ∗ dutyTok ER (bC (nxt d c)) 0 (sl (!d)) ∗ endB (F := F) c d ∗ dutyTok ER (tC c d) 0 0
    ∗ bigSep (Finset.Ico 1 61) (fun s => iprop(it (F := F) c d s ∗ cred (tallyAt (aC c d) (s - 1) 1)))
    ∗ readerAt ES (c, d, false) 0 ∗ readerAt ES (c, d, true) 0)
/-- And the device. -/
def tk : sProp 𝕄 := iprop(tkD (F := F) c false ∗ tkD (F := F) c true ∗ atPos ER (bC c) 0 ∅ 0 ∗ cred (tallyAt (bC c) 0 2))

theorem itR_mk : iprop(bigSep (Finset.Ico 1 61) (fun s => iprop(it (F := F) c false s ∗ cred (tallyAt (aC c false) (s - 1) 1)))
      ∗ bigSep (Finset.Ico 1 61) (fun s => iprop(it (F := F) c true s ∗ cred (tallyAt (aC c true) (s - 1) 1)))) ⊢ itR (F := F) c 1 := by
  unfold itR
  rw [← bigSep_sep']
  refine BI.bigSep_mono fun s hs => ?_
  have hs := (Finset.mem_Ico.mp hs).1
  unfold itB ackCr
  rw [if_neg (by omega), if_neg (by omega)]
  have h : iprop((it (F := F) c false s ∗ cred (tallyAt (aC c false) (s - 1) 1)) ∗ (it (F := F) c true s ∗ cred (tallyAt (aC c true) (s - 1) 1)))
      ⊢ iprop(it (F := F) c false s ∗ it (F := F) c true s ∗ cred (tallyAt (aC c false) (s - 1) 1) ∗ cred (tallyAt (aC c true) (s - 1) 1)) := by
    iintro ⟨⟨H1, H2⟩, H3, H4⟩
    iframe H1 H3 H2
    iexact H4
  exact h

theorem slots_mk (d : Bool) : iprop(env X Wt K Kι ∗ readerAt ES (c, d, false) 0 ∗ readerAt ES (c, d, true) 0 ∗ ownA (F := F) c (comm d) fullShare)
    ⊢ iprop(|={Set.univ}=> slots (F := F) c d 0) := by
  iintro ⟨#HE, H0, H1, Hm⟩
  ihave Hm := comm_split c d $$ Hm
  icases Hm with ⟨Hm0, Hm1⟩
  ihave Hi0 := env_slot X Wt K Kι (c, d, false) $$ HE
  ihave Hi1 := env_slot X Wt K Kι (c, d, true) $$ HE
  imod (Release.slot_release ES (Set.mem_univ (Kι (c, d, false))) (slotP_excl (c, d, false)) 0) $$ [Hi0 H0 Hm0] with ⟨H0, Hr0⟩
  · iframe Hi0 H0; iexact Hm0
  imod (Release.slot_release ES (Set.mem_univ (Kι (c, d, true))) (slotP_excl (c, d, true)) 0) $$ [Hi1 H1 Hm1] with ⟨H1, Hr1⟩
  · iframe Hi1 H1; iexact Hm1
  imodintro
  unfold slots
  rw [if_neg (by decide), if_neg (by decide)]
  isplitl [H0]; · iexact H0
  isplitl [H1]; · iexact H1
  isplitl [Hr0]; · iexact Hr0
  isplitl [Hr1]; · iexact Hr1
  isplitl []; · iempintro
  iempintro

theorem posn_zero (d u : Bool) : iprop((atPos ER (sC c d false u) 0 ∅ 0 ∗ reached ER (sC c d false u) 0) ∗ (atPos ER (rC c d false u) 0 ∅ 0 ∗ reached ER (rC c d false u) 0)
      ∗ (atPos ER (sC c d true u) 0 ∅ 0 ∗ reached ER (sC c d true u) 0) ∗ (atPos ER (rC c d true u) 0 ∅ 0 ∗ reached ER (rC c d true u) 0)) ⊢ posn (F := F) c d u 0 := by
  unfold posn at4
  iintro ⟨⟨H1, H2⟩, ⟨H3, H4⟩, ⟨H5, H6⟩, H7, H8⟩
  isplitl [H1 H2 H3 H4]
  · isplitl [H1]; · iexact H1
    isplitl [H2]; · iexact H2
    isplitl [H3]; · iexact H3
    iexact H4
  · isplitl [H5]; · iexact H5
    isplitl [H6]; · iexact H6
    isplitl [H7]; · iexact H7
    iexact H8

theorem ack_zero (d : Bool) : atPos ER (aC c d) 0 ∅ 0 ⊢ ackSt (F := F) c d 0 := by
  unfold ackSt
  iintro H
  iexists ∅
  isplitr; · ipureintro; exact ⟨Nat.zero_le _, Finset.empty_subset _⟩
  isplitl [H]; · iexact H
  rw [BI.bigSep_empty]
  iempintro

/-- Everything the body starts from. -/
def startAll : sProp 𝕄 :=
  iprop(inD (F := F) c false ∗ inD (F := F) c true ∗ stI (F := F) c false ∗ stI (F := F) c true ∗ endB (F := F) c false ∗ endB (F := F) c true ∗ itR (F := F) c 1
    ∗ atPos ER (bC c) 0 ∅ 0 ∗ cred (tallyAt (bC c) 0 2))

/-- The cells of a direction. -/
def atsD (d : Bool) : sProp 𝕄 :=
  iprop(posn (F := F) c d false 0 ∗ posn (F := F) c d true 0 ∗ (atPos ER (tC c d) 0 ∅ 0 ∗ reached ER (tC c d) 0) ∗ atPos ER (aC c d) 0 ∅ 0 ∗ reached ER (aC c d) 0)
theorem ats_split : ats (F := F) c ⊢ iprop(atsD (F := F) c false ∗ atsD (F := F) c true) := by
  unfold ats atsD
  iintro H
  ihave H := (Entails.of_eq (own20 c (fun g => iprop(atPos ER g 0 ∅ 0 ∗ reached ER g 0)))) $$ H
  icases H with ⟨A0, A1, A2, A3, A4, A5, A6, A7, A8, A9, A10, A11, A12, A13, A14, A15, A16, A17, A18, A19⟩
  ihave Pfalsefalse := posn_zero c false false $$ [A0 A4 A2 A6]
  · isplitl [A0]; · iexact A0
    isplitl [A4]; · iexact A4
    isplitl [A2]; · iexact A2
    iexact A6
  ihave Pfalsetrue := posn_zero c false true $$ [A1 A5 A3 A7]
  · isplitl [A1]; · iexact A1
    isplitl [A5]; · iexact A5
    isplitl [A3]; · iexact A3
    iexact A7
  ihave Ptruefalse := posn_zero c true false $$ [A8 A12 A10 A14]
  · isplitl [A8]; · iexact A8
    isplitl [A12]; · iexact A12
    isplitl [A10]; · iexact A10
    iexact A14
  ihave Ptruetrue := posn_zero c true true $$ [A9 A13 A11 A15]
  · isplitl [A9]; · iexact A9
    isplitl [A13]; · iexact A13
    isplitl [A11]; · iexact A11
    iexact A15
  isplitl [Pfalsefalse Pfalsetrue A16 A18]
  · isplitl [Pfalsefalse]; · iexact Pfalsefalse
    isplitl [Pfalsetrue]; · iexact Pfalsetrue
    isplitl [A16]; · iexact A16
    iexact A18
  · isplitl [Ptruefalse]; · iexact Ptruefalse
    isplitl [Ptruetrue]; · iexact Ptruetrue
    isplitl [A17]; · iexact A17
    iexact A19

theorem start_all : iprop(env X Wt K Kι ∗ ats (F := F) c ∗ tk (F := F) c ∗ scratch (F := F) c ∗ (∃ f, (outL c) ↦{fullShare} f)) ⊢ iprop(|={Set.univ}=> startAll (F := F) c) := by
  have h0 : iprop(env X Wt K Kι ∗ ats (F := F) c ∗ tk (F := F) c ∗ scratch (F := F) c ∗ (∃ f, (outL c) ↦{fullShare} f))
      ⊢ iprop(env X Wt K Kι ∗ (atsD (F := F) c false ∗ atsD (F := F) c true) ∗ tk (F := F) c ∗ scratch (F := F) c
        ∗ ((ownA (F := F) c (wtile false (blk false c 31)) fullShare ∗ bigSep (Finset.Ico 31 62) (dst (F := F) false c))
        ∗ (ownA (F := F) c (wtile true (blk true c 31)) fullShare ∗ bigSep (Finset.Ico 31 62) (dst (F := F) true c)))) :=
    Laws.sep_mono (BI.Entails.refl _) (Laws.sep_mono (ats_split c) (Laws.sep_mono (BI.Entails.refl _) (Laws.sep_mono (BI.Entails.refl _) (out_split c))))
  refine h0.trans ?_
  rw [scratch_eq]
  unfold tk tkD startAll
  iintro ⟨#HE, ⟨Ht0, Ht1⟩, ⟨⟨T1, T2, T3, T4, T5, T6, T7, T8, T9, T10, T11⟩, ⟨U1, U2, U3, U4, U5, U6, U7, U8, U9, U10, U11⟩, Hb, Hbc⟩, ⟨M1, M2, M3, M4, M5, M6⟩, ⟨W0, D0⟩, W1, D1⟩
  unfold atsD
  icases Ht0 with ⟨P1, P2, ⟨S1, S2⟩, R1, #R2⟩
  icases Ht1 with ⟨Q1, Q2, ⟨Z1, Z2⟩, Y1, #Y2⟩
  imod slots_mk X Wt K Kι c false $$ [T10 T11 M5] with N0
  · isplitr; · iexact HE
    isplitl [T10]; · iexact T10
    isplitl [T11]; · iexact T11
    iexact M5
  imod slots_mk X Wt K Kι c true $$ [U10 U11 M6] with N1
  · isplitr; · iexact HE
    isplitl [U10]; · iexact U10
    isplitl [U11]; · iexact U11
    iexact M6
  imodintro
  isplitl [P1 P2 N0 R1 M1 M3 T1 T2 T3 T4 T5 T6 D0]
  · unfold inD
    isplitl [P1]; · iexact P1
    isplitl [P2]; · iexact P2
    isplitl [N0]; · iexact N0
    isplitl [R1]; · iapply ack_zero; iexact R1
    isplitl [M1]; · iexact M1
    isplitl [M3]; · iexact M3
    isplitl [T1]; · iexact T1
    isplitl [T2]; · iexact T2
    isplitl [T3]; · iexact T3
    isplitl [T4]; · iexact T4
    isplitl [T5]; · iexact T5
    isplitl [T6]; · iexact T6
    isplitr; · iexact Y2
    iexact D0
  isplitl [Q1 Q2 N1 Y1 M2 M4 U1 U2 U3 U4 U5 U6 D1]
  · unfold inD
    isplitl [Q1]; · iexact Q1
    isplitl [Q2]; · iexact Q2
    isplitl [N1]; · iexact N1
    isplitl [Y1]; · iapply ack_zero; iexact Y1
    isplitl [M2]; · iexact M2
    isplitl [M4]; · iexact M4
    isplitl [U1]; · iexact U1
    isplitl [U2]; · iexact U2
    isplitl [U3]; · iexact U3
    isplitl [U4]; · iexact U4
    isplitl [U5]; · iexact U5
    isplitl [U6]; · iexact U6
    isplitr; · iexact R2
    iexact D1
  isplitl [S1 S2 T8 W0]
  · unfold stI
    isplitl [S1]; · iexact S1
    isplitl [S2]; · iexact S2
    isplitl [T8]; · iexact T8
    iexact W0
  isplitl [Z1 Z2 U8 W1]
  · unfold stI
    isplitl [Z1]; · iexact Z1
    isplitl [Z2]; · iexact Z2
    isplitl [U8]; · iexact U8
    iexact W1
  isplitl [T7]; · iexact T7
  isplitl [U7]; · iexact U7
  isplitl [T9 U9]
  · iapply itR_mk
    isplitl [T9]; · iexact T9
    iexact U9
  isplitl [Hb]; · iexact Hb
  iexact Hbc

/-! ## The end -/

theorem out_tilesD (d : Bool) : iprop(bigSep (Finset.Ico 31 62) (fun n => iprop(srcB X Wt d false n c ∗ srcB X Wt d true n c))
      ∗ own c (tile d false (blk d c 62)) fullShare (sv X Wt d false 62 c) ∗ own c (tile d true (blk d c 62)) fullShare (sv X Wt d true 62 c) ∗ stB X Wt d c)
    ⊢ iprop(bigSep (Finset.Ico 31 63) (fun n => iprop(own c (tile d false (blk d c n)) fullShare (sv X Wt d false n c) ∗ own c (tile d true (blk d c n)) fullShare (sv X Wt d true n c)))
      ∗ ownA (F := F) c (acc d) fullShare) := by
  have h32 : bigSep (Finset.Ico 32 62) (fun n => iprop(srcB X Wt d false n c ∗ srcB X Wt d true n c))
      = bigSep (Finset.Ico 32 62) (fun n => iprop(own c (tile d false (blk d c n)) fullShare (sv X Wt d false n c) ∗ own c (tile d true (blk d c n)) fullShare (sv X Wt d true n c))) := by
    refine BI.bigSep_congr fun n hn => ?_
    have hn := (Finset.mem_Ico.mp hn).1
    unfold srcB
    rw [if_neg (by omega), if_neg (by omega), if_neg (by omega), if_neg (by omega)]
  rw [bigSep_head, bigSep_ends, h32]
  have h31 (u : Bool) : srcB X Wt d u 31 c = ownA (F := F) c (accM d u) fullShare.left := by unfold srcB; rw [if_neg (by omega), if_pos rfl]
  rw [h31, h31]
  unfold stB
  iintro ⟨⟨⟨A0, A1⟩, H32⟩, H0, H1, S0, S1, A2⟩
  ihave A := ownA_join c (acc d) fullShare.left $$ [A0 A1]
  · isplitl [A0]; · iexact A0
    iexact A1
  ihave A := ownA_unshare c (acc d) fullShare fullShare.left fullShare.right (PosShare.mem_left_op_right fullShare) $$ [A A2]
  · isplitl [A]; · iexact A
    iexact A2
  isplitr [A]
  · isplitl [S0 S1]
    · isplitl [S0]; · iexact S0
      iexact S1
    isplitl [H0 H1]
    · isplitl [H0]; · iexact H0
      iexact H1
    iexact H32
  iexact A

theorem slots_end (d : Bool) : slots (F := F) c d 31 ⊢ ownA (F := F) c (comm d) fullShare := by
  unfold slots
  rw [if_pos (by decide), if_pos (by decide)]
  iintro ⟨-, -, -, -, H1, H0⟩
  iapply comm_join
  isplitl [H0]; · iexact H0
  iexact H1

/-- What a direction leaves. -/
def endD (d : Bool) : sProp 𝕄 :=
  iprop((semVal (sC c d false false) 0 ∗ semVal (rC c d false false) 0 ∗ semVal (sC c d true false) 0 ∗ semVal (rC c d true false) 0)
    ∗ (semVal (sC c d false true) 0 ∗ semVal (rC c d false true) 0 ∗ semVal (sC c d true true) 0 ∗ semVal (rC c d true true) 0)
    ∗ semVal (tC c d) 0 ∗ semVal (aC c d) 0
    ∗ bigSep (Finset.Ico 31 63) (fun n => iprop(own c (tile d false (blk d c n)) fullShare (sv X Wt d false n c) ∗ own c (tile d true (blk d c n)) fullShare (sv X Wt d true n c)))
    ∗ ownA (F := F) c (acc d) fullShare ∗ ownA (F := F) c (comm d) fullShare)
theorem end_dir (d : Bool) : iprop(env X Wt K Kι ∗ outE X Wt c d) ⊢ iprop(|={Set.univ}=> endD X Wt c d) := by
  unfold outE
  iintro ⟨#HE, P0, P1, Hs, H0, H1, Hsl, Ha, Ht, Hst⟩
  ihave Hsl := slots_end c d $$ Hsl
  ihave Ho := out_tilesD X Wt c d $$ [Hs H0 H1 Hst]
  · isplitl [Hs]; · iexact Hs
    isplitl [H0]; · iexact H0
    isplitl [H1]; · iexact H1
    iexact Hst
  icases Ho with ⟨Ho, Hacc⟩
  imod close_posn X Wt K Kι c d false $$ [P0] with P0
  · isplitr; · iexact HE
    iexact P0
  imod close_posn X Wt K Kι c d true $$ [P1] with P1
  · isplitr; · iexact HE
    iexact P1
  imod close1 X Wt K Kι (tC_mem c d) 1 (no_store X Wt c d) $$ [Ht] with Ht
  · isplitr; · iexact HE
    iexact Ht
  imod close1 X Wt K Kι (aC_mem c d) 1 (no_ack X Wt c d) $$ [Ha] with Ha
  · isplitr; · iexact HE
    iexact Ha
  imodintro
  unfold endD
  isplitl [P0]; · iexact P0
  isplitl [P1]; · iexact P1
  isplitl [Ht]; · iexact Ht
  isplitl [Ha]; · iexact Ha
  isplitl [Ho]; · iexact Ho
  isplitl [Hacc]; · iexact Hacc
  iexact Hsl

theorem end_all : iprop(env X Wt K Kι ∗ outE X Wt c false ∗ outE X Wt c true ∗ ownA (F := F) c (tmp false) fullShare ∗ ownA (F := F) c (tmp true) fullShare ∗ atPos ER (bC c) 1 ∅ 0)
    ⊢ iprop(|={Set.univ}=> (((outL c) ↦{fullShare} (res X Wt c)) ∗ scratch (F := F) c ∗ bigSep Finset.univ (fun i : Fin 20 => semVal (oC (c, i)) 0) ∗ semVal (bC c) 0)) := by
  iintro ⟨#HE, E0, E1, M3, M4, Hb⟩
  imod end_dir X Wt K Kι c false $$ [E0] with E0
  · isplitr; · iexact HE
    iexact E0
  imod end_dir X Wt K Kι c true $$ [E1] with E1
  · isplitr; · iexact HE
    iexact E1
  imod close1 X Wt K Kι (bC_mem c) 1 (no_bar X Wt c) $$ [Hb] with Hb
  · isplitr; · iexact HE
    iexact Hb
  unfold endD
  icases E0 with ⟨⟨A0, A4, A2, A6⟩, ⟨A1, A5, A3, A7⟩, A16, A18, O0, M1, M5⟩
  icases E1 with ⟨⟨A8, A12, A10, A14⟩, ⟨A9, A13, A11, A15⟩, A17, A19, O1, M2, M6⟩
  imodintro
  isplitl [O0 O1]
  · iapply out_join
    isplitl [O0]; · iexact O0
    iexact O1
  isplitl [M1 M2 M3 M4 M5 M6]
  · iapply (Entails.of_eq (scratch_eq (F := F) c).symm)
    isplitl [M1]; · iexact M1
    isplitl [M2]; · iexact M2
    isplitl [M3]; · iexact M3
    isplitl [M4]; · iexact M4
    isplitl [M5]; · iexact M5
    iexact M6
  isplitr [Hb]
  · iapply (Entails.of_eq (own20 c (fun g => semVal g 0)).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact A19
  iexact Hb
end
end Cert.KernelIdeal.AR
-- ==== Proof.Due.lean ====
/- What the devices owe each other at the launch is, cell by cell, what each may wait for. -/
module

public import proofs.«01_k».proof.Proof.Enter

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

section
variable (c : Dev nD)

/-- A step's two copies into a device, an acknowledgement of it, a device's share of the barrier. -/
def rT (p : Dev nD) (d : Bool) (n : ℕ) : CellTallies nD τ sig ℕ := tallyAt (rC p d (bit n) false) n NB + tallyAt (rC p d (bit n) true) n NB
def aT (p : Dev nD) (d : Bool) (n : ℕ) : CellTallies nD τ sig ℕ := tallyAt (aC p d) n 1
def bT (p : Dev nD) : CellTallies nD τ sig ℕ := tallyAt (bC p) 0 1
def rQ (p : Dev nD) (d : Bool) : CellTallies nD τ sig ℕ := ∑ n ∈ Finset.range 62, rT p d n
def aQ (p : Dev nD) (d : Bool) : CellTallies nD τ sig ℕ := ∑ n ∈ Finset.range 62, aT p d n

/-- What is owed to a device's own cells. -/
def Own (c : Dev nD) : CellTallies nD τ sig ℕ := rQ c false + rQ c true + aQ c false + aQ c true + bT c + bT c

theorem ac_peel {M : Type} [AddCommMonoid M] (A B C D a b u v w x : M) :
    ((A + B) + (C + D)) + a + b + u + v + w + x = ((b + A) + (a + B)) + (((x + v) + C) + ((w + u) + D)) := by
  simp only [add_assoc, add_comm, add_left_comm]
theorem ac_zero {M : Type} [AddCommMonoid M] (a b : M) : 0 + a + b = (b + 0 + (a + 0)) + (0 + 0) := by
  simp only [zero_add, add_zero]; exact add_comm _ _
theorem ac_oi {M : Type} [AddCommMonoid M] (A B C D p q r s t u : M) :
    ((A + B) + (C + D)) + p + q + r + s + t + u = ((s + q) + C) + ((r + p) + D) + A + B + t + u := by
  simp only [add_assoc, add_comm, add_left_comm]

theorem sum_head {M : Type} [AddCommMonoid M] (f : ℕ → M) {a b : ℕ} (h : a < b) : ∑ n ∈ Finset.Ico a b, f n = f a + ∑ n ∈ Finset.Ico (a + 1) b, f n := by
  rw [show Finset.Ico a b = insert a (Finset.Ico (a + 1) b) from by
    ext i; simp only [Finset.mem_insert, Finset.mem_Ico]; omega]
  exact Finset.sum_insert (by simp)
theorem rT_o (d : Bool) (n : ℕ) : rT (nxt d c) d n = oS c d false n + oS c d true n := rfl
theorem aT_o (d : Bool) (n : ℕ) : aT (prv d c) d n = oA c d n := rfl

theorem OR_eq : ∀ m, m ≤ 61 → OR c m
    = ((∑ n ∈ Finset.Ico (61 - m) 62, aT (prv false c) false n) + ∑ n ∈ Finset.Ico (61 - m) 62, aT (prv true c) true n)
      + ((∑ n ∈ Finset.Ico (62 - m) 62, rT (nxt false c) false n) + ∑ n ∈ Finset.Ico (62 - m) 62, rT (nxt true c) true n)
  | 0, _ => by
    have e (f : ℕ → CellTallies nD τ sig ℕ) : ∑ n ∈ Finset.Ico (61 - 0) 62, f n = f 61 + 0 := by
      rw [show Finset.Ico (61 - 0) 62 = {61} by decide, Finset.sum_singleton, add_zero]
    have e' (f : ℕ → CellTallies nD τ sig ℕ) : ∑ n ∈ Finset.Ico (62 - 0) 62, f n = 0 := by
      rw [show Finset.Ico (62 - 0) 62 = ∅ by decide, Finset.sum_empty]
    rw [e, e, e', e']
    exact ac_zero _ _
  | m + 1, h => by
    have e (f : ℕ → CellTallies nD τ sig ℕ) : ∑ n ∈ Finset.Ico (61 - (m + 1)) 62, f n = f (60 - m) + ∑ n ∈ Finset.Ico (61 - m) 62, f n := by
      rw [sum_head _ (by omega), show 61 - (m + 1) = 60 - m by omega, show 60 - m + 1 = 61 - m by omega]
    have e' (f : ℕ → CellTallies nD τ sig ℕ) : ∑ n ∈ Finset.Ico (62 - (m + 1)) 62, f n = f (60 - m + 1) + ∑ n ∈ Finset.Ico (62 - m) 62, f n := by
      rw [sum_head _ (by omega), show 62 - (m + 1) = 60 - m + 1 by omega, show 60 - m + 1 + 1 = 62 - m by omega]
    rw [e, e, e', e', OR, OR_eq m (by omega), rT_o, rT_o, aT_o, aT_o]
    unfold peel
    exact ac_peel _ _ _ _ _ _ _ _ _ _

theorem OI_eq : OI c = rQ (nxt false c) false + rQ (nxt true c) true + aQ (prv false c) false + aQ (prv true c) true + bT (nxt false c) + bT (nxt true c) := by
  have e (f : ℕ → CellTallies nD τ sig ℕ) : ∑ n ∈ Finset.range 62, f n = f 0 + ∑ n ∈ Finset.Ico (62 - 61) 62, f n := by
    rw [Finset.range_eq_Ico, sum_head _ (by omega)]
  have e' (f : ℕ → CellTallies nD τ sig ℕ) : ∑ n ∈ Finset.range 62, f n = ∑ n ∈ Finset.Ico (61 - 61) 62, f n := by
    rw [Finset.range_eq_Ico]
  unfold OI OS rQ aQ
  rw [show 61 - 0 = 61 from rfl, OR_eq c 61 (Nat.le_refl _), e (rT (nxt false c) false), e (rT (nxt true c) true), e' (aT (prv true c) true), e' (aT (prv false c) false), rT_o, rT_o]
  exact ac_oi _ _ _ _ _ _ _ _ _ _

/-- A step along the ring, as a bijection. -/
def nxtE (d : Bool) : Dev nD ≃ Dev nD := ⟨nxt d, prv d, prv_nxt d, nxt_prv d⟩
def prvE (d : Bool) : Dev nD ≃ Dev nD := ⟨prv d, nxt d, nxt_prv d, prv_nxt d⟩

theorem sum_OI : ∑ c : Dev nD, OI c = ∑ c : Dev nD, Own c := by
  have h (d : Bool) (f : Dev nD → CellTallies nD τ sig ℕ) : ∑ c : Dev nD, f (nxt d c) = ∑ c : Dev nD, f c := Equiv.sum_comp (nxtE d) f
  have h' (d : Bool) (f : Dev nD → CellTallies nD τ sig ℕ) : ∑ c : Dev nD, f (prv d c) = ∑ c : Dev nD, f c := Equiv.sum_comp (prvE d) f
  simp only [OI_eq, Own, Finset.sum_add_distrib]
  rw [h false (fun c => rQ c false), h true (fun c => rQ c true), h' false (fun c => aQ c false), h' true (fun c => aQ c true), h false bT, h true bT]

theorem tallyAt_off {g g' : GSem nD τ sig} (i k : ℕ) (h : g'.1 ≠ g.1) : (tallyAt g i k : CellTallies nD τ sig ℕ) g' = 0 :=
  tallyAt_ne_cell (fun e => h (congrArg Prod.fst e)) _ _
theorem Own_off {g : GSem nD τ sig} (h : g.1 ≠ (c : Thread nD τ)) : Own c g = 0 := by
  have hr (d : Bool) (n : ℕ) : rT c d n g = 0 := by
    unfold rT; rw [Pi.add_apply, tallyAt_off _ _ h, tallyAt_off _ _ h, add_zero]
  have ha (d : Bool) (n : ℕ) : aT c d n g = 0 := tallyAt_off _ _ h
  have hb : bT c g = 0 := tallyAt_off _ _ h
  have hR (d : Bool) : rQ c d g = 0 := by unfold rQ; rw [Finset.sum_apply]; exact Finset.sum_eq_zero fun n _ => hr d n
  have hA (d : Bool) : aQ c d g = 0 := by unfold aQ; rw [Finset.sum_apply]; exact Finset.sum_eq_zero fun n _ => ha d n
  unfold Own
  simp only [Pi.add_apply, hR, hA, hb, add_zero]

theorem credEq (T U : CellTallies nD τ sig ℕ) : (cred (T + U) : sProp 𝕄) = iprop(cred T ∗ cred U) :=
  BI.Entails.antisymm (cred_add _ _).1 (cred_add _ _).2

/-- A device's credits in one direction. -/
def crD (d : Bool) : sProp 𝕄 :=
  iprop(bigSep (Finset.range 62) (fun n => iprop(cR (F := F) c d false n ∗ cR (F := F) c d true n)) ∗ bigSep (Finset.range 62) (fun n => cred (tallyAt (aC c d) n 1)))

theorem rQ_cred (d : Bool) : (cred (rQ c d) : sProp 𝕄) = bigSep (Finset.range 62) (fun n => iprop(cR (F := F) c d false n ∗ cR (F := F) c d true n)) := by
  unfold rQ
  rw [Pipeline.cred_finsetSum]
  refine BI.bigSep_congr fun n _ => ?_
  unfold rT cR
  exact credEq _ _
theorem aQ_cred (d : Bool) : (cred (aQ c d) : sProp 𝕄) = bigSep (Finset.range 62) (fun n => cred (tallyAt (aC c d) n 1)) := by
  unfold aQ
  rw [Pipeline.cred_finsetSum]
  rfl
theorem bT_two : bT c + bT c = tallyAt (bC c) 0 2 := by
  unfold bT tallyAt
  rw [← tallyOn_add, ← Finsupp.single_add]

theorem launch_cred : (Pipeline.launchCred OI c : sProp 𝕄) ⊢ iprop(crD (F := F) c false ∗ crD (F := F) c true ∗ cred (tallyAt (bC c) 0 2)) := by
  have h0 : (Pipeline.launchCred OI c : sProp 𝕄) = cred (Own c) :=
    Pipeline.launchCred_of_sum OI Own sum_OI (fun d _ hg => by by_contra h; exact hg (Own_off d h)) c
  have h1 : Own c = rQ c false + rQ c true + aQ c false + aQ c true + tallyAt (bC c) 0 2 := by
    rw [← bT_two]; unfold Own; exact add_assoc _ _ _
  rw [h0, h1, credEq, credEq, credEq, credEq, rQ_cred, rQ_cred, aQ_cred, aQ_cred]
  unfold crD
  iintro ⟨⟨⟨⟨H1, H2⟩, H3⟩, H4⟩, H5⟩
  isplitl [H1 H3]
  · isplitl [H1]; · iexact H1
    iexact H3
  isplitl [H2 H4]
  · isplitl [H2]; · iexact H2
    iexact H4
  iexact H5
end
end Cert.KernelIdeal.AR
-- ==== Proof.Deal.lean ====
/- The tokens of the launch, dealt to the devices that use them. -/
module

public import proofs.«01_k».proof.Proof.Due

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

section

/-! ## Sums over steps -/

theorem st_comm (A B : sProp 𝕄) : iprop(A ∗ B) = iprop(B ∗ A) := by
  refine BI.Entails.antisymm (show _ ⊢ (_ : sProp 𝕄) from ?_) (show _ ⊢ (_ : sProp 𝕄) from ?_)
  · iintro ⟨H, K⟩; isplitl [K]; · iexact K
    iexact H
  · iintro ⟨H, K⟩; isplitl [K]; · iexact K
    iexact H
theorem st_assoc (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H, K⟩, L⟩; isplitl [H]; · iexact H
    isplitl [K]; · iexact K
    iexact L
  · iintro ⟨H, K, L⟩; isplitr [L]
    · isplitl [H]; · iexact H
      iexact K
    iexact L
theorem bs_last (n : ℕ) (Φ : ℕ → sProp 𝕄) : bigSep (Finset.range (n + 1)) Φ = iprop(bigSep (Finset.range n) Φ ∗ Φ n) := by
  rw [Finset.range_add_one, bigSep_insert' (by simp)]
  exact st_comm _ _
theorem bs_first : ∀ (n : ℕ) (Φ : ℕ → sProp 𝕄), bigSep (Finset.range (n + 1)) Φ = iprop(Φ 0 ∗ bigSep (Finset.range n) (fun i => Φ (i + 1)))
  | 0, Φ => by rw [bs_last, Finset.range_zero, BI.bigSep_empty, BI.bigSep_empty]; exact st_comm _ _
  | n + 1, Φ => by rw [bs_last, bs_first n, bs_last n]; exact st_assoc _ _ _
theorem bs_fin (n : ℕ) (Φ : ℕ → sProp 𝕄) : bigSep Finset.univ (fun i : Fin n => Φ i.val) = bigSep (Finset.range n) Φ := by
  rw [show Finset.range n = (Finset.univ : Finset (Fin n)).map ⟨Fin.val, Fin.val_injective⟩ from by
    ext i; simp only [Finset.mem_range, Finset.mem_map, Finset.mem_univ, true_and]
    exact ⟨fun h => ⟨⟨i, h⟩, rfl⟩, fun ⟨j, hj⟩ => hj ▸ j.isLt⟩, BI.bigSep_map]
  rfl
theorem bs_ico (n : ℕ) (Φ : ℕ → sProp 𝕄) : bigSep (Finset.Ico 1 (n + 1)) Φ = bigSep (Finset.range n) (fun i => Φ (i + 1)) := by
  rw [show Finset.Ico 1 (n + 1) = (Finset.range n).map ⟨fun i => i + 1, fun a b h => Nat.add_right_cancel h⟩ from by
    ext i; simp only [Finset.mem_Ico, Finset.mem_map, Finset.mem_range]
    exact ⟨fun h => ⟨i - 1, by omega, by show i - 1 + 1 = i; omega⟩, fun ⟨j, hj, e⟩ => by have e : j + 1 = i := e; omega⟩, BI.bigSep_map]
  rfl
theorem bs_double : ∀ (m : ℕ) (Φ : ℕ → sProp 𝕄), bigSep (Finset.range (2 * m)) Φ = bigSep (Finset.range m) (fun w => iprop(Φ (2 * w) ∗ Φ (2 * w + 1)))
  | 0, Φ => by rw [Nat.mul_zero, Finset.range_zero, BI.bigSep_empty, BI.bigSep_empty]
  | m + 1, Φ => by
    rw [show 2 * (m + 1) = 2 * m + 1 + 1 by omega, bs_last, bs_last, bs_double m, bs_last]
    exact st_assoc _ _ _
theorem bs_if (Φ : ℕ → sProp 𝕄) : bigSep (Finset.range 61) (fun s => if s + 1 < 31 then Φ (s + 1) else iprop(emp)) = bigSep (Finset.range 30) (fun s => Φ (s + 1)) := by
  rw [show Finset.range 61 = Finset.range 30 ∪ Finset.Ico 30 61 by decide, bigSep_union' (by decide),
    BI.bigSep_congr (s := Finset.range 30) (Ψ := fun s => Φ (s + 1)) (fun s hs => if_pos (by have := Finset.mem_range.mp hs; omega)),
    BI.bigSep_congr (s := Finset.Ico 30 61) (Φ := fun s => if s + 1 < 31 then Φ (s + 1) else iprop(emp)) (Ψ := fun _ => (BI.emp : sProp 𝕄)) (fun s hs => if_neg (by have := Finset.mem_Ico.mp hs; omega)), BI.bigSep_emp_const]
  exact BI.equiv_iff.mp sep_emp

/-! ## A direction's ghost state out of its sums -/

variable (c : Dev nD)

def tokB (d : Bool) (n : ℕ) : sProp 𝕄 := iprop(tokS (F := F) c d false n ∗ tokS (F := F) c d true n)
def wrT (d : Bool) (n : ℕ) : sProp 𝕄 := writeTok ES (nxt d c, d, bit n) (n / 2 + 1)

theorem merge4 (S : Finset ℕ) (A B C D E : ℕ → sProp 𝕄) (h : ∀ i, iprop(A i ∗ B i ∗ C i ∗ D i) ⊢ E i) :
    iprop(bigSep S A ∗ bigSep S B ∗ bigSep S C ∗ bigSep S D) ⊢ bigSep S E := by
  rw [← bigSep_sep', ← bigSep_sep', ← bigSep_sep']
  exact BI.bigSep_mono fun i _ => h i

theorem it_sum (d : Bool) : iprop(bigSep (Finset.range 61) (fun s => tokB (F := F) c d (s + 1)) ∗ bigSep (Finset.range 61) (fun s => iprop(cR (F := F) c d false s ∗ cR (F := F) c d true s))
      ∗ bigSep (Finset.range 61) (fun s => dutyTok ER (aC (prv d c) d) 0 s) ∗ bigSep (Finset.range 30) (fun s => wrT (F := F) c d (s + 1)))
    ⊢ bigSep (Finset.range 61) (fun s => it (F := F) c d s) := by
  rw [← bs_if (wrT (F := F) c d)]
  refine merge4 _ _ _ _ _ _ fun s => ?_
  have h : iprop(tokB (F := F) c d (s + 1) ∗ (cR (F := F) c d false s ∗ cR (F := F) c d true s) ∗ dutyTok ER (aC (prv d c) d) 0 s
      ∗ (if s + 1 < 31 then wrT (F := F) c d (s + 1) else iprop(emp))) ⊢ it (F := F) c d s := by
    unfold tokB it wrT
    iintro ⟨⟨H1, H2⟩, ⟨H3, H4⟩, H5, H6⟩
    isplitl [H1]; · iexact H1
    isplitl [H2]; · iexact H2
    isplitl [H3]; · iexact H3
    isplitl [H4]; · iexact H4
    isplitl [H5]; · iexact H5
    iexact H6
  exact h

theorem sep_sum (S : Finset ℕ) (A B : ℕ → sProp 𝕄) : bigSep S (fun i => iprop(A i ∗ B i)) = iprop(bigSep S A ∗ bigSep S B) := bigSep_sep' _ _ _

theorem deal_dir (d : Bool) : iprop(bigSep (Finset.range 62) (tokB (F := F) c d) ∗ crD (F := F) c d ∗ bigSep (Finset.range 62) (fun s => dutyTok ER (aC (prv d c) d) 0 s)
      ∗ bigSep (Finset.range 31) (wrT (F := F) c d) ∗ reached ER (bC (nxt d c)) 0 ∗ dutyTok ER (bC (nxt d c)) 0 (sl (!d)) ∗ dutyTok ER (tC c d) 0 0
      ∗ readerAt ES (c, d, false) 0 ∗ readerAt ES (c, d, true) 0) ⊢ tkD (F := F) c d := by
  have h61 : bigSep (Finset.range 61) (fun s => it (F := F) c d s) = iprop(it (F := F) c d 0 ∗ bigSep (Finset.range 60) (fun s => it (F := F) c d (s + 1))) := bs_first 60 _
  have hit := it_sum (F := F) c d
  rw [h61] at hit
  unfold crD tkD endB
  rw [bs_first 61 (tokB (F := F) c d), bs_last 61 (fun n => iprop(cR (F := F) c d false n ∗ cR (F := F) c d true n)), bs_last 61 (fun s => dutyTok ER (aC (prv d c) d) 0 s),
    bs_first 30 (wrT (F := F) c d), bs_last 61 (fun n => cred (tallyAt (aC c d) n 1)), bs_last 60 (fun n => cred (tallyAt (aC c d) n 1)),
    bs_ico 60 (fun s => iprop(it (F := F) c d s ∗ cred (tallyAt (aC c d) (s - 1) 1))), sep_sum (Finset.range 60) (fun i => it (F := F) c d (i + 1)) (fun i => cred (tallyAt (aC c d) (i + 1 - 1) 1))]
  iintro ⟨⟨T0, T⟩, ⟨⟨C, C61, C61'⟩, ⟨A, A60⟩, A61⟩, ⟨D, D61⟩, ⟨W0, W⟩, B1, B2, S, R0, R1⟩
  ihave H := hit $$ [T C D W]
  · isplitl [T]; · iexact T
    isplitl [C]; · iexact C
    isplitl [D]; · iexact D
    iexact W
  icases H with ⟨I0, I⟩
  unfold tokB
  icases T0 with ⟨T0, T0'⟩
  isplitl [T0]; · iexact T0
  isplitl [T0']; · iexact T0'
  isplitl [W0]; · unfold wrT; iexact W0
  isplitl [I0]; · iexact I0
  isplitl [B1]; · iexact B1
  isplitl [B2]; · iexact B2
  isplitl [C61 C61' D61 A60 A61]
  · isplitl [C61]; · iexact C61
    isplitl [C61']; · iexact C61'
    isplitl [D61]; · iexact D61
    isplitl [A60]; · iexact A60
    iexact A61
  isplitl [S]; · iexact S
  isplitl [I A]
  · isplitl [I]; · iexact I
    iexact A
  isplitl [R0]; · iexact R0
  iexact R1

/-! ## The tokens -/

abbrev Tk : Type := (Bool × Bool × Fin 62) ⊕ ((Bool × Bool × Fin 62) ⊕ ((Bool × Fin 62) ⊕ (Bool ⊕ Bool)))
instance tkEq : DecidableEq Tk := inferInstance
/-- A token's semaphore, round and index. -/
def tk0 : Tk → SemLoc sig × ℕ × ℕ
  | .inl (d, u, n) => (.dma (sS d (bit n.val) u), n.val / 2, 0)
  | .inr (.inl (d, u, n)) => (.dma (rS d (bit n.val) u), n.val / 2, 0)
  | .inr (.inr (.inl (d, n))) => (.reg (aS d), 0, n.val)
  | .inr (.inr (.inr (.inl d))) => (.dma (stS d), 0, 0)
  | .inr (.inr (.inr (.inr d))) => (.reg bS, 0, sl d)
/-- The token back. -/
def tkI : SemLoc sig × ℕ × ℕ → Option Tk
  | (.dma i, r, _) =>
    let k := i.val - 3
    if k < 16 then
      if h : 2 * r + k % 4 / 2 < 62 then
        if k % 8 < 4 then some (.inl (decide (8 ≤ k), decide (k % 2 = 1), ⟨2 * r + k % 4 / 2, h⟩))
        else some (.inr (.inl (decide (8 ≤ k), decide (k % 2 = 1), ⟨2 * r + k % 4 / 2, h⟩)))
      else none
    else some (.inr (.inr (.inr (.inl (decide (k = 17))))))
  | (.reg i, _, j) =>
    if i.val = 2 then some (.inr (.inr (.inr (.inr (decide (j = 1))))))
    else if h : j < 62 then some (.inr (.inr (.inl (decide (i.val = 1), ⟨j, h⟩)))) else none
theorem tkI_tk0 : ∀ t : Tk, tkI (tk0 t) = some t
  | .inl (d, u, n) => by revert d u n; decide +kernel
  | .inr (.inl (d, u, n)) => by revert d u n; decide +kernel
  | .inr (.inr (.inl (d, n))) => by revert d n; decide +kernel
  | .inr (.inr (.inr (.inl d))) => by revert d; decide +kernel
  | .inr (.inr (.inr (.inr d))) => by revert d; decide +kernel
theorem tk0_inj : Function.Injective tk0 := fun a b h => Option.some.inj ((tkI_tk0 a).symm.trans ((congrArg tkI h).trans (tkI_tk0 b)))

def tkE : Dev nD × Tk ↪ GSem nD τ sig × ℕ × ℕ := ⟨fun x => (((x.1 : Thread nD τ), (tk0 x.2).1), (tk0 x.2).2.1, (tk0 x.2).2.2), fun x y h => by
  have h1 := congrArg (fun g : GSem nD τ sig × ℕ × ℕ => g.1.1.1) h
  have h2 := congrArg (fun g : GSem nD τ sig × ℕ × ℕ => g.1.2) h
  have h3 := congrArg (fun g : GSem nD τ sig × ℕ × ℕ => g.2.1) h
  have h4 := congrArg (fun g : GSem nD τ sig × ℕ × ℕ => g.2.2) h
  exact Prod.ext h1 (tk0_inj (Prod.ext h2 (Prod.ext h3 h4)))⟩
/-- Every token of the launch. -/
def toks : Finset (GSem nD τ sig × ℕ × ℕ) := Finset.univ.map tkE

def tS (d : Bool) : sProp 𝕄 := bigSep (Finset.range 62) (fun n => iprop(dutyTok ER (sC c d (bit n) false) (n / 2) 0 ∗ dutyTok ER (sC c d (bit n) true) (n / 2) 0))
def tR (d : Bool) : sProp 𝕄 := bigSep (Finset.range 62) (fun n => iprop(dutyTok ER (rC c d (bit n) false) (n / 2) 0 ∗ dutyTok ER (rC c d (bit n) true) (n / 2) 0))
def tA (d : Bool) : sProp 𝕄 := bigSep (Finset.range 62) (fun n => dutyTok ER (aC c d) 0 n)
def tT (d : Bool) : sProp 𝕄 := dutyTok ER (tC c d) 0 0
def tB (d : Bool) : sProp 𝕄 := dutyTok ER (bC c) 0 (sl d)

theorem two_sum (Φ : Bool → Bool → ℕ → sProp 𝕄) : bigSep Finset.univ (fun x : Bool × Bool × Fin 62 => Φ x.1 x.2.1 x.2.2.val)
    = iprop(bigSep (Finset.range 62) (fun n => iprop(Φ false false n ∗ Φ false true n)) ∗ bigSep (Finset.range 62) (fun n => iprop(Φ true false n ∗ Φ true true n))) := by
  rw [BI.bigSep_univ_prod, bigSep_bool', BI.bigSep_univ_prod, BI.bigSep_univ_prod, bigSep_bool', bigSep_bool']
  show iprop((bigSep Finset.univ (fun i : Fin 62 => Φ false false i.val) ∗ bigSep Finset.univ (fun i : Fin 62 => Φ false true i.val))
    ∗ (bigSep Finset.univ (fun i : Fin 62 => Φ true false i.val) ∗ bigSep Finset.univ (fun i : Fin 62 => Φ true true i.val))) = _
  rw [bs_fin, bs_fin, bs_fin, bs_fin, bigSep_sep', bigSep_sep']
theorem one_sum (Φ : Bool → ℕ → sProp 𝕄) : bigSep Finset.univ (fun x : Bool × Fin 62 => Φ x.1 x.2.val)
    = iprop(bigSep (Finset.range 62) (Φ false) ∗ bigSep (Finset.range 62) (Φ true)) := by
  rw [BI.bigSep_univ_prod, bigSep_bool']
  show iprop(bigSep Finset.univ (fun i : Fin 62 => Φ false i.val) ∗ bigSep Finset.univ (fun i : Fin 62 => Φ true i.val)) = _
  rw [bs_fin, bs_fin]

theorem toks_eq : bigSep toks (fun x => (dutyTok ER x.1 x.2.1 x.2.2 : sProp 𝕄)) = bigSep Finset.univ (fun c : Dev nD =>
    iprop((tS (F := F) c false ∗ tS (F := F) c true) ∗ (tR (F := F) c false ∗ tR (F := F) c true) ∗ (tA (F := F) c false ∗ tA (F := F) c true)
      ∗ (tT (F := F) c false ∗ tT (F := F) c true) ∗ tB (F := F) c false ∗ tB (F := F) c true)) := by
  unfold toks
  rw [BI.bigSep_map, BI.bigSep_univ_prod]
  refine BI.bigSep_congr fun c _ => ?_
  rw [BI.bigSep_univ_sum, BI.bigSep_univ_sum, BI.bigSep_univ_sum, BI.bigSep_univ_sum, bigSep_bool', bigSep_bool']
  exact congr (congrArg _ (two_sum (fun d u n => dutyTok ER (sC c d (bit n) u) (n / 2) 0))) (congr (congrArg _ (two_sum (fun d u n => dutyTok ER (rC c d (bit n) u) (n / 2) 0)))
    (congr (congrArg _ (one_sum (fun d n => dutyTok ER (aC c d) 0 n))) rfl))

theorem reN (d : Bool) (Φ : Dev nD → sProp 𝕄) : bigSep Finset.univ Φ = bigSep Finset.univ (fun c => Φ (nxt d c)) := BI.bigSep_univ_equiv (nxtE d) Φ
theorem reP (d : Bool) (Φ : Dev nD → sProp 𝕄) : bigSep Finset.univ Φ = bigSep Finset.univ (fun c => Φ (prv d c)) := BI.bigSep_univ_equiv (prvE d) Φ

/-- The tokens each device uses. -/
def tokMine : sProp 𝕄 :=
  iprop((tS (F := F) c false ∗ tS (F := F) c true) ∗ (tR (F := F) (nxt false c) false ∗ tR (F := F) (nxt true c) true) ∗ (tA (F := F) (prv false c) false ∗ tA (F := F) (prv true c) true)
      ∗ (tT (F := F) c false ∗ tT (F := F) c true) ∗ tB (F := F) (nxt true c) false ∗ tB (F := F) (nxt false c) true)
theorem toks_mine : bigSep toks (fun x => (dutyTok ER x.1 x.2.1 x.2.2 : sProp 𝕄)) = bigSep Finset.univ (tokMine (F := F)) := by
  rw [toks_eq]
  unfold tokMine
  simp only [bigSep_sep']
  rw [reN false (fun c => tR (F := F) c false), reN true (fun c => tR (F := F) c true), reP false (fun c => tA (F := F) c false), reP true (fun c => tA (F := F) c true),
    reN true (fun c => tB (F := F) c false), reN false (fun c => tB (F := F) c true)]

/-! ## The slots -/

def wM (p : Dev nD) (d : Bool) : sProp 𝕄 := bigSep (Finset.range 32) (fun n => writeTok ES (p, d, bit n) (n / 2 + 1))
theorem wr_eq : bigSep ((Finset.univ : Finset RKey) ×ˢ Finset.range 16) (fun x => (writeTok ES x.1 (x.2 + 1) : sProp 𝕄))
    = bigSep Finset.univ (fun c : Dev nD => iprop(wM (F := F) c false ∗ wM (F := F) c true)) := by
  have hb (p : Dev nD) (d : Bool) : iprop(bigSep (Finset.range 16) (fun w => (writeTok ES (p, d, false) (w + 1) : sProp 𝕄)) ∗ bigSep (Finset.range 16) (fun w => writeTok ES (p, d, true) (w + 1)))
      = wM (F := F) p d := by
    unfold wM
    rw [show 32 = 2 * 16 from rfl, bs_double, ← bigSep_sep']
    refine BI.bigSep_congr fun w _ => ?_
    have e1 : bit (2 * w) = false := by unfold bit; exact decide_eq_false (by omega)
    have e2 : bit (2 * w + 1) = true := by unfold bit; exact decide_eq_true (by omega)
    rw [e1, e2, show 2 * w / 2 = w by omega, show (2 * w + 1) / 2 = w by omega]
  rw [bigSep_product, BI.bigSep_univ_prod]
  refine BI.bigSep_congr fun c _ => ?_
  rw [BI.bigSep_univ_prod, bigSep_bool', bigSep_bool', bigSep_bool', hb, hb]
def rdM (d : Bool) : sProp 𝕄 := iprop(readerAt ES (c, d, false) 0 ∗ readerAt ES (c, d, true) 0)
theorem rd_eq : bigSep (Finset.univ : Finset RKey) (fun k => (readerAt ES k 0 : sProp 𝕄)) = bigSep Finset.univ (fun c : Dev nD => iprop(rdM (F := F) c false ∗ rdM (F := F) c true)) := by
  rw [BI.bigSep_univ_prod]
  refine BI.bigSep_congr fun c _ => ?_
  rw [BI.bigSep_univ_prod, bigSep_bool', bigSep_bool', bigSep_bool']
  rfl
theorem wr_mine : bigSep ((Finset.univ : Finset RKey) ×ˢ Finset.range 16) (fun x => (writeTok ES x.1 (x.2 + 1) : sProp 𝕄))
    = bigSep Finset.univ (fun c : Dev nD => iprop(wM (F := F) (nxt false c) false ∗ wM (F := F) (nxt true c) true)) := by
  rw [wr_eq, bigSep_sep', bigSep_sep', reN false (fun c => wM (F := F) c false), reN true (fun c => wM (F := F) c true)]

/-! ## A device's share -/

theorem tokB_sum (d : Bool) : iprop(tS (F := F) c d ∗ tR (F := F) (nxt d c) d) ⊢ bigSep (Finset.range 62) (tokB (F := F) c d) := by
  unfold tS tR
  rw [← bigSep_sep']
  refine BI.bigSep_mono fun n _ => ?_
  have h : iprop((dutyTok ER (sC c d (bit n) false) (n / 2) 0 ∗ dutyTok ER (sC c d (bit n) true) (n / 2) 0)
      ∗ (dutyTok ER (rC (nxt d c) d (bit n) false) (n / 2) 0 ∗ dutyTok ER (rC (nxt d c) d (bit n) true) (n / 2) 0)) ⊢ tokB (F := F) c d n := by
    unfold tokB tokS
    iintro ⟨⟨H1, H2⟩, H3, H4⟩
    isplitl [H1 H3]
    · isplitl [H1]; · iexact H1
      iexact H3
    isplitl [H2]; · iexact H2
    iexact H4
  exact h
theorem wrT_sum (d : Bool) : wM (F := F) (nxt d c) d ⊢ bigSep (Finset.range 31) (wrT (F := F) c d) := by
  unfold wM
  rw [bs_last 31]
  iintro ⟨H, -⟩
  iexact H

/-- What the launch deals a device. -/
def dealt : sProp 𝕄 :=
  iprop(tokMine (F := F) c ∗ (wM (F := F) (nxt false c) false ∗ wM (F := F) (nxt true c) true) ∗ (rdM (F := F) c false ∗ rdM (F := F) c true)
    ∗ Pipeline.launchCred OI c ∗ atPos ER (bC c) 0 ∅ 0 ∗ reached ER (bC (nxt false c)) 0 ∗ reached ER (bC (nxt true c)) 0)

theorem dealt_tk : dealt (F := F) c ⊢ tk (F := F) c := by
  unfold dealt tokMine rdM tk
  iintro ⟨⟨⟨S0, S1⟩, ⟨R0, R1⟩, ⟨A0, A1⟩, ⟨T0, T1⟩, B0, B1⟩, ⟨W0, W1⟩, ⟨⟨D0, D1⟩, D2, D3⟩, C, P, E0, E1⟩
  ihave C := launch_cred c $$ C
  icases C with ⟨C0, C1, Cb⟩
  ihave Q0 := tokB_sum c false $$ [S0 R0]
  · isplitl [S0]; · iexact S0
    iexact R0
  ihave Q1 := tokB_sum c true $$ [S1 R1]
  · isplitl [S1]; · iexact S1
    iexact R1
  ihave W0 := wrT_sum c false $$ W0
  ihave W1 := wrT_sum c true $$ W1
  isplitl [Q0 C0 A0 W0 E0 B1 T0 D0 D1]
  · iapply (deal_dir c false)
    isplitl [Q0]; · iexact Q0
    isplitl [C0]; · iexact C0
    isplitl [A0]; · unfold tA; iexact A0
    isplitl [W0]; · iexact W0
    isplitl [E0]; · iexact E0
    isplitl [B1]; · unfold tB; iexact B1
    isplitl [T0]; · unfold tT; iexact T0
    isplitl [D0]; · iexact D0
    iexact D1
  isplitl [Q1 C1 A1 W1 E1 B0 T1 D2 D3]
  · iapply (deal_dir c true)
    isplitl [Q1]; · iexact Q1
    isplitl [C1]; · iexact C1
    isplitl [A1]; · unfold tA; iexact A1
    isplitl [W1]; · iexact W1
    isplitl [E1]; · iexact E1
    isplitl [B0]; · unfold tB; iexact B0
    isplitl [T1]; · unfold tT; iexact T1
    isplitl [D2]; · iexact D2
    iexact D3
  isplitl [P]; · iexact P
  iexact Cb
end
end Cert.KernelIdeal.AR
-- ==== Proof.Host.lean ====
/- What the host code hands each device: its place on the ring and its two neighbours. -/
module

public import proofs.«01_k».proof.Proof.Geo
public import proofs.«01_k».proof.Proof.Gen.KernelIdeal.Regions

@[expose] public section

noncomputable section

namespace Cert.KernelIdeal.AR

open Cert.KernelIdeal Cert.KernelIdeal.Gen
open Idealize.ShloMosaic Idealize.ShloMosaic.TcCoe
open Idealize.ShloMosaic.StableHlo (after)

variable {F : FTy → Type} [FloatOps F]

/-- The row of a table an index names. -/
def rowOf (t : (S32.Idx → BitVec 32)) (i : (S_.Idx → BitVec 32)) : (S_.Idx → BitVec 32) :=
  shapeCast S_ (Host.dynamicSlice S1 t (fun _ => (i (Shape.Idx.first h_S_)).toInt) sliceFits_S32_S1) shapeCasts_S1_S_

/-- The index, wrapped into range. -/
def wrap (i : (S_.Idx → BitVec 32)) : (S_.Idx → BitVec 32) :=
  select (cmpi .slt i (constantI S_ 32 0#32)) (addi i (constantI S_ 32 32#32)) i

/-- The device's index. -/
def devIx (c : Dev nD) : (S_.Idx → BitVec 32) :=
  Host.remui (Host.divui (constantI S_ 32 (Dev.word c)) (constantI S_ 32 1#32)) (constantI S_ 32 32#32)

/-- The remainder, of the divisor's sign. -/
def remF (a n : (S_.Idx → BitVec 32)) : (S_.Idx → BitVec 32) :=
  let n' := select (cmpi .eq n (constantI S_ 32 0#32)) (constantI S_ 32 1#32) n
  let r := Host.remsi a n'
  select (andi (cmpi .ne (cmpi .slt r (constantI S_ 32 0#32)) (cmpi .slt n' (constantI S_ 32 0#32))) (cmpi .ne r (constantI S_ 32 0#32))) (addi r n') r

section
variable (V : Valuation τ sig (Elt F))

theorem s0_i (c : Dev nD) : after ((hostOps0 c).take 13) V main_v7 = wrap (devIx c) := by
  simp only [List.take]
  after_results
  rfl
theorem s0_t (c : Dev nD) : after (hostOps0 c) V main_c_0 = (fun i => lit1 (S32.rowMajor i)) := by
  after_results
  rfl
theorem s0_n (c : Dev nD) : after (hostOps0 c) V main_c_6 = constantI S_ 32 32#32 := by
  after_results
theorem s0_r (c : Dev nD) : after (hostOps0 c) V main_v9 = rowOf (fun i => lit0 (S32.rowMajor i)) (wrap (devIx c)) := by
  after_results
  refine congrArg (fun z => fun i => shapeCast S_ (Host.dynamicSlice S1 _ z sliceFits_S32_S1) shapeCasts_S1_S_ i) (funext fun k => ?_)
  obtain rfl : k = 0 := Subsingleton.elim _ _
  exact congrArg (fun z : S_.Idx → BitVec 32 => (z (Shape.Idx.first h_S_)).toInt) (s0_i V c)
theorem s0_a' (c : Dev nD) : after (hostOps0 c) V main_v10 = subi (after (hostOps0 c) V main_v9) (constantI S_ 32 1#32) := by
  after_results
theorem s0_a (c : Dev nD) : after (hostOps0 c) V main_v10 = subi (rowOf (fun i => lit0 (S32.rowMajor i)) (wrap (devIx c))) (constantI S_ 32 1#32) := by
  rw [s0_a', s0_r]
theorem s1 : after hostOps0_1 V main_v11 = remF (V main_v10) (V main_c_6) := by
  after_results
  simp only [StableHlo.TRef.ofBuf_toBuf, id]
  unfold remF
  rfl
theorem s2_i : after ((hostOps0_2 (F := F)).take 5) V main_v14 = wrap (V main_v11) := by
  simp only [List.take]
  after_results
  rfl
theorem s2_v : after hostOps0_2 V main_v16 = rowOf (V main_c_0) (wrap (V main_v11)) := by
  after_results
  refine congrArg (fun z => fun i => shapeCast S_ (Host.dynamicSlice S1 _ z sliceFits_S32_S1) shapeCasts_S1_S_ i) (funext fun k => ?_)
  obtain rfl : k = 0 := Subsingleton.elim _ _
  exact congrArg (fun z : S_.Idx → BitVec 32 => (z (Shape.Idx.first h_S_)).toInt) (s2_i V)
theorem s2_a : after hostOps0_2 V main_v17 = addi (V main_v9) (constantI S_ 32 1#32) := by
  after_results
theorem s2_n : after hostOps0_2 V main_c_10 = constantI S_ 32 32#32 := by
  after_results
theorem s3 : after hostOps0_3 V main_v18 = remF (V main_v17) (V main_c_10) := by
  after_results
  simp only [StableHlo.TRef.ofBuf_toBuf, id]
  unfold remF
  rfl
theorem s4_i : after ((hostOps0_4 (F := F)).take 5) V main_v21 = wrap (V main_v18) := by
  simp only [List.take]
  after_results
  rfl
theorem s4_v : after ((hostOps0_4 (F := F)).take 7) V main_v23 = rowOf (V main_c_0) (wrap (V main_v18)) := by
  simp only [List.take]
  after_results
  refine congrArg (fun z => fun i => shapeCast S_ (Host.dynamicSlice S1 _ z sliceFits_S32_S1) shapeCasts_S1_S_ i) (funext fun k => ?_)
  obtain rfl : k = 0 := Subsingleton.elim _ _
  exact congrArg (fun z : S_.Idx → BitVec 32 => (z (Shape.Idx.first h_S_)).toInt) (s4_i V)
theorem s4' : after hostOps0_4 V main_v27 = after ((hostOps0_4 (F := F)).drop 7) (after ((hostOps0_4 (F := F)).take 7) V) main_v27 := rfl
theorem s4_9 : after ((hostOps0_4 (F := F)).take 7) V main_v9 = V main_v9 := by
  simp only [List.take]
  after_results
theorem s4_16 : after ((hostOps0_4 (F := F)).take 7) V main_v16 = V main_v16 := by
  simp only [List.take]
  after_results
theorem s4_c : after ((hostOps0_4 (F := F)).drop 7) V main_v27
    = concatenate S3 0 [⟨S1, broadcastInDim S1 ![] bcast_S_S1 (V main_v9)⟩, ⟨S1, broadcastInDim S1 ![] bcast_S_S1 (V main_v16)⟩,
        ⟨S1, broadcastInDim S1 ![] bcast_S_S1 (V main_v23)⟩] concatenates_S1_S1_S1_S3_d0 := by
  simp only [List.drop]
  after_results
  rfl
theorem s4 : after hostOps0_4 V main_v27
    = concatenate S3 0 [⟨S1, broadcastInDim S1 ![] bcast_S_S1 (V main_v9)⟩, ⟨S1, broadcastInDim S1 ![] bcast_S_S1 (V main_v16)⟩,
        ⟨S1, broadcastInDim S1 ![] bcast_S_S1 (rowOf (V main_c_0) (wrap (V main_v18)))⟩] concatenates_S1_S1_S1_S3_d0 := by
  rw [s4', s4_c, s4_9, s4_16, s4_v]
end

variable (m : (ℓ : Loc nD τ sig) → Buf (Elt F) ℓ)

/-- The three scalars. -/
def scl (c : Dev nD) : S3.Idx → BitVec 32 :=
  let p := rowOf (fun i => lit0 (S32.rowMajor i)) (wrap (devIx c))
  concatenate S3 0 [⟨S1, broadcastInDim S1 ![] bcast_S_S1 p⟩,
    ⟨S1, broadcastInDim S1 ![] bcast_S_S1 (rowOf (fun i => lit1 (S32.rowMajor i)) (wrap (remF (subi p (constantI S_ 32 1#32)) (constantI S_ 32 32#32))))⟩,
    ⟨S1, broadcastInDim S1 ![] bcast_S_S1 (rowOf (fun i => lit1 (S32.rowMajor i)) (wrap (remF (addi p (constantI S_ 32 1#32)) (constantI S_ 32 32#32))))⟩]
    concatenates_S1_S1_S1_S3_d0

theorem v27 (c : Dev nD) : V5 m c main_v27 = scl c := by
  have e9 : V4 m c main_v9 = V1 m c main_v9 :=
    (V4_of m c main_v9 (by decide)).trans ((V3_of m c main_v9 (by decide)).trans (V2_of m c main_v9 (by decide)))
  have e92 : V2 m c main_v9 = V1 m c main_v9 := V2_of m c main_v9 (by decide)
  have e16 : V4 m c main_v16 = V3 m c main_v16 := V4_of m c main_v16 (by decide)
  have ec : V4 m c main_c_0 = V1 m c main_c_0 :=
    (V4_of m c main_c_0 (by decide)).trans ((V3_of m c main_c_0 (by decide)).trans (V2_of m c main_c_0 (by decide)))
  have ec2 : V2 m c main_c_0 = V1 m c main_c_0 := V2_of m c main_c_0 (by decide)
  refine (s4 (V4 m c)).trans ?_
  rw [e9, e16, ec]
  rw [show V3 m c main_v16 = rowOf (V2 m c main_c_0) (wrap (V2 m c main_v11)) from s2_v _,
    show V4 m c main_v18 = remF (V3 m c main_v17) (V3 m c main_c_10) from s3 _,
    show V3 m c main_v17 = addi (V2 m c main_v9) (constantI S_ 32 1#32) from s2_a _,
    show V3 m c main_c_10 = constantI S_ 32 32#32 from s2_n _, ec2, e92,
    show V2 m c main_v11 = remF (V1 m c main_v10) (V1 m c main_c_6) from s1 _,
    show V1 m c main_c_0 = (fun i => lit1 (S32.rowMajor i)) from s0_t _ _,
    show V1 m c main_c_6 = constantI S_ 32 32#32 from s0_n _ _,
    show V1 m c main_v10 = _ from s0_a _ _, show V1 m c main_v9 = _ from s0_r _ _]
  rfl

/-- The index of the `k`-th scalar. -/
def ix3 (k : Fin 3) : S3.Idx := fun a => ⟨k.val, by revert a; revert k; decide⟩
theorem scl_0 (c : Dev nD) : scl c (ix3 0) = pw c := by revert c; decide +kernel
theorem scl_1 (c : Dev nD) : scl c (ix3 1) = lw c := by revert c; decide +kernel
theorem scl_2 (c : Dev nD) : scl c (ix3 2) = rw' c := by revert c; decide +kernel

end Cert.KernelIdeal.AR
-- ==== Proof.Start.lean ====
/- The body from the scalars it reads to the zero counters it leaves. -/
module

public import proofs.«01_k».proof.Proof.Enter
public import proofs.«01_k».proof.Proof.Host

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

section
variable (X : XT F) (Wt : WT F) (K : GSem nD τ sig → ℕ) (Kι : RKey → ℕ) (c : Dev nD)
variable (a1 : Memref sig .tc .vmem S8192x256 .f32) (a2 : Memref sig .tc .vmem S256x4096 .f32)

/-- The staged scalars. -/
abbrev a0 : Memref sig .tc .smem S3 .i32 := Memref.whole cc0_stg0_0

theorem read_k (k : Fin 3) (inb : ∀ a, (![k.val] : Fin 1 → ℕ) a + S1.size a ≤ S3.size a) :
    (a0.access (Rect.unit (s := S3) ![k.val] S1.size inb)).read (Elt F) (scl c) (Shape.Idx.first (numel1_S1.symm ▸ Nat.one_pos)) = scl c (ix3 k) := by
  refine congrArg (scl c) (funext fun (a : Fin 1) => Fin.ext ?_)
  obtain rfl : a = 0 := Subsingleton.elim _ _
  rfl

theorem wp_scl0 (f : Buf (Elt F) ((c : Thread nD τ).loc cc0_stg0_0)) (r : Rect S3) (hw : (a0.access r).Loads) (x : r.shape.Idx)
    (p : Elt F .i32 → PK F) (Kt : PUnit.{1} → sProp 𝕄) :
    ((c : Thread nD τ).loc cc0_stg0_0 ↦{fullShare} f)
      ⊢ iprop((((c : Thread nD τ).loc cc0_stg0_0 ↦{fullShare} f) -∗ wpc c (p ((a0.access r).read (Elt F) f x)) Kt)
        -∗ wpc c (smemLoadElt a0 r hw x p) Kt) :=
  wp_smemLoadElt 𝒱₀ (c : Thread nD τ) none Set.univ (m := a0) (r := r) (hw := hw) (x := x) (k := p) (f := f) (S := Finset.univ) (q := fullShare) (Finset.subset_univ _)

theorem wp_scl (k : Fin 3) (inb : ∀ a, (![k.val] : Fin 1 → ℕ) a + S1.size a ≤ S3.size a) (hw : (a0.access (Rect.unit (s := S3) ![k.val] S1.size inb)).Loads)
    (p : Elt F .i32 → PK F) (Kt : PUnit.{1} → sProp 𝕄) :
    ((c : Thread nD τ).loc cc0_stg0_0 ↦{fullShare} (scl c))
      ⊢ iprop((((c : Thread nD τ).loc cc0_stg0_0 ↦{fullShare} (scl c)) -∗ wpc c (p (scl c (ix3 k))) Kt)
        -∗ wpc c (smemLoadElt a0 (Rect.unit (s := S3) ![k.val] S1.size inb) hw (Shape.Idx.first (numel1_S1.symm ▸ Nat.one_pos)) p) Kt) := by
  have h := wp_scl0 c (scl c) (Rect.unit (s := S3) ![k.val] S1.size inb) hw (Shape.Idx.first (numel1_S1.symm ▸ Nat.one_pos)) p Kt
  have e : p ((a0.access (Rect.unit (s := S3) ![k.val] S1.size inb)).read (Elt F) (scl c) (Shape.Idx.first (numel1_S1.symm ▸ Nat.one_pos))) = p (scl c (ix3 k)) :=
    congrArg p (read_k c k inb)
  rw [e] at h
  exact h

/-- What the body starts from, the scalars read. -/
def bIn : sProp 𝕄 := iprop(env X Wt K Kι ∗ own c a1 fullShare (X c) ∗ own c a2 fullShare (Wt c) ∗ ats (F := F) c ∗ tk (F := F) c ∗ scratch (F := F) c
  ∗ (∃ f, (outL c) ↦{fullShare} f) ∗ owe (F := F) c (OI c))
/-- What it leaves. -/
def bOut : sProp 𝕄 := iprop(own c a1 fullShare (X c) ∗ own c a2 fullShare (Wt c)
  ∗ (((outL c) ↦{fullShare} (res X Wt c)) ∗ scratch (F := F) c ∗ bigSep Finset.univ (fun i : Fin 20 => semVal (oC (c, i)) 0) ∗ semVal (bC c) 0) ∗ owe (F := F) c 0)

theorem wp_mid' (v0 : Elt F .i32) (hw3 : k0_chk3 v0) (v1 : Elt F .i32) (hw1 : k0_chk1 v1) (v2 : Elt F .i32) (hw2 : k0_chk2 v2)
    (hg : Geo c v0) (hR : rgt v2 hw2 = nxt false c) (hL : lft v1 hw1 = nxt true c) (Kt : PUnit.{1} → sProp 𝕄) :
    bIn X Wt K Kι c a1 a2 ⊢ iprop((bOut X Wt c a1 a2 -∗ Kt ⟨⟩) -∗ wpc c (pro a1 a2 v0 hw3 v1 hw1 v2 hw2 (rest a1 a2 v0 hw3 v1 hw1 v2 hw2)) Kt) := by
  have hf : wpc c (pro a1 a2 v0 hw3 v1 hw1 v2 hw2 (rest a1 a2 v0 hw3 v1 hw1 v2 hw2)) (fun a => iprop(|={Set.univ}=> Kt a))
      ⊢ wpc c (pro a1 a2 v0 hw3 v1 hw1 v2 hw2 (rest a1 a2 v0 hw3 v1 hw1 v2 hw2)) Kt := wp_fupd _ _ _ _ _
  have hu : iprop(|={Set.univ}=> wpc c (pro a1 a2 v0 hw3 v1 hw1 v2 hw2 (rest a1 a2 v0 hw3 v1 hw1 v2 hw2)) (fun a => iprop(|={Set.univ}=> Kt a)))
      ⊢ wpc c (pro a1 a2 v0 hw3 v1 hw1 v2 hw2 (rest a1 a2 v0 hw3 v1 hw1 v2 hw2)) (fun a => iprop(|={Set.univ}=> Kt a)) := fupd_wp _ _ _ _ _
  unfold bIn
  iintro ⟨#HE, Hx, Hw, Ha, Ht, Hs, Ho, HO⟩ Hk
  iapply hf
  iapply hu
  imod start_all X Wt K Kι c $$ [Ha Ht Hs Ho] with HA
  · isplitr; · iexact HE
    iframe Ha Ht Hs
    iexact Ho
  imodintro
  unfold startAll
  icases HA with ⟨H1, H2, H3, H4, H5, H6, H7, H8, H9⟩
  iapply (wp_body X Wt K Kι c a1 a2 v0 hw3 v1 hw1 v2 hw2 (fun a => iprop(|={Set.univ}=> Kt a)) hg hR hL) $$ [Hx Hw HO H1 H2 H3 H4 H5 H6 H7 H8 H9]
  · isplitr; · iexact HE
    iframe Hx Hw H1 H2 H3 H4 H5 H6 H7 H8 H9
    iexact HO
  iintro ⟨Hx, Hw, E0, E1, T0, T1, Hb, HO⟩
  imod end_all X Wt K Kι c $$ [E0 E1 T0 T1 Hb] with HA
  · isplitr; · iexact HE
    iframe E0 E1 T0 T1
    iexact Hb
  imodintro
  iapply Hk
  unfold bOut
  isplitl [Hx]; · iexact Hx
  isplitl [Hw]; · iexact Hw
  isplitl [HA]; · iexact HA
  iexact HO

theorem wp_start (Kt : PUnit.{1} → sProp 𝕄) :
    iprop(((c : Thread nD τ).loc cc0_stg0_0 ↦{fullShare} (scl c)) ∗ bIn X Wt K Kι c a1 a2)
      ⊢ iprop(((((c : Thread nD τ).loc cc0_stg0_0 ↦{fullShare} (scl c)) ∗ bOut X Wt c a1 a2) -∗ Kt ⟨⟩) -∗ wpc c (start a1 a2 a0 (rest a1 a2)) Kt) := by
  unfold start
  iintro ⟨Hs, HB⟩ Hk
  iapply (wp_scl c 0 inb_S3_S1_0) $$ Hs; iintro Hs
  rw [scl_0]
  iapply (wp_assume 𝒱₀ (c : Thread nD τ) none Set.univ (chk3 c))
  iapply (wp_scl c 1 inb_S3_S1_1) $$ Hs; iintro Hs
  rw [scl_1]
  iapply (wp_assume 𝒱₀ (c : Thread nD τ) none Set.univ (chk1 c))
  iapply (wp_scl c 2 inb_S3_S1_2) $$ Hs; iintro Hs
  rw [scl_2]
  iapply (wp_assume 𝒱₀ (c : Thread nD τ) none Set.univ (chk2 c))
  iapply (wp_mid' X Wt K Kι c a1 a2 (pw c) (chk3 c) (lw c) (chk1 c) (rw' c) (chk2 c) (geo c) (rgt_eq c) (lft_eq c) Kt) $$ HB
  iintro HB
  iapply Hk
  isplitl [Hs]; · iexact Hs
  iexact HB
end
end Cert.KernelIdeal.AR
-- ==== Proof.Deck.lean ====
/- The kernel as one talking region of the launch. -/
module

public import proofs.«01_k».proof.Proof.Deal
public import proofs.«01_k».proof.Proof.Start
public import proofs.«01_k».proof.Proof.Gen.KernelIdeal.Points
public import Idealize.ShloMosaic.Lib.Pipeline.RegionTalk

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

open Idealize.ShloMosaic.Pipeline (Dat Cfg Window BodyObligation)

section
variable (m : (ℓ : Loc nD τ sig) → Buf (Elt F) ℓ) (c : Dev nD)

/-- The arguments' shards. -/
def xOf : XT F := fun c => m ((c : Thread nD τ).loc main_arg0)
def wOf : WT F := fun c => m ((c : Thread nD τ).loc main_arg1)

theorem V5_arg0 : V5 m c main_arg0 = xOf m c :=
  (V5_of m c main_arg0 (by decide)).trans <| (V4_of m c main_arg0 (by decide)).trans <| (V3_of m c main_arg0 (by decide)).trans <| (V2_of m c main_arg0 (by decide)).trans <| (V1_of m c main_arg0 (by decide)).trans rfl
theorem V5_arg1 : V5 m c main_arg1 = wOf m c :=
  (V5_of m c main_arg1 (by decide)).trans <| (V4_of m c main_arg1 (by decide)).trans <| (V3_of m c main_arg1 (by decide)).trans <| (V2_of m c main_arg1 (by decide)).trans <| (V1_of m c main_arg1 (by decide)).trans rfl

/-- What the launch keeps for the kernel; what its opening makes of it; what it leaves. -/
def Tk0 : sProp 𝕄 := iprop(∃ K : GSem nD τ sig → ℕ, ∃ Kι : RKey → ℕ, env (xOf m) (wOf m) K Kι ∗ tk (F := F) c ∗ bigSep Finset.univ (fun i : Fin 20 => openTok ER (oC (c, i))))
def Xk0 : sProp 𝕄 := iprop(∃ K : GSem nD τ sig → ℕ, ∃ Kι : RKey → ℕ, env (xOf m) (wOf m) K Kι ∗ tk (F := F) c ∗ ats (F := F) c)
def Yk0 : sProp 𝕄 := semVal (bC c) 0
/-- The body's invariant, before and after. -/
def Φ0 : sProp 𝕄 := iprop(Xk0 m c ∗ scratch (F := F) c ∗ (∃ f, (outL c) ↦{fullShare} f) ∗ ∃ r, prngReg c r)
def Φ1 : sProp 𝕄 := iprop(((outL c) ↦{fullShare} (res (xOf m) (wOf m) c)) ∗ scratch (F := F) c ∗ bigSep Finset.univ (fun i : Fin 20 => semVal (oC (c, i)) 0) ∗ semVal (bC c) 0 ∗ ∃ r, prngReg c r)

def dat0 : Dat τ (Elt F) ℕ ℕ UU ℕ cfg0 c where
  A w := match w with
    | ⟨0, _⟩ => scl c
    | ⟨1, _⟩ => xOf m c
    | ⟨2, _⟩ => wOf m c
  after w _ := match w with
    | ⟨0, _⟩ => scl c
    | ⟨1, _⟩ => xOf m c
    | ⟨2, _⟩ => wOf m c
  Φ t := if t.val = 0 then Φ0 m c else Φ1 m c
  q _ := fullShare
  owed t := if t.val = 0 then OI c else 0

def pdats : (p : Fin 1) → (c : Dev nD) → Dat τ (Elt F) ℕ ℕ UU ℕ (cfgs p) c := fun _ c => dat0 m c

theorem owed_zero : (dat0 m c).owed t0_0.castSucc = OI c := by
  show (if (t0_0.castSucc : Fin (cfg0.N + 1)).val = 0 then OI c else 0) = OI c; exact if_pos rfl
theorem owed_last : (dat0 m c).owed (Fin.last _) = 0 := by
  show (if (Fin.last cfg0.N).val = 0 then OI c else 0) = 0
  rw [Fin.val_last, if_neg (by rw [show cfg0.N = 1 from N_0]; decide)]
theorem Φ_zero : (dat0 m c).Φ t0_0.castSucc = Φ0 m c := by
  show (if (t0_0.castSucc : Fin (cfg0.N + 1)).val = 0 then Φ0 m c else Φ1 m c) = _; exact if_pos rfl
theorem Φ_last : (dat0 m c).Φ (Fin.last _) = Φ1 m c := by
  show (if (Fin.last cfg0.N).val = 0 then Φ0 m c else Φ1 m c) = _
  rw [Fin.val_last, if_neg (by rw [show cfg0.N = 1 from N_0]; decide)]

theorem owesAt_intro (dat : Dat τ (Elt F) ℕ ℕ UU ℕ cfg0 c) (t : Fin (cfg0.N + 1)) (O : CellTallies nD τ sig ℕ) (h0 : dat.owed t = O) (hr : dat.recorded t = Set.univ) :
    owe (F := F) c O ⊢ (dat.owesAt 0 t : sProp 𝕄) := by
  unfold owe Dat.owesAt Pipeline.owesWithin Dat.bound; rw [h0, hr]
  iintro ⟨%W, HO⟩; iexists W; isplitr; · ipureintro; exact fun _ _ => Or.inl trivial
  iexact HO
theorem owesAt_elim (dat : Dat τ (Elt F) ℕ ℕ UU ℕ cfg0 c) (t : Fin (cfg0.N + 1)) (O : CellTallies nD τ sig ℕ) (h0 : dat.owed t = O) :
    (dat.owesAt 0 t : sProp 𝕄) ⊢ owe (F := F) c O := by
  unfold owe Dat.owesAt Pipeline.owesWithin; rw [h0]
  iintro ⟨%W, -, HO⟩; iexists W; iexact HO

/-! ## What the windows stage -/

theorem read_scl (f : Buf (Elt F) ((c : Thread nD τ).loc main_v27)) : (win0_0.blk t0_0).view.read (Elt F) f = f :=
  Memref.read_access_unit_zero (Elt F) main_v27
    (show (fun a => (win0_0.index t0_0) a * main_v27.ty.shape.size a) = fun _ => 0 from funext fun a => by fin_cases a <;> decide) (fun a => by fin_cases a <;> decide) f
theorem read_x (f : Buf (Elt F) ((c : Thread nD τ).loc main_arg0)) : (win0_1.blk t0_0).view.read (Elt F) f = f :=
  Memref.read_access_unit_zero (Elt F) main_arg0
    (show (fun a => (win0_1.index t0_0) a * main_arg0.ty.shape.size a) = fun _ => 0 from funext fun a => by fin_cases a <;> decide) (fun a => by fin_cases a <;> decide) f
theorem read_w (f : Buf (Elt F) ((c : Thread nD τ).loc main_arg1)) : (win0_2.blk t0_0).view.read (Elt F) f = f :=
  Memref.read_access_unit_zero (Elt F) main_arg1
    (show (fun a => (win0_2.index t0_0) a * main_arg1.ty.shape.size a) = fun _ => 0 from funext fun a => by fin_cases a <;> decide) (fun a => by fin_cases a <;> decide) f

theorem before0 (d : (cfg0.win (0 : Fin 3)).block.Idx → Elt F (cfg0.win (0 : Fin 3)).elt) : (dat0 m c).before (0 : Fin 3) t0_0 d = scl c := by
  have h : (dat0 m c).before (0 : Fin 3) t0_0 d = (win0_0.blk t0_0).view.read (Elt F) (scl c) := by
    unfold Dat.before; rw [if_pos (fetch0_0 t0_0)]; rfl
  exact h.trans (read_scl c _)
theorem before1 (d : (cfg0.win (1 : Fin 3)).block.Idx → Elt F (cfg0.win (1 : Fin 3)).elt) : (dat0 m c).before (1 : Fin 3) t0_0 d = xOf m c := by
  have h : (dat0 m c).before (1 : Fin 3) t0_0 d = (win0_1.blk t0_0).view.read (Elt F) (xOf m c) := by
    unfold Dat.before; rw [if_pos (fetch0_1 t0_0)]; rfl
  exact h.trans (read_x c _)
theorem before2 (d : (cfg0.win (2 : Fin 3)).block.Idx → Elt F (cfg0.win (2 : Fin 3)).elt) : (dat0 m c).before (2 : Fin 3) t0_0 d = wOf m c := by
  have h : (dat0 m c).before (2 : Fin 3) t0_0 d = (win0_2.blk t0_0).view.read (Elt F) (wOf m c) := by
    unfold Dat.before; rw [if_pos (fetch0_2 t0_0)]; rfl
  exact h.trans (read_w c _)

theorem owns_whole (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem own_x (X : S8192x256.Idx → Elt F .f32) : own c (Memref.whole cc0_stg1_0) fullShare X = ((((c : Thread nD τ).loc cc0_stg1_0) ↦{fullShare} X : sProp 𝕄)) := by
  unfold own
  simp only [Memref.view_whole, View.read_whole, View.set_whole]
  refine BI.Entails.antisymm (show _ ⊢ (_ : sProp 𝕄) from ?_) (show _ ⊢ (_ : sProp 𝕄) from ?_)
  · iintro ⟨%f, H, %h⟩; subst h; iexact H
  · iintro H; iexists X; isplitl [H]; · iexact H
    ipureintro; rfl
theorem own_w (X : S256x4096.Idx → Elt F .f32) : own c (Memref.whole cc0_stg2_0) fullShare X = ((((c : Thread nD τ).loc cc0_stg2_0) ↦{fullShare} X : sProp 𝕄)) := by
  unfold own
  simp only [Memref.view_whole, View.read_whole, View.set_whole]
  refine BI.Entails.antisymm (show _ ⊢ (_ : sProp 𝕄) from ?_) (show _ ⊢ (_ : sProp 𝕄) from ?_)
  · iintro ⟨%f, H, %h⟩; subst h; iexact H
  · iintro H; iexists X; isplitl [H]; · iexact H
    ipureintro; rfl

def bodyPre : sProp 𝕄 :=
  iprop((dat0 m c).Φ t0_0.castSucc ∗ (dat0 m c).owesAt 0 t0_0.castSucc
    ∗ (∃ d, stg c cc0_stg0_0 ((dat0 m c).before (0 : Fin 3) t0_0 d))
    ∗ (∃ d, stg c cc0_stg1_0 ((dat0 m c).before (1 : Fin 3) t0_0 d))
    ∗ (∃ d, stg c cc0_stg2_0 ((dat0 m c).before (2 : Fin 3) t0_0 d)))
def bodyPost : sProp 𝕄 :=
  iprop((dat0 m c).Φ (Fin.last _) ∗ (dat0 m c).owesAt 0 (Fin.last _) ∗ stg c cc0_stg0_0 (scl c) ∗ stg c cc0_stg1_0 (xOf m c) ∗ stg c cc0_stg2_0 (wOf m c))

theorem body_wp : bodyPre m c ⊢ wpc c (start (Memref.whole cc0_stg1_0) (Memref.whole cc0_stg2_0) a0 (rest (Memref.whole cc0_stg1_0) (Memref.whole cc0_stg2_0))) (fun _ => bodyPost m c) := by
  unfold bodyPre bodyPost
  rw [Φ_zero, Φ_last]
  unfold Φ0 Φ1 Xk0
  iintro ⟨⟨⟨%K, %Kι, HE, Ht, Ha⟩, Hs, Ho, Hp⟩, HO, ⟨%d0, %f0, %h0, H0⟩, ⟨%d1, %f1, %h1, H1⟩, ⟨%d2, %f2, %h2, H2⟩⟩
  have h0 : f0 = scl c := h0.trans (before0 m c d0)
  have h1 : f1 = xOf m c := h1.trans (before1 m c d1)
  have h2 : f2 = wOf m c := h2.trans (before2 m c d2)
  subst h0 h1 h2
  ihave HO := owesAt_elim c (dat0 m c) t0_0.castSucc (OI c) (owed_zero m c) $$ HO
  ihave H1 := (Entails.of_eq (own_x c (xOf m c)).symm) $$ H1
  ihave H2 := (Entails.of_eq (own_w c (wOf m c)).symm) $$ H2
  iapply (wp_start (xOf m) (wOf m) K Kι c (Memref.whole cc0_stg1_0) (Memref.whole cc0_stg2_0)) $$ [HE Ht Ha Hs Ho HO H0 H1 H2]
  · isplitl [H0]; · iexact H0
    unfold bIn
    isplitl [HE]; · iexact HE
    isplitl [H1]; · iexact H1
    isplitl [H2]; · iexact H2
    isplitl [Ha]; · iexact Ha
    isplitl [Ht]; · iexact Ht
    isplitl [Hs]; · iexact Hs
    isplitl [Ho]; · iexact Ho
    iexact HO
  unfold bOut
  iintro ⟨H0, H1, H2, ⟨Ho, Hs, Hm, Hb⟩, HO⟩
  ihave H1 := (Entails.of_eq (own_x c (xOf m c))) $$ H1
  ihave H2 := (Entails.of_eq (own_w c (wOf m c))) $$ H2
  isplitl [Ho Hs Hm Hb Hp]
  · isplitl [Ho]; · iexact Ho
    isplitl [Hs]; · iexact Hs
    isplitl [Hm]; · iexact Hm
    isplitl [Hb]; · iexact Hb
    iexact Hp
  isplitl [HO]
  · iapply (owesAt_intro c (dat0 m c) (Fin.last _) 0 (owed_last m c) rfl); iexact HO
  isplitl [H0]
  · iexists _; isplitr; · (ipureintro; rfl)
    iexact H0
  isplitl [H1]
  · iexists _; isplitr; · (ipureintro; rfl)
    iexact H1
  iexists _; isplitr; · (ipureintro; rfl)
  iexact H2

theorem last_succ : t0_0.succ = Fin.last cfg0.N := Fin.ext (by rw [Fin.val_last, show cfg0.N = 1 from N_0]; rfl)

theorem body_obligation : BodyObligation (dat0 m c) defs₀ 𝒱₀ 0 Set.univ := fun t => by
  rw [fin_N0 t]
  rw [bigSep_W0, bigSep_W0]
  simp only [owns_whole]
  rw [last_succ]
  show bodyPre m c ⊢ wpc c (bodyAt0 t0_0) (fun _ => bodyPost m c)
  have e : bodyAt0 (F := F) t0_0 = start (Memref.whole cc0_stg1_0) (Memref.whole cc0_stg2_0) a0 (rest (Memref.whole cc0_stg1_0) (Memref.whole cc0_stg2_0)) := body_eq ..
  rw [e]
  exact body_wp m c
end
end Cert.KernelIdeal.AR
-- ==== Proof.Region.lean ====
/- The kernel's region record: what it is entered from, and what it leaves. -/
module

public import proofs.«01_k».proof.Proof.Deck

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

open Idealize.ShloMosaic.Pipeline (Dat Cfg Window BodyObligation)

section
variable (m : (ℓ : Loc nD τ sig) → Buf (Elt F) ℓ) (c : Dev nD)

/-- The result the region writes; every other buffer as the launch left it. -/
def outs : Outs (F := F) := fun _ r c =>
  if h : r = main_v28 then h ▸ (res (xOf m) (wOf m) c : Buf (Elt F) ((c : Thread nD τ).loc main_v28)) else m ((c : Thread nD τ).loc r)

theorem outs_res : outs m 6 main_v28 c = res (xOf m) (wOf m) c := by
  unfold outs; rw [dif_pos rfl]

theorem ownSems_eq : (Pipeline.ownSems0 osem c : sProp 𝕄) = bigSep Finset.univ (fun i : Fin 20 => semVal (oC (c, i)) 0) := rfl

theorem hopen0 : iprop(Tk0 m c ∗ Pipeline.ownSems0 osem c ∗ levAts L lv) ⊢ (|={Set.univ}=> Xk0 m c : sProp 𝕄) := by
  rw [ownSems_eq]; unfold Tk0 Xk0
  iintro ⟨⟨%K, %Kι, #HE, Ht, Ho⟩, Hs, -⟩
  imod (open_all (xOf m) (wOf m) K Kι c) $$ [Ho Hs] with Ha
  · isplitr; · iexact HE
    rw [bigSep_sep']
    isplitl [Ho]; · iexact Ho
    iexact Hs
  imodintro
  iexists K; iexists Kι
  isplitr; · iexact HE
  isplitl [Ht]; · iexact Ht
  iexact Ha

/-- The buffers the program holds beside the windows' arrays; of these the body addresses its result itself. -/
def Hs : Finset (DevRef τ sig) := {Proc.devRef .tc main_v28}
def Sr : Finset (DevRef τ sig) := Pipeline.ucRefs τ sig \ Pipeline.arrRefs (τ := τ) spec0

theorem Hs_sub : Hs ⊆ Sr := by decide
theorem arr_sub : Pipeline.arrRefs (τ := τ) spec0 ⊆ Pipeline.ucRefs τ sig := by decide

theorem held_Hs (W : Valuation τ sig (Elt F)) : (StableHlo.held (c.tc : Thread nD τ) Hs W : sProp 𝕄) = (((outL c) ↦{fullShare} (W (Proc.devRef .tc main_v28)))) := by
  unfold StableHlo.held Hs
  rw [BI.bigSep_singleton]

theorem hin0 : iprop(Pipeline.scopedRest (Pipeline.pin (pcfgs (F := F)) adm 0).spec c ∗ (∃ r, prngReg c r) ∗ StableHlo.held (c.tc : Thread nD τ) Hs (V5 m c) ∗ Xk0 m c)
    ⊢ (pdats m 0 c).Φ 0 := by
  rw [show (pdats m 0 c).Φ 0 = Φ0 m c from Φ_zero m c, held_Hs]
  unfold Φ0 scratch
  iintro ⟨Hs, Hp, Ho, HX⟩
  isplitl [HX]; · iexact HX
  isplitl [Hs]; · iapply (Entails.of_eq (scopedRest0_eq c)); iexact Hs
  isplitl [Ho]; · iexists _; iexact Ho
  iexact Hp

theorem hout0 : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V6 m (outs m) c)
      ∗ Pipeline.ownSems0 osem c ∗ Yk0 (F := F) c) := by
  rw [show (pdats m 0 c).Φ (Fin.last _) = Φ1 m c from Φ_last m c, held_Hs, ownSems_eq,
    show V6 m (outs m) c (Proc.devRef .tc main_v28) = res (xOf m) (wOf m) c from (Function.update_self ..).trans (outs_res m c)]
  unfold Φ1 Yk0 scratch
  iintro ⟨Ho, Hs, Hm, Hb, Hp⟩
  isplitl [Hs]; · iapply (Entails.of_eq (scopedRest0_eq c).symm); iexact Hs
  isplitl [Hp]; · iexact Hp
  isplitl [Ho]; · iexact Ho
  isplitl [Hm]; · iexact Hm
  iexact Hb

theorem OI_above : Above (OI c) 0 := by
  unfold OI
  have hb (c' : Dev nD) : Above (tallyAt (bC c') 0 1) 0 := Above.at (by omega) (by rw [knd_bar]; decide)
  exact ((((((OS_above c 0 (by omega)).mono (by omega)).add (oS_above c true true (by omega) (by omega))).add (oS_above c false true (by omega) (by omega))).add
    (oS_above c true false (by omega) (by omega))).add (oS_above c false false (by omega) (by omega))).add (hb _) |>.add (hb _)

theorem cutD (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then OI c else 0 := rfl
  rw [e] at h
  split at h
  · exact OI_above c g i h
  · exact absurd h (Nat.lt_irrefl 0)

theorem stage_L (w : Fin 3) (s : Fin ((Pipeline.pin (pcfgs (F := F)) adm 0).win w).nbuf) :
    (0 : ℕ) ∈ L ((c : Thread nD τ), .dma (((Pipeline.pin (pcfgs (F := F)) adm 0).win w).sem s)) := by
  unfold L; rw [if_pos rfl]; decide
theorem stage_knd : ∀ (w : Fin 3) (s : Fin (spec0 w).nbuf), kLv 0 (knd (.dma ((spec0 w).sem s))) ≤ 0 := by decide

theorem share_full (w : Fin 3) : (dat0 m c).share w = fullShare := by unfold Dat.share; split <;> rfl

theorem arr_in (w : Fin 3) (n : ℕ) : (dat0 m c).arrAt w n = (dat0 m c).A w := by
  fin_cases w
  · exact (dat0 m c).arrAt_in (0 : Fin 3) rfl _
  · exact (dat0 m c).arrAt_in (1 : Fin 3) rfl _
  · exact (dat0 m c).arrAt_in (2 : Fin 3) rfl _

theorem arr_V5 (w : Fin 3) : (dat0 m c).A w = V5 m c (Proc.devRef .tc (Pipeline.arrRef (Pipeline.pin (pcfgs (F := F)) adm 0).spec w)) := by
  fin_cases w
  · exact (v27 m c).symm
  · exact (V5_arg0 m c).symm
  · exact (V5_arg1 m c).symm

theorem arr_V6 (w : Fin 3) : (dat0 m c).A w = V6 m (outs m) c (Proc.devRef .tc (Pipeline.arrRef (Pipeline.pin (pcfgs (F := F)) adm 0).spec w)) := by
  fin_cases w
  · exact ((V6_of m (outs m) c main_v27 (by decide)).trans (v27 m c)).symm
  · exact ((V6_of m (outs m) c main_arg0 (by decide)).trans (V5_arg0 m c)).symm
  · exact ((V6_of m (outs m) c main_arg1 (by decide)).trans (V5_arg1 m c)).symm

theorem rest_V (b : DevRef τ sig) (hb : b ∈ Sr \ Hs) : V6 m (outs m) c b = V5 m c b := by
  refine Function.update_of_ne ?_ _ _
  rintro rfl
  exact (Finset.mem_sdiff.mp hb).2 (Finset.mem_singleton_self _)
end

variable (m : (ℓ : Loc nD τ sig) → Buf (Elt F) ℓ)

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    Hs Sr Hs_sub launch0.toP rfl (fun c => (body_obligation m c).loose)
    (fun _ => 0) OI (fun c => (owed_zero m c).trans (zero_add _).symm) (fun c => owed_last m c) (fun _ => rfl) (fun c w => share_full m c w)
    (V5 m) (V6 m (outs m)) (fun c b hb => rest_V m c b hb)
    (Tk0 m) (Yk0 (F := F)) (Xk0 m) (Yk0 (F := F)) (hopen0 m) (hin0 m) (hout0 m)
    (fun c => by iintro H; imodintro; iexact H)
    (fun _ => 0)
    ⟨fun c w s => stage_L c w s, fun _ w s => stage_knd w s, fun c t g i h => cutD m c t g i h⟩
    (fun _ => iprop(emp))
    (fun c w => (arr_in m c w 0).trans (arr_V5 m c w)) (fun c w => (arr_in m c w _).trans (arr_V6 m c w))

/-- What rides beside the held buffers, before the region and after it. -/
def E0 (c : Dev nD) : sProp 𝕄 := iprop((∃ r, prngReg c r) ∗ Tk0 m c ∗ ∃ W, owes (c : Thread nD τ) (OI c) W)
def E1 (c : Dev nD) : sProp 𝕄 := iprop(semVal (bC c) 0 ∗ ∃ W, owes (c : Thread nD τ) (0 : CellTallies nD τ sig ℕ) W)

theorem reg0_pre (c : Dev nD) : iprop(StableHlo.held (c : Thread nD τ) (Pipeline.ucRefs τ sig) (V5 m c) ∗ E0 m c) ⊢ (reg0 m).pre c := by
  show _ ⊢ iprop(StableHlo.held (c.tc : Thread nD τ) (Pipeline.arrRefs (τ := τ) spec0) (V5 m c) ∗ (∃ r, prngReg c r)
    ∗ (StableHlo.held (c.tc : Thread nD τ) Sr (V5 m c) ∗ emp) ∗ Tk0 m c ∗ ∃ Wd, owes (c : Thread nD τ) (0 + OI c) Wd)
  rw [zero_add, StableHlo.held_sub_split (c.tc : Thread nD τ) arr_sub (V5 m c)]
  unfold E0 Sr
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) (Pipeline.ucRefs τ sig) (V6 m (outs m) c) ∗ E1 (F := F) c) := by
  show iprop(StableHlo.held (c.tc : Thread nD τ) (Pipeline.arrRefs (τ := τ) spec0) (V6 m (outs m) c) ∗ (∃ r, prngReg c r)
    ∗ (StableHlo.held (c.tc : Thread nD τ) Sr (V6 m (outs m) c) ∗ emp) ∗ Yk0 (F := F) c ∗ ∃ Wd, owes (c : Thread nD τ) (0 : CellTallies nD τ sig ℕ) Wd) ⊢ _
  rw [StableHlo.held_sub_split (c.tc : Thread nD τ) arr_sub (V6 m (outs m) c)]
  unfold E1 Sr Yk0
  iintro ⟨Ha, -, ⟨Hr, -⟩, Hb, HO⟩
  isplitl [Ha Hr]
  · isplitl [Ha]; · iexact Ha
    iexact Hr
  isplitl [Hb]; · iexact Hb
  iexact HO

end Cert.KernelIdeal.AR
-- ==== Proof.Launch.lean ====
/- The launch: the cells and the slots are funded, everything is dealt, and the program runs to its end. -/
module

public import proofs.«01_k».proof.Proof.Region
public import Idealize.ShloMosaic.Lib.Quiescent

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

variable {F : FTy → Type} [FloatOps F]

local notation "𝕄" => MT nD τ sig ℕ (Elt F) ℕ UU ℕ

/-! ## The launch element -/

def u₀ : UU :=
  (initOf (Pipeline.cells cfgs cellOf_inj) (Pipeline.launchToks cfgs cellOf_inj), (launchOf barCells ownCells toks, Release.initSlots (Finset.univ : Finset RKey) 16))

/-- A resource parked on one device. -/
def onDev (c₀ : Dev nD) (R : sProp 𝕄) (c : Dev nD) : sProp 𝕄 := if c = c₀ then R else iprop(emp)
theorem bigSep_onDev (c₀ : Dev nD) (R : sProp 𝕄) : bigSep Finset.univ (onDev c₀ R) = R := by
  rw [bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp BI.sep_emp

def Fund : sProp 𝕄 := iprop(BI.own (ER (launchOf barCells ownCells toks)) ∗ BI.own (ES (Release.initSlots (Finset.univ : Finset RKey) 16)))
def G : Dev nD → sProp 𝕄 := onDev 0 (Fund (F := F))

theorem u₀_split : (ownU u₀ : sProp 𝕄) ⊢ |={Set.univ}=> iprop(BI.own (EP (initOf (Pipeline.cells cfgs cellOf_inj) (Pipeline.launchToks cfgs cellOf_inj))) ∗ bigSep Finset.univ (G (F := F))) := by
  unfold u₀ G Fund
  rw [bigSep_onDev]
  iintro Hu
  ihave H := (ownU_pair _ _) $$ Hu
  icases H with ⟨HP, HX⟩
  ihave H := (own_pair_emb embR _ _) $$ HX
  icases H with ⟨HR, HS⟩
  imodintro
  isplitl [HP]; · iexact HP
  isplitl [HR]; · iexact HR
  iexact HS

theorem disjoint_cells : Disjoint barCells ownCells := by
  rw [Finset.disjoint_left]
  rintro g h₁ h₂
  obtain ⟨c, -, rfl⟩ := Finset.mem_map.mp h₁
  obtain ⟨ck, -, h⟩ := Finset.mem_map.mp h₂
  exact (show ∀ k, osem k ≠ .reg bS by decide) ck.2 (congrArg Prod.snd h)

theorem unscoped_eq : ∀ sm : SemLoc sig, sm.isScoped .tc = false → sm = .reg bS := by decide
theorem unscopedSems_eq (c : Dev nD) : (unscopedSems0 c : sProp 𝕄) = semVal (bC c) 0 := by
  unfold unscopedSems0
  rw [show (Finset.univ.filter fun sm : SemLoc sig => ¬ sm.isScoped .tc) = {SemLoc.reg bS} from by decide, BI.bigSep_singleton]

section
variable (m : (ℓ : Loc nD τ sig) → Buf (Elt F) ℓ) (ρ : Dev nD → PrngReg)

/-! ## Every device's share -/

/-- What every device may consult, under the names the funding chose. -/
def know (K : GSem nD τ sig → ℕ) (Kι : RKey → ℕ) : sProp 𝕄 := iprop(env (xOf m) (wOf m) K Kι ∗ bigSep barCells (fun g => reached ER g 0))
instance know_persistent (K : GSem nD τ sig → ℕ) (Kι : RKey → ℕ) : BI.Persistent (know m K Kι) := by unfold know; infer_instance

theorem reached_at (c : Dev nD) : bigSep barCells (fun g => (reached ER g 0 : sProp 𝕄)) ⊢ reached ER (bC c) 0 :=
  BI.bigSep_elim (Finset.mem_map_of_mem bCe (Finset.mem_univ c))

/-- A device's own share. -/
def mine (c : Dev nD) : sProp 𝕄 :=
  iprop((tokMine (F := F) c ∗ (wM (F := F) (nxt false c) false ∗ wM (F := F) (nxt true c) true) ∗ (rdM (F := F) c false ∗ rdM (F := F) c true) ∗ atPos ER (bC c) 0 ∅ 0
      ∗ bigSep Finset.univ (fun i : Fin 20 => openTok ER (oC (c, i))))
    ∗ owes (c : Thread nD τ) (OI c) ∅ ∗ Pipeline.launchCred OI c ∗ prngReg c (ρ c))

theorem mine_E0 (K : GSem nD τ sig → ℕ) (Kι : RKey → ℕ) (c : Dev nD) : iprop(know m K Kι ∗ mine (F := F) ρ c) ⊢ E0 m c := by
  unfold know mine E0 Tk0
  iintro ⟨⟨#HE, #HR⟩, ⟨Ht, Hw, Hr, Ha, Ho⟩, HO, HC, Hp⟩
  isplitl [Hp]; · iexists _; iexact Hp
  isplitl [Ht Hw Hr Ha Ho HC]
  · iexists K; iexists Kι
    isplitr; · iexact HE
    isplitl [Ht Hw Hr Ha HC]
    · iapply (dealt_tk c)
      unfold dealt
      isplitl [Ht]; · iexact Ht
      isplitl [Hw]; · iexact Hw
      isplitl [Hr]; · iexact Hr
      isplitl [HC]; · iexact HC
      isplitl [Ha]; · iexact Ha
      isplitr; · iapply (reached_at (F := F) (nxt false c)); iexact HR
      iapply (reached_at (F := F) (nxt true c)); iexact HR
    iexact Ho
  iexists ∅; iexact HO

theorem sems_bar : bigSep Finset.univ (fun c : Dev nD => (unscopedSems0 c : sProp 𝕄)) ⊢ bigSep barCells (fun g => semVal g 0) := by
  simp only [unscopedSems_eq]
  exact Entails.of_eq (BI.bigSep_map (s := Finset.univ) bCe (Φ := fun g : GSem nD τ sig => (semVal g 0 : sProp 𝕄))).symm
theorem at_bar : bigSep barCells (fun g => (atPos ER g 0 ∅ 0 : sProp 𝕄)) ⊢ bigSep Finset.univ (fun c : Dev nD => atPos ER (bC c) 0 ∅ 0) :=
  Entails.of_eq (BI.bigSep_map (s := Finset.univ) bCe (Φ := fun g : GSem nD τ sig => (atPos ER g 0 ∅ 0 : sProp 𝕄)))
theorem open_own : bigSep ownCells (fun g => (openTok ER g : sProp 𝕄)) ⊢ bigSep Finset.univ (fun c : Dev nD => bigSep Finset.univ (fun i : Fin 20 => openTok ER (oC (c, i)))) :=
  Entails.of_eq (by unfold ownCells; rw [BI.bigSep_map, BI.bigSep_univ_prod])

theorem five (A B C D E : Dev nD → sProp 𝕄) :
    iprop(bigSep Finset.univ A ∗ bigSep Finset.univ B ∗ bigSep Finset.univ C ∗ bigSep Finset.univ D ∗ bigSep Finset.univ E)
      ⊢ bigSep Finset.univ (fun c => iprop(A c ∗ B c ∗ C c ∗ D c ∗ E c)) := by
  rw [bigSep_sep', bigSep_sep', bigSep_sep', bigSep_sep']
theorem five' (A B C D E : Dev nD → sProp 𝕄) :
    bigSep Finset.univ (fun c => iprop(A c ∗ B c ∗ C c ∗ D c ∗ E c))
      ⊢ iprop(bigSep Finset.univ A ∗ bigSep Finset.univ E ∗ bigSep Finset.univ (fun c => iprop(B c ∗ C c ∗ D c))) := by
  simp only [bigSep_sep']
  iintro ⟨A, B, C, D, E⟩
  iframe A B C D E
theorem two (A B : Dev nD → sProp 𝕄) : iprop(bigSep Finset.univ A ∗ bigSep Finset.univ B) ⊢ bigSep Finset.univ (fun c => iprop(A c ∗ B c)) := by
  rw [bigSep_sep']

theorem launch_all :
    iprop((bigSep Finset.univ fun c : Dev nD => iprop(unscopedSems0 c ∗ owes (c : Thread nD τ) (OI c) ∅ ∗ Pipeline.launchCred OI c ∗ prngReg c (ρ c) ∗ G (F := F) c)) ∗ levAts L lv)
      ⊢ (|={Set.univ}=> bigSep Finset.univ (E0 m) : sProp 𝕄) := by
  iintro ⟨H, #HL⟩
  ihave H := (five' _ _ _ _ _) $$ H
  icases H with ⟨Hv, HG, HB⟩
  ihave Hv := (sems_bar (F := F)) $$ Hv
  ihave Hu := (show bigSep Finset.univ (G (F := F)) ⊢ Fund (F := F) from Entails.of_eq (bigSep_onDev (F := F) 0 (Fund (F := F)))) $$ HG
  unfold Fund
  icases Hu with ⟨HR, HS⟩
  imod (Rounds.fund_launch ER (Rd (xOf m) (wOf m)) disjoint_cells (fun _ _ => id) toks) $$ [Hv HR] with ⟨%K, -, #Hinv, #Hr, Hat, Hopen, Htok⟩
  · isplitl [Hv]; · iexact Hv
    iexact HR
  imod (Release.slots_init ES (Finset.univ : Finset RKey) 16 (slotP (F := F))) $$ HS with ⟨%Kι, -, #Hsl, Hrd, Hwr⟩
  imodintro
  iapply (bigSep_with_persistent (R := know m K Kι) (Φ := fun c => mine (F := F) ρ c) fun c _ => mine_E0 m ρ K Kι c)
  isplitr
  · unfold know env levs
    isplitr
    · isplitr; · iexact Hinv
      isplitr; · iexact Hsl
      iexact HL
    iexact Hr
  unfold mine
  iapply (two _ _)
  isplitr [HB]
  · iapply (five _ _ _ _ _)
    isplitl [Htok]; · iapply (Entails.of_eq (toks_mine (F := F))); iexact Htok
    isplitl [Hwr]; · iapply (Entails.of_eq (wr_mine (F := F))); iexact Hwr
    isplitl [Hrd]; · iapply (Entails.of_eq (rd_eq (F := F))); iexact Hrd
    isplitl [Hat]; · iapply (at_bar (F := F)); iexact Hat
    iapply (open_own (F := F)); iexact Hopen
  iexact HB

/-! ## The run -/

/-- What rides beside the held buffers, by the number of regions run. -/
abbrev EE : Fin 2 → Dev nD → sProp 𝕄 := fun i => match i with | 0 => E0 m | 1 => E1 (F := F)

theorem L_off : ∀ g : GSem nD τ sig, g.1.2 ≠ .tc → L g = ∅ := fun g h => if_neg h

theorem launch_T :
    iprop((bigSep Finset.univ fun c : Dev nD => iprop(unscopedBufs c (fun b => m ((c.tc : Thread nD τ).loc b)) ∗ unscopedSems0 c
          ∗ owes (c.tc : Thread nD τ) (OI c) ∅ ∗ Pipeline.launchCred OI c ∗ prngReg c (ρ c) ∗ G (F := F) c)) ∗ levAts L lv)
      ⊢ (|={Set.univ}=> bigSep Finset.univ (fun c : Dev nD => iprop(StableHlo.held (c : Thread nD τ) (Pipeline.ucRefs τ sig) (V0 m c) ∗ E0 m c)) : sProp 𝕄) := by
  have hb (c : Dev nD) : (unscopedBufs c (fun b => m ((c.tc : Thread nD τ).loc b)) : sProp 𝕄) = StableHlo.held (c : Thread nD τ) (Pipeline.ucRefs τ sig) (V0 m c) :=
    Pipeline.unscopedBufs_held c (V0 m c)
  simp only [hb]
  refine (sep_mono_left (Entails.of_eq (bigSep_sep' _ _ _))).trans ?_
  rw [bigSep_sep' Finset.univ (fun c : Dev nD => (StableHlo.held (c : Thread nD τ) (Pipeline.ucRefs τ sig) (V0 m c) : sProp 𝕄)) (E0 m)]
  iintro ⟨⟨Hh, Hr⟩, HL⟩
  imod (launch_all m ρ) $$ [Hr HL] with HE
  · isplitl [Hr]; · iexact Hr
    iexact HL
  imodintro
  isplitl [Hh]; · iexact Hh
  iexact HE

theorem last_read (c : Dev nD) (s' : Phys nD τ sig (Elt F)) :
    iprop((StableHlo.held (c : Thread nD τ) (Pipeline.ucRefs τ sig) (V6 m (outs m) c) ∗ semVal (bC c) 0) ∗ SI s')
      ⊢ (|={Set.univ}=> iprop(⌜(s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_v28) = res (xOf m) (wOf m) c) ∧ s'.mem.sem (bC c) = 0⌝ ∗ SI s') : sProp 𝕄) := by
  iintro ⟨⟨Hh, Hb0⟩, HSI⟩
  icombine HSI Hb0 gives %hb
  unfold StableHlo.held
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V6_main_arg0 m (outs m) c),
      (h (Proc.devRef .tc main_arg1) (Finset.mem_filter.mpr ⟨StableHlo.devRef_mem_tcRefs main_arg1, by decide⟩)).trans (V6_main_arg1 m (outs m) c),
      (h (Proc.devRef .tc main_v28) (Finset.mem_filter.mpr ⟨StableHlo.devRef_mem_tcRefs main_v28, by decide⟩)).trans
        ((Function.update_self ..).trans (outs_res m c))⟩, by simpa using hb⟩
  iexact HSI

set_option backward.isDefEq.respectTransparency.types false in
/-- The run: it ends, the arguments are kept, every device holds its result, and every counter is zero. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v28) = res (xOf m) (wOf m) c) ∧ r.2.sem = fun _ => 0) := by
  refine Pipeline.θ_run_regions_kit_dev_sems (pcfgs (F := F)) adm (pdats m) 0 cellOf_inj EP defs₀ 𝒱₀ L lv m ρ main
    (segs m 𝒱₀ L lv (EE m) 0 (pdats m) (reg0 m))
    (fun c Q => by
      rewrite [main_chain c, Pipeline.Seg.run_eq_chain,
        show (segs m 𝒱₀ L lv (EE m) 0 (pdats m) (reg0 m) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) OI L_off (G (F := F)) u₀ (u₀_split (F := F))
    (T₀ := fun c => iprop(StableHlo.held (c : Thread nD τ) (Pipeline.ucRefs τ sig) (V0 m c) ∗ E0 m c))
    (Tₙ := fun c => iprop(StableHlo.held (c : Thread nD τ) (Pipeline.ucRefs τ sig) (V6 m (outs m) c) ∗ semVal (bC c) 0))
    (hch := fun c => ⟨.rfl, .rfl, .rfl, .rfl, .rfl, reg0_pre m c, (reg0_post m c).trans ?_⟩)
    (hinit := launch_T m ρ)
    (QY := fun c s => (s.mem ((c.tc : Thread nD τ).loc main_arg0) = m ((c.tc : Thread nD τ).loc main_arg0)
          ∧ s.mem ((c.tc : Thread nD τ).loc main_arg1) = m ((c.tc : Thread nD τ).loc main_arg1)
          ∧ s.mem ((c.tc : Thread nD τ).loc main_v28) = res (xOf m) (wOf m) c) ∧ s.sem (bC c) = 0)
    (hfin := fun c s' => last_read m c s')
    (hQ := fun s h hs => ⟨fun c => (h c).1, sem_eq_zero hs fun c sm hsm => by
        obtain rfl := unscoped_eq sm hsm
        exact (h c).2⟩)
  unfold E1
  iintro ⟨Hh, Hb, HO⟩
  isplitr [HO]
  · isplitl [Hh]; · iexact Hh
    iexact Hb
  iexact HO
end
end Cert.KernelIdeal.AR
-- ==== Proof.Value.lean ====
/- What the devices hold at the end, at the ideal values: the whole product. -/
module

public import proofs.«01_k».proof.Proof.Mem
public import Idealize.ShloMosaic.Lib.MatmulPlain
public import Idealize.ShloMosaic.Lib.Layout
public import Idealize.ShloMosaic.Lib.Pipeline.Value

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Rounds
open Idealize.ShloMosaic.SparseCore (bigSep_erase' bigSep_insert' bigSep_sdiff_split' bigSep_union' bigSep_product)
open Release (USlots released readerAt writeTok slotInv)

open Idealize.ShloMosaic.ValueIdx

section
variable (X : XT Ideal) (Wt : WT Ideal)

/-- Once around the ring meets every device. -/
theorem around_inj : ∀ (d : Bool) (c : Dev nD) (s t : Fin 32), (prv d)^[s.val] c = (prv d)^[t.val] c → s = t := by decide +kernel
theorem around {M : Type} [AddCommMonoid M] (d : Bool) (c : Dev nD) (f : Dev nD → M) :
    ∑ t ∈ Finset.range 32, f ((prv d)^[t] c) = ∑ c' : Dev nD, f c' := by
  rw [Finset.sum_range]
  have hi : Function.Injective (fun t : Fin 32 => (prv d)^[t.val] c) := fun s t h => around_inj d c s t h
  exact Fintype.sum_bijective (fun t : Fin 32 => (prv d)^[t.val] c) ((Fintype.bijective_iff_injective_and_card _).mpr ⟨hi, rfl⟩) _ _ fun _ => rfl

/-- A device's own product at an element of a tile. -/
def pe (d u : Bool) (b : Fin 32) (j : S256x1024.Idx) (c : Dev nD) : EReal := hf u (part X Wt d c b) j

theorem sv_zero (d u : Bool) (c : Dev nD) (j : S256x1024.Idx) : (sv X Wt d u 0 c j : EReal) = pe X Wt d u (blk d c 0) j c := rfl
theorem add_apply (v : S256x1024.Idx → Elt Ideal .f32) (w : S256x1024.Idx → Elt Ideal .f32) (j : S256x1024.Idx) :
    (k0_pay1 (F := Ideal) (up3 v) w j : EReal) = (show EReal from v j) + (show EReal from w j) := by
  have e : shapeCast S256x1024 (up3 v) shapeCasts_S1x256x1024_S256x1024 = v := shapeCast_shapeCast v _ _
  rw [k0_pay1, shapeCast_self, e]; rfl
theorem sv_low (d u : Bool) (n : ℕ) (hn : n < 31) (c : Dev nD) (j : S256x1024.Idx) :
    (sv X Wt d u (n + 1) c j : EReal) = (show EReal from sv X Wt d u n (prv d c) j) + pe X Wt d u (blk d c (n + 1)) j c := by
  show (if n < 31 then k0_pay1 (F := Ideal) (up3 (sv X Wt d u n (prv d c))) (hf u (part X Wt d c (blk d c (n + 1)))) else sv X Wt d u n (prv d c)) j = _
  rw [if_pos hn]; exact add_apply _ _ j
theorem sv_high (d u : Bool) (n : ℕ) (hn : 31 ≤ n) (c : Dev nD) : sv X Wt d u (n + 1) c = sv X Wt d u n (prv d c) := by
  show (if n < 31 then _ else sv X Wt d u n (prv d c)) = _
  rw [if_neg (by omega)]

/-- On the first way round, the devices behind have added their products. -/
theorem sv_sum (d u : Bool) (j : S256x1024.Idx) : ∀ (n : ℕ) (_ : n ≤ 31) (c : Dev nD),
    (sv X Wt d u n c j : EReal) = ∑ t ∈ Finset.range (n + 1), pe X Wt d u (blk d c n) j ((prv d)^[t] c)
  | 0, _, c => by rw [sv_zero, Finset.sum_range_one]; rfl
  | n + 1, h, c => by
    rw [sv_low X Wt d u n (by omega) c j, Finset.sum_range_succ' _ (n + 1)]
    have e := sv_sum d u j n (by omega) (prv d c)
    rw [blk_prv] at e
    exact congrArg₂ (· + ·) e rfl
/-- From the last step of the first way round on: all of them. -/
theorem sv_all (d u : Bool) (j : S256x1024.Idx) (n : ℕ) (hn : 31 ≤ n) (c : Dev nD) :
    (sv X Wt d u n c j : EReal) = ∑ c' : Dev nD, pe X Wt d u (blk d c n) j c' := by
  induction n, hn using Nat.le_induction generalizing c with
  | base => rw [sv_sum X Wt d u j 31 le_rfl c]; exact around d c _
  | succ n hn ih => rw [sv_high X Wt d u n hn c, ih (prv d c), blk_prv]

theorem res_sum (c : Dev nD) (i : S8192x4096.Idx) :
    (show EReal from res X Wt c i) = ∑ c' : Dev nD, pe X Wt (tAt i).1 (tAt i).2.1 (tAt i).2.2 (tLoc i) c' := by
  show (sv X Wt (tAt i).1 (tAt i).2.1 (ixOf (tAt i).1 c (tAt i).2.2) c (tLoc i) : EReal) = _
  rw [sv_all X Wt _ _ _ _ (ixOf_ge _ _ _) c, blk_ixOf]

theorem part_apply (d : Bool) (c : Dev nD) (b : Fin 32) (p : Fin 256) (q : Fin 2048) :
    (show EReal from part X Wt d c b (ix2 p q)) = ∑ k : Fin 256, (show EReal from X c ((xR b).emb (ix2 p k))) * (show EReal from Wt c ((wR d).emb (ix2 k q))) := by
  show (show EReal from k0_pay18 (F := Ideal) (fun i => X c ((xR b).emb i)) (fun i => Wt c ((wR d).emb i)) (ix2 p q)) = _
  rw [k0_pay18, shapeCast_self, shapeCast_self, shapeCast_self]
  simp only [matmul]
  have e := Ideal.matmul_plain_apply (φ₁ := .f32) (φ₂ := .f32) (some .fp32) (fun i => X c ((xR b).emb i)) (fun i => Wt c ((wR d).emb i)) (constant S256x2048 .f32 0x00000000#32) p q
  refine e.trans ?_
  rw [show (constant S256x2048 .f32 0x00000000#32 : FVec Ideal S256x2048 .f32) (ix2 p q) = (0 : EReal) from Ideal.ofBits_zero_f32, zero_add]

theorem pe_apply (a : Fin 8192) (q : Fin 4096) (c : Dev nD) :
    pe X Wt (tAt (ix2 a q)).1 (tAt (ix2 a q)).2.1 (tAt (ix2 a q)).2.2 (tLoc (ix2 a q)) c
      = ∑ k : Fin 256, (show EReal from X c (ix2 a k)) * (show EReal from Wt c (ix2 k q)) := by
  have hq : (tLoc (ix2 a q) : S256x1024.Idx) = ix2 (⟨a.val % 256, by omega⟩ : Fin 256) (⟨q.val % 1024, by omega⟩ : Fin 1024) :=
    funext fun x => by fin_cases x <;> rfl
  have hh : (halfR (tAt (ix2 a q)).2.1).emb (tLoc (ix2 a q)) = (ix2 (⟨a.val % 256, by omega⟩ : Fin 256) (⟨q.val % 2048, by omega⟩ : Fin 2048) : S256x2048.Idx) := by
    rw [hq]
    funext x
    fin_cases x
    · exact Fin.ext (by show (0 : ℕ) + 1 * (a.val % 256) = a.val % 256; omega)
    · refine Fin.ext ?_
      show col (decide (1024 ≤ q.val % 2048)) + 1 * (q.val % 1024) = q.val % 2048
      by_cases h : 1024 ≤ q.val % 2048 <;> simp only [h, decide_true, decide_false, col] <;> simp <;> omega
  show (show EReal from part X Wt (tAt (ix2 a q)).1 c (tAt (ix2 a q)).2.2 ((halfR (tAt (ix2 a q)).2.1).emb (tLoc (ix2 a q)))) = _
  rw [hh, part_apply]
  refine Finset.sum_congr rfl fun k _ => congrArg₂ (· * ·) (congrArg (X c) ?_) (congrArg (Wt c) ?_)
  · funext x
    fin_cases x
    · exact Fin.ext (by show 256 * (a.val / 256) + 1 * (a.val % 256) = a.val; omega)
    · exact Fin.ext (by show (0 : ℕ) + 1 * k.val = k.val; omega)
  · funext x
    fin_cases x
    · exact Fin.ext (by show (0 : ℕ) + 1 * k.val = k.val; omega)
    · refine Fin.ext ?_
      show base (decide (2048 ≤ q.val)) + 1 * (q.val % 2048) = q.val
      have := q.isLt
      by_cases h : 2048 ≤ q.val <;> simp only [h, decide_true, decide_false, base] <;> simp <;> omega

theorem res_apply (c : Dev nD) (a : Fin 8192) (q : Fin 4096) :
    (show EReal from res X Wt c (ix2 a q)) = ∑ c' : Dev nD, ∑ k : Fin 256, (show EReal from X c' (ix2 a k)) * (show EReal from Wt c' (ix2 k q)) := by
  rw [res_sum]; exact Finset.sum_congr rfl fun c' _ => pe_apply X Wt a q c'

/-- The blocks' sums are one sum. -/
theorem sum_blocks (f : Fin 8192 → EReal) : ∑ c : Fin 32, ∑ k : Fin 256, f ⟨c.val * 256 + k.val, by omega⟩ = ∑ k : Fin 8192, f k := by
  rw [← Fintype.sum_prod_type' (fun (c : Fin 32) (k : Fin 256) => f ⟨c.val * 256 + k.val, by omega⟩)]
  refine Fintype.sum_equiv (finProdFinEquiv (m := 32) (n := 256)) _ _ fun x => congrArg f (Fin.ext ?_)
  show x.1.val * 256 + x.2.val = x.2.val + 256 * x.1.val; omega

theorem res_blocks (A : (⟨2, ![8192, 8192]⟩ : Shape).Idx → EReal) (B : (⟨2, ![8192, 4096]⟩ : Shape).Idx → EReal) (c : Dev nD) (a : Fin 8192) (q : Fin 4096)
    (hX : ∀ c, X c = Layout.block ⟨2, ![8192, 256]⟩ ⟨2, ![8192, 8192]⟩ 1 32 c A)
    (hW : ∀ c, Wt c = Layout.block ⟨2, ![256, 4096]⟩ ⟨2, ![8192, 4096]⟩ 0 32 c B) :
    (show EReal from res X Wt c (ix2 a q)) = ∑ k : Fin 8192, A (ix2 a k) * B (ix2 k q) := by
  rw [res_apply, ← sum_blocks]
  refine Finset.sum_congr rfl fun c' _ => Finset.sum_congr rfl fun k _ => ?_
  rw [hX c', hW c']
  refine congrArg₂ (· * ·) (congrArg A (funext fun x => ?_)) (congrArg B (funext fun x => ?_)) <;> fin_cases x <;> exact Fin.ext rfl
end
end Cert.KernelIdeal.AR
-- ==== Proof.Ref.lean ====
/- The reference's run: one matrix product on one device. -/
module
public import proofs.«01_k».proof.Defs
public import Idealize.ShloMosaic.Lib.StableHlo.Run
public import Idealize.ShloMosaic.Lib.MatmulPlain
public import Idealize.ShloMosaic.Lib.StackMember
public import proofs.«01_k».proof.Proof.Gen.ReferenceIdeal
public import Idealize.ShloMosaic.Lib.Quiescent
@[expose] public section
noncomputable section
namespace Cert.ReferenceIdeal.Ref
open Idealize.ShloMosaic Idealize.ShloMosaic.TcCoe Idealize.ShloMosaic.StableHlo Idealize.SL.Sem
open Cert.ReferenceIdeal Cert.ReferenceIdeal.Gen
variable {F : FTy → Type} [FloatOps F]

def prod (l : (⟨S8192x8192, .f32⟩ : BufTy).Contents (Elt F)) (r : (⟨S8192x4096, .f32⟩ : BufTy).Contents (Elt F)) : (⟨S8192x4096, .f32⟩ : BufTy).Contents (Elt F) :=
  Host.dotGeneral (F := F) (φ₁ := .f32) (φ₂ := .f32) dot_S8192x8192_S8192x4096_S8192x4096_1_0_0_1_n_n none l r

abbrev ops : List (HloOp τ sig (Elt F)) :=
  [ binary main_arg0 main_arg1 main_v0 prod ]

theorem main_eq (c : Dev nD) : main (F := F) c = seq ops := by
  simp only [main, seq]; rfl

theorem out_eq (V : Valuation τ sig (Elt F)) : after ops V (main_v0 : DevRef τ sig) = prod (V (main_arg0 : DevRef τ sig)) (V (main_arg1 : DevRef τ sig)) := by
  simp only [after_cons, after_nil]; rfl
theorem arg0_eq (V : Valuation τ sig (Elt F)) : after ops V (main_arg0 : DevRef τ sig) = V (main_arg0 : DevRef τ sig) := by
  simp only [after_cons, after_nil]; rfl
theorem arg1_eq (V : Valuation τ sig (Elt F)) : after ops V (main_arg1 : DevRef τ sig) = V (main_arg1 : DevRef τ sig) := by
  simp only [after_cons, after_nil]; rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := binary_bufs_sub ..

/-- The run: the product in the result, the arguments kept, no counter to speak of. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = prod (m ((c.tc : Thread nD τ).loc main_arg0)) (m ((c.tc : Thread nD τ).loc main_arg1))) ∧ r.2.sem = fun _ => 0 :=
  (θ_run defs _ _).mono (fun r h => ⟨fun c => ⟨(h c main_arg0).trans (arg0_eq _), (h c main_arg1).trans (arg1_eq _), (h c main_v0).trans (out_eq _)⟩,
      sem_eq_zero_of_no_sems (by decide) r.2⟩)
    (run_seq scopedRefs_eq scopedSems_eq defs main (fun _ => ops) main_eq (fun _ => ops_sub) m ρ)

open Idealize.ShloMosaic.ValueIdx in
/-- An element of the product, at the ideal values. -/
theorem prod_apply (l : (⟨S8192x8192, .f32⟩ : BufTy).Contents (Elt Ideal)) (r : (⟨S8192x4096, .f32⟩ : BufTy).Contents (Elt Ideal)) (a : Fin 8192) (b : Fin 4096) :
    prod l r (ix2 a b) = ∑ k : Fin 8192, (show EReal from l (ix2 a k)) * (show EReal from r (ix2 k b)) :=
  StackMember.dotGeneral_plain_apply (φ₁ := .f32) (φ₂ := .f32) none l r a b

end Cert.ReferenceIdeal.Ref
-- ==== Proof.Same.lean ====
/- The two kernel programs have one text: their tables of bodies and their host code are equal. -/
module
public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
@[expose] public section
noncomputable section
namespace Cert.Same
open Idealize.ShloMosaic Idealize.SL.Sem
variable {F : FTy → Type} [FloatOps F]

/-- The device's body. -/
theorem body_eq : Cert.Kernel.cc0_body (F := F) = Cert.KernelIdeal.cc0_body (F := F) := rfl

/-- The kernels' bodies. -/
theorem defs0_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) (funext fun l => funext fun a => ?_)
  match l, a with
  | 0, (t, s) =>
    show Cert.Kernel.cc0_body (F := F) _ _ _ _ _ _ _ _ _ _ _ _ _ _ _ _ _ _ _ _ _ _ _ _ _ _ _ = _
    rw [body_eq]

/-- All the bodies, the pipeline's among them. -/
theorem defs_eq : Cert.Kernel.defs (F := F) = Cert.KernelIdeal.defs (F := F) :=
  congrArg (fun d => Pipeline.defs (Cert.Kernel.pcfgs (F := F)) d) defs0_eq

/-! The host code, stretch by stretch. -/

theorem h0 (c : Dev Cert.Kernel.nD) : Cert.Kernel.Gen.hostOps0 (F := F) c = Cert.KernelIdeal.Gen.hostOps0 (F := F) c := rfl
theorem h1 : Cert.Kernel.Gen.hostOps0_1 (F := F) = Cert.KernelIdeal.Gen.hostOps0_1 (F := F) := rfl
theorem h2 : Cert.Kernel.Gen.hostOps0_2 (F := F) = Cert.KernelIdeal.Gen.hostOps0_2 (F := F) := rfl
theorem h3 : Cert.Kernel.Gen.hostOps0_3 (F := F) = Cert.KernelIdeal.Gen.hostOps0_3 (F := F) := rfl
theorem h4 : Cert.Kernel.Gen.hostOps0_4 (F := F) = Cert.KernelIdeal.Gen.hostOps0_4 (F := F) := rfl
/-- The host code. -/
theorem main_eq : Cert.Kernel.main (F := F) = Cert.KernelIdeal.main (F := F) := by
  funext c
  refine (Cert.Kernel.Gen.main_chain c).trans ?_
  rw [h0, h1, h2, h3, h4]
  exact (Cert.KernelIdeal.Gen.main_chain c).symm
end Cert.Same
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value
public import proofs.«01_k».proof.Proof.Ref
public import proofs.«01_k».proof.Proof.Same

@[expose] public section

noncomputable section

namespace Cert.Proof

open Idealize.ShloMosaic Idealize.ShloMosaic.TcCoe Idealize.SL.Sem Idealize.ShloMosaic.ValueIdx

/-- The kernel at the machine's floats: the two programs have the same text, so it is the one run. -/
theorem frame_kernel : Cert.quiescent_Kernel := fun m ρ _ => by
  rw [Cert.Same.defs_eq, Cert.Same.main_eq]
  exact (θ_run Cert.KernelIdeal.defs _ _).mono (fun _ h => ⟨fun c => ⟨(h.1 c).1, (h.1 c).2.1⟩, h.2⟩)
    (Cert.KernelIdeal.AR.run_main (F := Bits) m ρ)

/-- The kernel at the ideal values. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.AR.run_main (F := Ideal) m ρ)

/-- The reference. -/
theorem frame_reference : Cert.quiescent_ReferenceIdeal := fun m ρ _ =>
  (θ_run Cert.ReferenceIdeal.defs _ _).mono (fun _ h => ⟨fun c => ⟨(h.1 c).1, (h.1 c).2.1⟩, h.2⟩)
    (Cert.ReferenceIdeal.Ref.run_main (F := Ideal) m ρ)

/-- What every device ends with is the reference's product of the whole arrays. -/
theorem res_eq (X : Cert.KernelIdeal.AR.XT Ideal) (W : Cert.KernelIdeal.AR.WT Ideal)
    (A : (⟨2, ![8192, 8192]⟩ : Shape).Idx → Ideal .f32) (B : (⟨2, ![8192, 4096]⟩ : Shape).Idx → Ideal .f32) (c : Dev Cert.KernelIdeal.nD)
    (hX : ∀ c, X c = Layout.block ⟨2, ![8192, 256]⟩ ⟨2, ![8192, 8192]⟩ 1 32 c A)
    (hW : ∀ c, W c = Layout.block ⟨2, ![256, 4096]⟩ ⟨2, ![8192, 4096]⟩ 0 32 c B) :
    Cert.KernelIdeal.AR.res X W c = Cert.ReferenceIdeal.Ref.prod (F := Ideal) A B := by
  have h : ∀ (a : Fin 8192) (b : Fin 4096), Cert.KernelIdeal.AR.res X W c (ix2 a b) = Cert.ReferenceIdeal.Ref.prod (F := Ideal) A B (ix2 a b) := fun a b =>
    (Cert.KernelIdeal.AR.res_blocks X W A B c a b hX hW).trans (Cert.ReferenceIdeal.Ref.prod_apply A B a b).symm
  funext i
  have e : i = ix2 (i 0 : Fin 8192) (i 1 : Fin 4096) := funext fun x => by fin_cases x <;> rfl
  rw [e]; exact h _ _

/-- Every device's result is the reference's result. -/
theorem agree : Cert.algebraic_KernelIdeal_ReferenceIdeal := fun m g m' g' _ hb =>
  ⟨Cert.ReferenceIdeal.Ref.prod (F := Ideal) (m' ((0 : Dev Cert.ReferenceIdeal.nD).tc.loc Cert.ReferenceIdeal.main_arg0)) (m' ((0 : Dev Cert.ReferenceIdeal.nD).tc.loc Cert.ReferenceIdeal.main_arg1)),
   (θ_run Cert.KernelIdeal.defs _ _).mono
     (fun _ h c => ⟨(h.1 c).2.2.trans (res_eq _ _ _ _ c (fun c => (hb c).1) (fun c => (hb c).2)), (h.1 c).1, (h.1 c).2.1⟩)
     (Cert.KernelIdeal.AR.run_main (F := Ideal) m g),
   (θ_run Cert.ReferenceIdeal.defs _ _).mono
     (fun _ h => ⟨(h.1 0).2.2, (h.1 0).1, (h.1 0).2.1⟩)
     (Cert.ReferenceIdeal.Ref.run_main (F := Ideal) m' g')⟩

theorem claim : Cert.Claim :=
  ⟨Cert.Kernel.Gen.facts, Cert.KernelIdeal.Gen.facts, Cert.ReferenceIdeal.Gen.facts,
    frame_kernel, frame_ideal, frame_reference, trivial, agree⟩

end Cert.Proof
